-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![8192, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S8192x256 : Shape := ⟨2, ![8192, 256]⟩
abbrev S2x32 : Shape := ⟨2, ![2, 32]⟩
abbrev S6x32 : Shape := ⟨2, ![6, 32]⟩
abbrev S_ : Shape := ⟨0, ![]⟩
abbrev S1x1 : Shape := ⟨2, ![1, 1]⟩
abbrev S2048x256 : Shape := ⟨2, ![2048, 256]⟩
abbrev S2048x512 : Shape := ⟨2, ![2048, 512]⟩
abbrev S1792x256 : Shape := ⟨2, ![1792, 256]⟩
abbrev S7x256x256 : Shape := ⟨3, ![7, 256, 256]⟩
abbrev S8x256x256 : Shape := ⟨3, ![8, 256, 256]⟩

abbrev nBuf : Space → Nat
  | .hbm => 8
  | .vmem => 13
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S256x256, .f32⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S256x256, .f32⟩
  | .local _ .vmem, ⟨8, _⟩ => ⟨S8192x256, .bf16⟩
  | .local _ .vmem, ⟨9, _⟩ => ⟨S8192x256, .bf16⟩
  | .local _ .vmem, ⟨10, _⟩ => ⟨S8192x256, .bf16⟩
  | .local _ .vmem, ⟨11, _⟩ => ⟨S256x256, .bf16⟩
  | .local _ .vmem, ⟨12, _⟩ => ⟨S256x256, .f32⟩
  | _, _ => ⟨S256x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 264 → Bool
  | ⟨i, _⟩ => dmaSemScopedAt i

abbrev sig : RefSig :=
  (ofTc nBuf bufTy 1 264 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_dev1 (d0 : Dev nD) (k0_t1 : Fin k0_t1_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg15 : BitVec 32 := Scf.iv c1_i32_0 c1_i32_1 k0_t1
  let v328 : BitVec 32 := Scalar.addi v2 arg15
  let c32_i32_376 : BitVec 32 := 32#32
  let v329 : BitVec 32 := Scalar.remsi v328 c32_i32_376
  let c1_i32_378 : BitVec 32 := 1#32
  let v330 : BitVec 32 := Scalar.muli v329 c1_i32_378
  let v331 : BitVec 32 := Scalar.addi c0_i32 v330
  v331.toNat
@[reducible] def k0_t2_loop : Scf.Loop 32 :=
  let c1_i32_15 : BitVec 32 := 1#32
  let c31_i32_16 : BitVec 32 := 31#32
  let v18 : BitVec 32 := Scalar.addi c1_i32_15 c31_i32_16
  let c1_i32_17 : BitVec 32 := 1#32
  ⟨c1_i32_15, v18, c1_i32_17⟩
def k0_off1 (k0_t2 : Fin k0_t2_loop.trips) : Fin 2 → Nat :=
  let c0_i32_378 : BitVec 32 := 0#32
  let c1_i32_15 : BitVec 32 := 1#32
  let c1_i32_17 : BitVec 32 := 1#32
  let arg15 : BitVec 32 := Scf.iv c1_i32_15 c1_i32_17 k0_t2
  ![0, arg15.toNat]
def k0_off2 (k0_t2 : Fin k0_t2_loop.trips) : Fin 2 → Nat :=
  let c0_i32 : BitVec 32 := 0#32
  let c32_i32_377 : BitVec 32 := 32#32
  let c1_i32_15 : BitVec 32 := 1#32
  let c1_i32_17 : BitVec 32 := 1#32
  let arg15 : BitVec 32 := Scf.iv c1_i32_15 c1_i32_17 k0_t2
  let v330 : BitVec 32 := Scalar.subi c32_i32_377 arg15
  ![0, v330.toNat]
def k0_off3 (k0_t2 : Fin k0_t2_loop.trips) : Fin 2 → Nat :=
  let c32_i32_377 : BitVec 32 := 32#32
  let c1_i32_15 : BitVec 32 := 1#32
  let c1_i32_17 : BitVec 32 := 1#32
  let arg15 : BitVec 32 := Scf.iv c1_i32_15 c1_i32_17 k0_t2
  let v330 : BitVec 32 := Scalar.subi c32_i32_377 arg15
  let c256_i32 : BitVec 32 := 256#32
  let v331 : BitVec 32 := Scalar.muli v330 c256_i32
  let c0_i32_381 : BitVec 32 := 0#32
  ![v331.toNat, 0]
def k0_dev2 (d0 : Dev nD) (k0_t2 : Fin k0_t2_loop.trips) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_15 : BitVec 32 := 1#32
  let c1_i32_17 : BitVec 32 := 1#32
  let arg15 : BitVec 32 := Scf.iv c1_i32_15 c1_i32_17 k0_t2
  let v328 : BitVec 32 := Scalar.addi v2 arg15
  let c32_i32_376 : BitVec 32 := 32#32
  let v329 : BitVec 32 := Scalar.remsi v328 c32_i32_376
  let c1_i32_379 : BitVec 32 := 1#32
  let v332 : BitVec 32 := Scalar.muli v329 c1_i32_379
  let v333 : BitVec 32 := Scalar.addi c0_i32_380 v332
  v333.toNat
@[reducible] def k0_t3_loop : Scf.Loop 32 :=
  let c24_i32 : BitVec 32 := 24#32
  let c8_i32 : BitVec 32 := 8#32
  let v19 : BitVec 32 := Scalar.addi c24_i32 c8_i32
  let c1_i32_19 : BitVec 32 := 1#32
  ⟨c24_i32, v19, c1_i32_19⟩
def k0_off4 (k0_t3 : Fin k0_t3_loop.trips) : Fin 2 → Nat :=
  let c0_i32 : BitVec 32 := 0#32
  let c24_i32 : BitVec 32 := 24#32
  let c1_i32_19 : BitVec 32 := 1#32
  let arg15 : BitVec 32 := Scf.iv c24_i32 c1_i32_19 k0_t3
  ![0, arg15.toNat]
def k0_off5 (k0_t3 : Fin k0_t3_loop.trips) : Fin 2 → Nat :=
  let c24_i32 : BitVec 32 := 24#32
  let c1_i32_19 : BitVec 32 := 1#32
  let arg15 : BitVec 32 := Scf.iv c24_i32 c1_i32_19 k0_t3
  let c256_i32 : BitVec 32 := 256#32
  let v328 : BitVec 32 := Scalar.muli arg15 c256_i32
  let c0_i32_380 : BitVec 32 := 0#32
  ![v328.toNat, 0]
@[reducible] def k0_t4_loop : Scf.Loop 32 :=
  let c24_i32_26 : BitVec 32 := 24#32
  let c8_i32_27 : BitVec 32 := 8#32
  let v30 : BitVec 32 := Scalar.addi c24_i32_26 c8_i32_27
  let c1_i32_28 : BitVec 32 := 1#32
  ⟨c24_i32_26, v30, c1_i32_28⟩
def k0_off6 (k0_t4 : Fin k0_t4_loop.trips) : Fin 2 → Nat :=
  let c1_i32_380 : BitVec 32 := 1#32
  let c24_i32_26 : BitVec 32 := 24#32
  let c1_i32_28 : BitVec 32 := 1#32
  let arg15 : BitVec 32 := Scf.iv c24_i32_26 c1_i32_28 k0_t4
  ![1, arg15.toNat]
def k0_off7 (k0_t4 : Fin k0_t4_loop.trips) : Fin 2 → Nat :=
  let c1_i32_379 : BitVec 32 := 1#32
  let c32_i32_377 : BitVec 32 := 32#32
  let c24_i32_26 : BitVec 32 := 24#32
  let c1_i32_28 : BitVec 32 := 1#32
  let arg15 : BitVec 32 := Scf.iv c24_i32_26 c1_i32_28 k0_t4
  let v330 : BitVec 32 := Scalar.subi c32_i32_377 arg15
  ![1, v330.toNat]
def k0_off8 (k0_t4 : Fin k0_t4_loop.trips) : Fin 2 → Nat :=
  let c32_i32_377 : BitVec 32 := 32#32
  let c24_i32_26 : BitVec 32 := 24#32
  let c1_i32_28 : BitVec 32 := 1#32
  let arg15 : BitVec 32 := Scf.iv c24_i32_26 c1_i32_28 k0_t4
  let v330 : BitVec 32 := Scalar.subi c32_i32_377 arg15
  let c256_i32_378 : BitVec 32 := 256#32
  let v332 : BitVec 32 := Scalar.muli v330 c256_i32_378
  let c0_i32_382 : BitVec 32 := 0#32
  ![v332.toNat, 0]
def k0_off9 (k0_t4 : Fin k0_t4_loop.trips) : Fin 2 → Nat :=
  let c24_i32_26 : BitVec 32 := 24#32
  let c1_i32_28 : BitVec 32 := 1#32
  let arg15 : BitVec 32 := Scf.iv c24_i32_26 c1_i32_28 k0_t4
  let c256_i32 : BitVec 32 := 256#32
  let v331 : BitVec 32 := Scalar.muli arg15 c256_i32
  let c0_i32_383 : BitVec 32 := 0#32
  ![v331.toNat, 0]
def k0_dev3 (d0 : Dev nD) (k0_t4 : Fin k0_t4_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_26 : BitVec 32 := 24#32
  let c1_i32_28 : BitVec 32 := 1#32
  let arg15 : BitVec 32 := Scf.iv c24_i32_26 c1_i32_28 k0_t4
  let v328 : BitVec 32 := Scalar.addi v2 arg15
  let c32_i32_376 : BitVec 32 := 32#32
  let v329 : BitVec 32 := Scalar.remsi v328 c32_i32_376
  let c1_i32_381 : BitVec 32 := 1#32
  let v333 : BitVec 32 := Scalar.muli v329 c1_i32_381
  let v334 : BitVec 32 := Scalar.addi c0_i32 v333
  v334.toNat
@[reducible] def k0_t5_loop : Scf.Loop 32 :=
  let c16_i32 : BitVec 32 := 16#32
  let c8_i32_30 : BitVec 32 := 8#32
  let v31 : BitVec 32 := Scalar.addi c16_i32 c8_i32_30
  let c1_i32_31 : BitVec 32 := 1#32
  ⟨c16_i32, v31, c1_i32_31⟩
def k0_off10 (k0_t5 : Fin k0_t5_loop.trips) : Fin 2 → Nat :=
  let c0_i32 : BitVec 32 := 0#32
  let c16_i32 : BitVec 32 := 16#32
  let c1_i32_31 : BitVec 32 := 1#32
  let arg15 : BitVec 32 := Scf.iv c16_i32 c1_i32_31 k0_t5
  ![0, arg15.toNat]
def k0_off11 (k0_t5 : Fin k0_t5_loop.trips) : Fin 2 → Nat :=
  let c16_i32 : BitVec 32 := 16#32
  let c1_i32_31 : BitVec 32 := 1#32
  let arg15 : BitVec 32 := Scf.iv c16_i32 c1_i32_31 k0_t5
  let c256_i32 : BitVec 32 := 256#32
  let v328 : BitVec 32 := Scalar.muli arg15 c256_i32
  let c0_i32_380 : BitVec 32 := 0#32
  ![v328.toNat, 0]
@[reducible] def k0_t6_loop : Scf.Loop 32 :=
  let c16_i32_39 : BitVec 32 := 16#32
  let c8_i32_40 : BitVec 32 := 8#32
  let v42 : BitVec 32 := Scalar.addi c16_i32_39 c8_i32_40
  let c1_i32_41 : BitVec 32 := 1#32
  ⟨c16_i32_39, v42, c1_i32_41⟩
def k0_off12 (k0_t6 : Fin k0_t6_loop.trips) : Fin 2 → Nat :=
  let c1_i32_380 : BitVec 32 := 1#32
  let c16_i32_39 : BitVec 32 := 16#32
  let c1_i32_41 : BitVec 32 := 1#32
  let arg15 : BitVec 32 := Scf.iv c16_i32_39 c1_i32_41 k0_t6
  ![1, arg15.toNat]
def k0_off13 (k0_t6 : Fin k0_t6_loop.trips) : Fin 2 → Nat :=
  let c1_i32_379 : BitVec 32 := 1#32
  let c32_i32_377 : BitVec 32 := 32#32
  let c16_i32_39 : BitVec 32 := 16#32
  let c1_i32_41 : BitVec 32 := 1#32
  let arg15 : BitVec 32 := Scf.iv c16_i32_39 c1_i32_41 k0_t6
  let v330 : BitVec 32 := Scalar.subi c32_i32_377 arg15
  ![1, v330.toNat]
def k0_off14 (k0_t6 : Fin k0_t6_loop.trips) : Fin 2 → Nat :=
  let c32_i32_377 : BitVec 32 := 32#32
  let c16_i32_39 : BitVec 32 := 16#32
  let c1_i32_41 : BitVec 32 := 1#32
  let arg15 : BitVec 32 := Scf.iv c16_i32_39 c1_i32_41 k0_t6
  let v330 : BitVec 32 := Scalar.subi c32_i32_377 arg15
  let c256_i32_378 : BitVec 32 := 256#32
  let v332 : BitVec 32 := Scalar.muli v330 c256_i32_378
  let c0_i32_382 : BitVec 32 := 0#32
  ![v332.toNat, 0]
def k0_off15 (k0_t6 : Fin k0_t6_loop.trips) : Fin 2 → Nat :=
  let c16_i32_39 : BitVec 32 := 16#32
  let c1_i32_41 : BitVec 32 := 1#32
  let arg15 : BitVec 32 := Scf.iv c16_i32_39 c1_i32_41 k0_t6
  let c256_i32 : BitVec 32 := 256#32
  let v331 : BitVec 32 := Scalar.muli arg15 c256_i32
  let c0_i32_383 : BitVec 32 := 0#32
  ![v331.toNat, 0]
def k0_dev4 (d0 : Dev nD) (k0_t6 : Fin k0_t6_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_39 : BitVec 32 := 16#32
  let c1_i32_41 : BitVec 32 := 1#32
  let arg15 : BitVec 32 := Scf.iv c16_i32_39 c1_i32_41 k0_t6
  let v328 : BitVec 32 := Scalar.addi v2 arg15
  let c32_i32_376 : BitVec 32 := 32#32
  let v329 : BitVec 32 := Scalar.remsi v328 c32_i32_376
  let c1_i32_381 : BitVec 32 := 1#32
  let v333 : BitVec 32 := Scalar.muli v329 c1_i32_381
  let v334 : BitVec 32 := Scalar.addi c0_i32 v333
  v334.toNat
@[reducible] def k0_t7_loop : Scf.Loop 32 :=
  let c8_i32_43 : BitVec 32 := 8#32
  let c8_i32_44 : BitVec 32 := 8#32
  let v43 : BitVec 32 := Scalar.addi c8_i32_43 c8_i32_44
  let c1_i32_45 : BitVec 32 := 1#32
  ⟨c8_i32_43, v43, c1_i32_45⟩
def k0_off16 (k0_t7 : Fin k0_t7_loop.trips) : Fin 2 → Nat :=
  let c0_i32 : BitVec 32 := 0#32
  let c8_i32_43 : BitVec 32 := 8#32
  let c1_i32_45 : BitVec 32 := 1#32
  let arg15 : BitVec 32 := Scf.iv c8_i32_43 c1_i32_45 k0_t7
  ![0, arg15.toNat]
def k0_off17 (k0_t7 : Fin k0_t7_loop.trips) : Fin 2 → Nat :=
  let c8_i32_43 : BitVec 32 := 8#32
  let c1_i32_45 : BitVec 32 := 1#32
  let arg15 : BitVec 32 := Scf.iv c8_i32_43 c1_i32_45 k0_t7
  let c256_i32 : BitVec 32 := 256#32
  let v328 : BitVec 32 := Scalar.muli arg15 c256_i32
  let c0_i32_380 : BitVec 32 := 0#32
  ![v328.toNat, 0]
@[reducible] def k0_t8_loop : Scf.Loop 32 :=
  let c8_i32_53 : BitVec 32 := 8#32
  let c8_i32_54 : BitVec 32 := 8#32
  let v54 : BitVec 32 := Scalar.addi c8_i32_53 c8_i32_54
  let c1_i32_55 : BitVec 32 := 1#32
  ⟨c8_i32_53, v54, c1_i32_55⟩
def k0_off18 (k0_t8 : Fin k0_t8_loop.trips) : Fin 2 → Nat :=
  let c1_i32_380 : BitVec 32 := 1#32
  let c8_i32_53 : BitVec 32 := 8#32
  let c1_i32_55 : BitVec 32 := 1#32
  let arg15 : BitVec 32 := Scf.iv c8_i32_53 c1_i32_55 k0_t8
  ![1, arg15.toNat]
def k0_off19 (k0_t8 : Fin k0_t8_loop.trips) : Fin 2 → Nat :=
  let c1_i32_379 : BitVec 32 := 1#32
  let c32_i32_377 : BitVec 32 := 32#32
  let c8_i32_53 : BitVec 32 := 8#32
  let c1_i32_55 : BitVec 32 := 1#32
  let arg15 : BitVec 32 := Scf.iv c8_i32_53 c1_i32_55 k0_t8
  let v330 : BitVec 32 := Scalar.subi c32_i32_377 arg15
  ![1, v330.toNat]
def k0_off20 (k0_t8 : Fin k0_t8_loop.trips) : Fin 2 → Nat :=
  let c32_i32_377 : BitVec 32 := 32#32
  let c8_i32_53 : BitVec 32 := 8#32
  let c1_i32_55 : BitVec 32 := 1#32
  let arg15 : BitVec 32 := Scf.iv c8_i32_53 c1_i32_55 k0_t8
  let v330 : BitVec 32 := Scalar.subi c32_i32_377 arg15
  let c256_i32_378 : BitVec 32 := 256#32
  let v332 : BitVec 32 := Scalar.muli v330 c256_i32_378
  let c0_i32_382 : BitVec 32 := 0#32
  ![v332.toNat, 0]
def k0_off21 (k0_t8 : Fin k0_t8_loop.trips) : Fin 2 → Nat :=
  let c8_i32_53 : BitVec 32 := 8#32
  let c1_i32_55 : BitVec 32 := 1#32
  let arg15 : BitVec 32 := Scf.iv c8_i32_53 c1_i32_55 k0_t8
  let c256_i32 : BitVec 32 := 256#32
  let v331 : BitVec 32 := Scalar.muli arg15 c256_i32
  let c0_i32_383 : BitVec 32 := 0#32
  ![v331.toNat, 0]
def k0_dev5 (d0 : Dev nD) (k0_t8 : Fin k0_t8_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_53 : BitVec 32 := 8#32
  let c1_i32_55 : BitVec 32 := 1#32
  let arg15 : BitVec 32 := Scf.iv c8_i32_53 c1_i32_55 k0_t8
  let v328 : BitVec 32 := Scalar.addi v2 arg15
  let c32_i32_376 : BitVec 32 := 32#32
  let v329 : BitVec 32 := Scalar.remsi v328 c32_i32_376
  let c1_i32_381 : BitVec 32 := 1#32
  let v333 : BitVec 32 := Scalar.muli v329 c1_i32_381
  let v334 : BitVec 32 := Scalar.addi c0_i32 v333
  v334.toNat
@[reducible] def k0_t9_loop : Scf.Loop 32 :=
  let c1_i32_57 : BitVec 32 := 1#32
  let c7_i32 : BitVec 32 := 7#32
  let v55 : BitVec 32 := Scalar.addi c1_i32_57 c7_i32
  let c1_i32_58 : BitVec 32 := 1#32
  ⟨c1_i32_57, v55, c1_i32_58⟩
def k0_off22 (k0_t9 : Fin k0_t9_loop.trips) : Fin 2 → Nat :=
  let c0_i32 : BitVec 32 := 0#32
  let c1_i32_57 : BitVec 32 := 1#32
  let c1_i32_58 : BitVec 32 := 1#32
  let arg15 : BitVec 32 := Scf.iv c1_i32_57 c1_i32_58 k0_t9
  ![0, arg15.toNat]
def k0_off23 (k0_t9 : Fin k0_t9_loop.trips) : Fin 2 → Nat :=
  let c1_i32_57 : BitVec 32 := 1#32
  let c1_i32_58 : BitVec 32 := 1#32
  let arg15 : BitVec 32 := Scf.iv c1_i32_57 c1_i32_58 k0_t9
  let c256_i32 : BitVec 32 := 256#32
  let v328 : BitVec 32 := Scalar.muli arg15 c256_i32
  let c0_i32_380 : BitVec 32 := 0#32
  ![v328.toNat, 0]
@[reducible] def k0_t10_loop : Scf.Loop 32 :=
  let c1_i32_69 : BitVec 32 := 1#32
  let c7_i32_70 : BitVec 32 := 7#32
  let v70 : BitVec 32 := Scalar.addi c1_i32_69 c7_i32_70
  let c1_i32_71 : BitVec 32 := 1#32
  ⟨c1_i32_69, v70, c1_i32_71⟩
def k0_off24 (k0_t10 : Fin k0_t10_loop.trips) : Fin 2 → Nat :=
  let c1_i32_380 : BitVec 32 := 1#32
  let c1_i32_69 : BitVec 32 := 1#32
  let c1_i32_71 : BitVec 32 := 1#32
  let arg15 : BitVec 32 := Scf.iv c1_i32_69 c1_i32_71 k0_t10
  ![1, arg15.toNat]
def k0_off25 (k0_t10 : Fin k0_t10_loop.trips) : Fin 2 → Nat :=
  let c1_i32_379 : BitVec 32 := 1#32
  let c32_i32_377 : BitVec 32 := 32#32
  let c1_i32_69 : BitVec 32 := 1#32
  let c1_i32_71 : BitVec 32 := 1#32
  let arg15 : BitVec 32 := Scf.iv c1_i32_69 c1_i32_71 k0_t10
  let v330 : BitVec 32 := Scalar.subi c32_i32_377 arg15
  ![1, v330.toNat]
def k0_off26 (k0_t10 : Fin k0_t10_loop.trips) : Fin 2 → Nat :=
  let c32_i32_377 : BitVec 32 := 32#32
  let c1_i32_69 : BitVec 32 := 1#32
  let c1_i32_71 : BitVec 32 := 1#32
  let arg15 : BitVec 32 := Scf.iv c1_i32_69 c1_i32_71 k0_t10
  let v330 : BitVec 32 := Scalar.subi c32_i32_377 arg15
  let c256_i32_378 : BitVec 32 := 256#32
  let v332 : BitVec 32 := Scalar.muli v330 c256_i32_378
  let c0_i32_382 : BitVec 32 := 0#32
  ![v332.toNat, 0]
def k0_off27 (k0_t10 : Fin k0_t10_loop.trips) : Fin 2 → Nat :=
  let c1_i32_69 : BitVec 32 := 1#32
  let c1_i32_71 : BitVec 32 := 1#32
  let arg15 : BitVec 32 := Scf.iv c1_i32_69 c1_i32_71 k0_t10
  let c256_i32 : BitVec 32 := 256#32
  let v331 : BitVec 32 := Scalar.muli arg15 c256_i32
  let c0_i32_383 : BitVec 32 := 0#32
  ![v331.toNat, 0]
def k0_dev6 (d0 : Dev nD) (k0_t10 : Fin k0_t10_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_69 : BitVec 32 := 1#32
  let c1_i32_71 : BitVec 32 := 1#32
  let arg15 : BitVec 32 := Scf.iv c1_i32_69 c1_i32_71 k0_t10
  let v328 : BitVec 32 := Scalar.addi v2 arg15
  let c32_i32_376 : BitVec 32 := 32#32
  let v329 : BitVec 32 := Scalar.remsi v328 c32_i32_376
  let c1_i32_381 : BitVec 32 := 1#32
  let v333 : BitVec 32 := Scalar.muli v329 c1_i32_381
  let v334 : BitVec 32 := Scalar.addi c0_i32 v333
  v334.toNat
@[reducible] def k0_t11_loop : Scf.Loop 32 :=
  let c1_i32_73 : BitVec 32 := 1#32
  let c7_i32_74 : BitVec 32 := 7#32
  let v71 : BitVec 32 := Scalar.addi c1_i32_73 c7_i32_74
  let c1_i32_75 : BitVec 32 := 1#32
  ⟨c1_i32_73, v71, c1_i32_75⟩
def k0_off28 (k0_t11 : Fin k0_t11_loop.trips) : Fin 2 → Nat :=
  let c1_i32_376 : BitVec 32 := 1#32
  let c1_i32_73 : BitVec 32 := 1#32
  let c1_i32_75 : BitVec 32 := 1#32
  let arg15 : BitVec 32 := Scf.iv c1_i32_73 c1_i32_75 k0_t11
  ![1, arg15.toNat]
def k0_off29 (k0_t11 : Fin k0_t11_loop.trips) : Fin 2 → Nat :=
  let c1_i32_73 : BitVec 32 := 1#32
  let c1_i32_75 : BitVec 32 := 1#32
  let arg15 : BitVec 32 := Scf.iv c1_i32_73 c1_i32_75 k0_t11
  let c256_i32 : BitVec 32 := 256#32
  let v328 : BitVec 32 := Scalar.muli arg15 c256_i32
  let c0_i32_380 : BitVec 32 := 0#32
  ![v328.toNat, 0]
@[reducible] def k0_t12_loop : Scf.Loop 32 :=
  let c8_i32_83 : BitVec 32 := 8#32
  let c8_i32_84 : BitVec 32 := 8#32
  let v81 : BitVec 32 := Scalar.addi c8_i32_83 c8_i32_84
  let c1_i32_85 : BitVec 32 := 1#32
  ⟨c8_i32_83, v81, c1_i32_85⟩
def k0_off30 (k0_t12 : Fin k0_t12_loop.trips) : Fin 2 → Nat :=
  let c1_i32_376 : BitVec 32 := 1#32
  let c8_i32_83 : BitVec 32 := 8#32
  let c1_i32_85 : BitVec 32 := 1#32
  let arg15 : BitVec 32 := Scf.iv c8_i32_83 c1_i32_85 k0_t12
  ![1, arg15.toNat]
def k0_off31 (k0_t12 : Fin k0_t12_loop.trips) : Fin 2 → Nat :=
  let c8_i32_83 : BitVec 32 := 8#32
  let c1_i32_85 : BitVec 32 := 1#32
  let arg15 : BitVec 32 := Scf.iv c8_i32_83 c1_i32_85 k0_t12
  let c256_i32 : BitVec 32 := 256#32
  let v328 : BitVec 32 := Scalar.muli arg15 c256_i32
  let c0_i32_380 : BitVec 32 := 0#32
  ![v328.toNat, 0]
@[reducible] def k0_t13_loop : Scf.Loop 32 :=
  let c16_i32_94 : BitVec 32 := 16#32
  let c8_i32_95 : BitVec 32 := 8#32
  let v91 : BitVec 32 := Scalar.addi c16_i32_94 c8_i32_95
  let c1_i32_96 : BitVec 32 := 1#32
  ⟨c16_i32_94, v91, c1_i32_96⟩
def k0_off32 (k0_t13 : Fin k0_t13_loop.trips) : Fin 2 → Nat :=
  let c1_i32_376 : BitVec 32 := 1#32
  let c16_i32_94 : BitVec 32 := 16#32
  let c1_i32_96 : BitVec 32 := 1#32
  let arg15 : BitVec 32 := Scf.iv c16_i32_94 c1_i32_96 k0_t13
  ![1, arg15.toNat]
def k0_off33 (k0_t13 : Fin k0_t13_loop.trips) : Fin 2 → Nat :=
  let c16_i32_94 : BitVec 32 := 16#32
  let c1_i32_96 : BitVec 32 := 1#32
  let arg15 : BitVec 32 := Scf.iv c16_i32_94 c1_i32_96 k0_t13
  let c256_i32 : BitVec 32 := 256#32
  let v328 : BitVec 32 := Scalar.muli arg15 c256_i32
  let c0_i32_380 : BitVec 32 := 0#32
  ![v328.toNat, 0]
@[reducible] def k0_t14_loop : Scf.Loop 32 :=
  let c24_i32_105 : BitVec 32 := 24#32
  let c8_i32_106 : BitVec 32 := 8#32
  let v101 : BitVec 32 := Scalar.addi c24_i32_105 c8_i32_106
  let c1_i32_107 : BitVec 32 := 1#32
  ⟨c24_i32_105, v101, c1_i32_107⟩
def k0_off34 (k0_t14 : Fin k0_t14_loop.trips) : Fin 2 → Nat :=
  let c1_i32_376 : BitVec 32 := 1#32
  let c24_i32_105 : BitVec 32 := 24#32
  let c1_i32_107 : BitVec 32 := 1#32
  let arg15 : BitVec 32 := Scf.iv c24_i32_105 c1_i32_107 k0_t14
  ![1, arg15.toNat]
def k0_off35 (k0_t14 : Fin k0_t14_loop.trips) : Fin 2 → Nat :=
  let c24_i32_105 : BitVec 32 := 24#32
  let c1_i32_107 : BitVec 32 := 1#32
  let arg15 : BitVec 32 := Scf.iv c24_i32_105 c1_i32_107 k0_t14
  let c256_i32 : BitVec 32 := 256#32
  let v328 : BitVec 32 := Scalar.muli arg15 c256_i32
  let c0_i32_380 : BitVec 32 := 0#32
  ![v328.toNat, 0]
@[reducible] def k0_t15_loop : Scf.Loop 32 :=
  let c1_i32_116 : BitVec 32 := 1#32
  let c31_i32_117 : BitVec 32 := 31#32
  let v111 : BitVec 32 := Scalar.addi c1_i32_116 c31_i32_117
  let c1_i32_118 : BitVec 32 := 1#32
  ⟨c1_i32_116, v111, c1_i32_118⟩
def k0_off36 (k0_t15 : Fin k0_t15_loop.trips) : Fin 2 → Nat :=
  let c0_i32 : BitVec 32 := 0#32
  let c1_i32_116 : BitVec 32 := 1#32
  let c1_i32_118 : BitVec 32 := 1#32
  let arg15 : BitVec 32 := Scf.iv c1_i32_116 c1_i32_118 k0_t15
  ![0, arg15.toNat]
def k0_off37 (k0_t15 : Fin k0_t15_loop.trips) : Fin 2 → Nat :=
  let c1_i32_382 : BitVec 32 := 1#32
  let c1_i32_116 : BitVec 32 := 1#32
  let c1_i32_118 : BitVec 32 := 1#32
  let arg15 : BitVec 32 := Scf.iv c1_i32_116 c1_i32_118 k0_t15
  ![1, arg15.toNat]
def k0_off38 (k0_t15 : Fin k0_t15_loop.trips) : Fin 2 → Nat :=
  let c1_i32_116 : BitVec 32 := 1#32
  let c1_i32_118 : BitVec 32 := 1#32
  let arg15 : BitVec 32 := Scf.iv c1_i32_116 c1_i32_118 k0_t15
  let c256_i32_381 : BitVec 32 := 256#32
  let v333 : BitVec 32 := Scalar.muli arg15 c256_i32_381
  let c0_i32_386 : BitVec 32 := 0#32
  ![v333.toNat, 0]
@[reducible] def k0_t16_loop : Scf.Loop 32 :=
  let c1_i32_132 : BitVec 32 := 1#32
  let c31_i32_133 : BitVec 32 := 31#32
  let v125 : BitVec 32 := Scalar.addi c1_i32_132 c31_i32_133
  let c1_i32_134 : BitVec 32 := 1#32
  ⟨c1_i32_132, v125, c1_i32_134⟩
def k0_off39 (k0_t16 : Fin k0_t16_loop.trips) : Fin 2 → Nat :=
  let c0_i32 : BitVec 32 := 0#32
  let c1_i32_132 : BitVec 32 := 1#32
  let c1_i32_134 : BitVec 32 := 1#32
  let arg15 : BitVec 32 := Scf.iv c1_i32_132 c1_i32_134 k0_t16
  ![0, arg15.toNat]
def k0_off40 (k0_t16 : Fin k0_t16_loop.trips) : Fin 2 → Nat :=
  let c2_i32 : BitVec 32 := 2#32
  let c32_i32_377 : BitVec 32 := 32#32
  let c1_i32_132 : BitVec 32 := 1#32
  let c1_i32_134 : BitVec 32 := 1#32
  let arg15 : BitVec 32 := Scf.iv c1_i32_132 c1_i32_134 k0_t16
  let v330 : BitVec 32 := Scalar.subi c32_i32_377 arg15
  ![2, v330.toNat]
def k0_off41 (k0_t16 : Fin k0_t16_loop.trips) : Fin 2 → Nat :=
  let c32_i32_377 : BitVec 32 := 32#32
  let c1_i32_132 : BitVec 32 := 1#32
  let c1_i32_134 : BitVec 32 := 1#32
  let arg15 : BitVec 32 := Scf.iv c1_i32_132 c1_i32_134 k0_t16
  let v330 : BitVec 32 := Scalar.subi c32_i32_377 arg15
  let c256_i32 : BitVec 32 := 256#32
  let v331 : BitVec 32 := Scalar.muli v330 c256_i32
  let c0_i32_380 : BitVec 32 := 0#32
  ![v331.toNat, 0]
def k0_dev7 (d0 : Dev nD) (k0_t16 : Fin k0_t16_loop.trips) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_132 : BitVec 32 := 1#32
  let c1_i32_134 : BitVec 32 := 1#32
  let arg15 : BitVec 32 := Scf.iv c1_i32_132 c1_i32_134 k0_t16
  let v328 : BitVec 32 := Scalar.addi v2 arg15
  let c32_i32_376 : BitVec 32 := 32#32
  let v329 : BitVec 32 := Scalar.remsi v328 c32_i32_376
  let c1_i32_378 : BitVec 32 := 1#32
  let v332 : BitVec 32 := Scalar.muli v329 c1_i32_378
  let v333 : BitVec 32 := Scalar.addi c0_i32_379 v332
  v333.toNat
@[reducible] def k0_t17_loop : Scf.Loop 32 :=
  let c24_i32_136 : BitVec 32 := 24#32
  let c8_i32_137 : BitVec 32 := 8#32
  let v126 : BitVec 32 := Scalar.addi c24_i32_136 c8_i32_137
  let c1_i32_138 : BitVec 32 := 1#32
  ⟨c24_i32_136, v126, c1_i32_138⟩
def k0_off42 (k0_t17 : Fin k0_t17_loop.trips) : Fin 2 → Nat :=
  let c2_i32 : BitVec 32 := 2#32
  let c24_i32_136 : BitVec 32 := 24#32
  let c1_i32_138 : BitVec 32 := 1#32
  let arg15 : BitVec 32 := Scf.iv c24_i32_136 c1_i32_138 k0_t17
  ![2, arg15.toNat]
def k0_off43 (k0_t17 : Fin k0_t17_loop.trips) : Fin 2 → Nat :=
  let c24_i32_136 : BitVec 32 := 24#32
  let c1_i32_138 : BitVec 32 := 1#32
  let arg15 : BitVec 32 := Scf.iv c24_i32_136 c1_i32_138 k0_t17
  let c256_i32 : BitVec 32 := 256#32
  let v328 : BitVec 32 := Scalar.muli arg15 c256_i32
  let c0_i32_379 : BitVec 32 := 0#32
  ![v328.toNat, 0]
@[reducible] def k0_t18_loop : Scf.Loop 32 :=
  let c24_i32_147 : BitVec 32 := 24#32
  let c8_i32_148 : BitVec 32 := 8#32
  let v137 : BitVec 32 := Scalar.addi c24_i32_147 c8_i32_148
  let c1_i32_149 : BitVec 32 := 1#32
  ⟨c24_i32_147, v137, c1_i32_149⟩
def k0_off44 (k0_t18 : Fin k0_t18_loop.trips) : Fin 2 → Nat :=
  let c1_i32_379 : BitVec 32 := 1#32
  let c24_i32_147 : BitVec 32 := 24#32
  let c1_i32_149 : BitVec 32 := 1#32
  let arg15 : BitVec 32 := Scf.iv c24_i32_147 c1_i32_149 k0_t18
  ![1, arg15.toNat]
def k0_off45 (k0_t18 : Fin k0_t18_loop.trips) : Fin 2 → Nat :=
  let c3_i32 : BitVec 32 := 3#32
  let c32_i32_377 : BitVec 32 := 32#32
  let c24_i32_147 : BitVec 32 := 24#32
  let c1_i32_149 : BitVec 32 := 1#32
  let arg15 : BitVec 32 := Scf.iv c24_i32_147 c1_i32_149 k0_t18
  let v330 : BitVec 32 := Scalar.subi c32_i32_377 arg15
  ![3, v330.toNat]
def k0_off46 (k0_t18 : Fin k0_t18_loop.trips) : Fin 2 → Nat :=
  let c32_i32_377 : BitVec 32 := 32#32
  let c24_i32_147 : BitVec 32 := 24#32
  let c1_i32_149 : BitVec 32 := 1#32
  let arg15 : BitVec 32 := Scf.iv c24_i32_147 c1_i32_149 k0_t18
  let v330 : BitVec 32 := Scalar.subi c32_i32_377 arg15
  let c256_i32_378 : BitVec 32 := 256#32
  let v332 : BitVec 32 := Scalar.muli v330 c256_i32_378
  let c0_i32_381 : BitVec 32 := 0#32
  ![v332.toNat, 0]
def k0_off47 (k0_t18 : Fin k0_t18_loop.trips) : Fin 2 → Nat :=
  let c24_i32_147 : BitVec 32 := 24#32
  let c1_i32_149 : BitVec 32 := 1#32
  let arg15 : BitVec 32 := Scf.iv c24_i32_147 c1_i32_149 k0_t18
  let c256_i32 : BitVec 32 := 256#32
  let v331 : BitVec 32 := Scalar.muli arg15 c256_i32
  let c0_i32_382 : BitVec 32 := 0#32
  ![v331.toNat, 0]
def k0_dev8 (d0 : Dev nD) (k0_t18 : Fin k0_t18_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_147 : BitVec 32 := 24#32
  let c1_i32_149 : BitVec 32 := 1#32
  let arg15 : BitVec 32 := Scf.iv c24_i32_147 c1_i32_149 k0_t18
  let v328 : BitVec 32 := Scalar.addi v2 arg15
  let c32_i32_376 : BitVec 32 := 32#32
  let v329 : BitVec 32 := Scalar.remsi v328 c32_i32_376
  let c1_i32_380 : BitVec 32 := 1#32
  let v333 : BitVec 32 := Scalar.muli v329 c1_i32_380
  let v334 : BitVec 32 := Scalar.addi c0_i32 v333
  v334.toNat
@[reducible] def k0_t19_loop : Scf.Loop 32 :=
  let c16_i32_151 : BitVec 32 := 16#32
  let c8_i32_152 : BitVec 32 := 8#32
  let v138 : BitVec 32 := Scalar.addi c16_i32_151 c8_i32_152
  let c1_i32_153 : BitVec 32 := 1#32
  ⟨c16_i32_151, v138, c1_i32_153⟩
def k0_off48 (k0_t19 : Fin k0_t19_loop.trips) : Fin 2 → Nat :=
  let c2_i32 : BitVec 32 := 2#32
  let c16_i32_151 : BitVec 32 := 16#32
  let c1_i32_153 : BitVec 32 := 1#32
  let arg15 : BitVec 32 := Scf.iv c16_i32_151 c1_i32_153 k0_t19
  ![2, arg15.toNat]
def k0_off49 (k0_t19 : Fin k0_t19_loop.trips) : Fin 2 → Nat :=
  let c16_i32_151 : BitVec 32 := 16#32
  let c1_i32_153 : BitVec 32 := 1#32
  let arg15 : BitVec 32 := Scf.iv c16_i32_151 c1_i32_153 k0_t19
  let c256_i32 : BitVec 32 := 256#32
  let v328 : BitVec 32 := Scalar.muli arg15 c256_i32
  let c0_i32_379 : BitVec 32 := 0#32
  ![v328.toNat, 0]
@[reducible] def k0_t20_loop : Scf.Loop 32 :=
  let c16_i32_162 : BitVec 32 := 16#32
  let c8_i32_163 : BitVec 32 := 8#32
  let v149 : BitVec 32 := Scalar.addi c16_i32_162 c8_i32_163
  let c1_i32_164 : BitVec 32 := 1#32
  ⟨c16_i32_162, v149, c1_i32_164⟩
def k0_off50 (k0_t20 : Fin k0_t20_loop.trips) : Fin 2 → Nat :=
  let c1_i32_379 : BitVec 32 := 1#32
  let c16_i32_162 : BitVec 32 := 16#32
  let c1_i32_164 : BitVec 32 := 1#32
  let arg15 : BitVec 32 := Scf.iv c16_i32_162 c1_i32_164 k0_t20
  ![1, arg15.toNat]
def k0_off51 (k0_t20 : Fin k0_t20_loop.trips) : Fin 2 → Nat :=
  let c3_i32 : BitVec 32 := 3#32
  let c32_i32_377 : BitVec 32 := 32#32
  let c16_i32_162 : BitVec 32 := 16#32
  let c1_i32_164 : BitVec 32 := 1#32
  let arg15 : BitVec 32 := Scf.iv c16_i32_162 c1_i32_164 k0_t20
  let v330 : BitVec 32 := Scalar.subi c32_i32_377 arg15
  ![3, v330.toNat]
def k0_off52 (k0_t20 : Fin k0_t20_loop.trips) : Fin 2 → Nat :=
  let c32_i32_377 : BitVec 32 := 32#32
  let c16_i32_162 : BitVec 32 := 16#32
  let c1_i32_164 : BitVec 32 := 1#32
  let arg15 : BitVec 32 := Scf.iv c16_i32_162 c1_i32_164 k0_t20
  let v330 : BitVec 32 := Scalar.subi c32_i32_377 arg15
  let c256_i32_378 : BitVec 32 := 256#32
  let v332 : BitVec 32 := Scalar.muli v330 c256_i32_378
  let c0_i32_381 : BitVec 32 := 0#32
  ![v332.toNat, 0]
def k0_off53 (k0_t20 : Fin k0_t20_loop.trips) : Fin 2 → Nat :=
  let c16_i32_162 : BitVec 32 := 16#32
  let c1_i32_164 : BitVec 32 := 1#32
  let arg15 : BitVec 32 := Scf.iv c16_i32_162 c1_i32_164 k0_t20
  let c256_i32 : BitVec 32 := 256#32
  let v331 : BitVec 32 := Scalar.muli arg15 c256_i32
  let c0_i32_382 : BitVec 32 := 0#32
  ![v331.toNat, 0]
def k0_dev9 (d0 : Dev nD) (k0_t20 : Fin k0_t20_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_162 : BitVec 32 := 16#32
  let c1_i32_164 : BitVec 32 := 1#32
  let arg15 : BitVec 32 := Scf.iv c16_i32_162 c1_i32_164 k0_t20
  let v328 : BitVec 32 := Scalar.addi v2 arg15
  let c32_i32_376 : BitVec 32 := 32#32
  let v329 : BitVec 32 := Scalar.remsi v328 c32_i32_376
  let c1_i32_380 : BitVec 32 := 1#32
  let v333 : BitVec 32 := Scalar.muli v329 c1_i32_380
  let v334 : BitVec 32 := Scalar.addi c0_i32 v333
  v334.toNat
@[reducible] def k0_t21_loop : Scf.Loop 32 :=
  let c8_i32_166 : BitVec 32 := 8#32
  let c8_i32_167 : BitVec 32 := 8#32
  let v150 : BitVec 32 := Scalar.addi c8_i32_166 c8_i32_167
  let c1_i32_168 : BitVec 32 := 1#32
  ⟨c8_i32_166, v150, c1_i32_168⟩
def k0_off54 (k0_t21 : Fin k0_t21_loop.trips) : Fin 2 → Nat :=
  let c2_i32 : BitVec 32 := 2#32
  let c8_i32_166 : BitVec 32 := 8#32
  let c1_i32_168 : BitVec 32 := 1#32
  let arg15 : BitVec 32 := Scf.iv c8_i32_166 c1_i32_168 k0_t21
  ![2, arg15.toNat]
def k0_off55 (k0_t21 : Fin k0_t21_loop.trips) : Fin 2 → Nat :=
  let c8_i32_166 : BitVec 32 := 8#32
  let c1_i32_168 : BitVec 32 := 1#32
  let arg15 : BitVec 32 := Scf.iv c8_i32_166 c1_i32_168 k0_t21
  let c256_i32 : BitVec 32 := 256#32
  let v328 : BitVec 32 := Scalar.muli arg15 c256_i32
  let c0_i32_379 : BitVec 32 := 0#32
  ![v328.toNat, 0]
@[reducible] def k0_t22_loop : Scf.Loop 32 :=
  let c8_i32_177 : BitVec 32 := 8#32
  let c8_i32_178 : BitVec 32 := 8#32
  let v161 : BitVec 32 := Scalar.addi c8_i32_177 c8_i32_178
  let c1_i32_179 : BitVec 32 := 1#32
  ⟨c8_i32_177, v161, c1_i32_179⟩
def k0_off56 (k0_t22 : Fin k0_t22_loop.trips) : Fin 2 → Nat :=
  let c1_i32_379 : BitVec 32 := 1#32
  let c8_i32_177 : BitVec 32 := 8#32
  let c1_i32_179 : BitVec 32 := 1#32
  let arg15 : BitVec 32 := Scf.iv c8_i32_177 c1_i32_179 k0_t22
  ![1, arg15.toNat]
def k0_off57 (k0_t22 : Fin k0_t22_loop.trips) : Fin 2 → Nat :=
  let c3_i32 : BitVec 32 := 3#32
  let c32_i32_377 : BitVec 32 := 32#32
  let c8_i32_177 : BitVec 32 := 8#32
  let c1_i32_179 : BitVec 32 := 1#32
  let arg15 : BitVec 32 := Scf.iv c8_i32_177 c1_i32_179 k0_t22
  let v330 : BitVec 32 := Scalar.subi c32_i32_377 arg15
  ![3, v330.toNat]
def k0_off58 (k0_t22 : Fin k0_t22_loop.trips) : Fin 2 → Nat :=
  let c32_i32_377 : BitVec 32 := 32#32
  let c8_i32_177 : BitVec 32 := 8#32
  let c1_i32_179 : BitVec 32 := 1#32
  let arg15 : BitVec 32 := Scf.iv c8_i32_177 c1_i32_179 k0_t22
  let v330 : BitVec 32 := Scalar.subi c32_i32_377 arg15
  let c256_i32_378 : BitVec 32 := 256#32
  let v332 : BitVec 32 := Scalar.muli v330 c256_i32_378
  let c0_i32_381 : BitVec 32 := 0#32
  ![v332.toNat, 0]
def k0_off59 (k0_t22 : Fin k0_t22_loop.trips) : Fin 2 → Nat :=
  let c8_i32_177 : BitVec 32 := 8#32
  let c1_i32_179 : BitVec 32 := 1#32
  let arg15 : BitVec 32 := Scf.iv c8_i32_177 c1_i32_179 k0_t22
  let c256_i32 : BitVec 32 := 256#32
  let v331 : BitVec 32 := Scalar.muli arg15 c256_i32
  let c0_i32_382 : BitVec 32 := 0#32
  ![v331.toNat, 0]
def k0_dev10 (d0 : Dev nD) (k0_t22 : Fin k0_t22_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_177 : BitVec 32 := 8#32
  let c1_i32_179 : BitVec 32 := 1#32
  let arg15 : BitVec 32 := Scf.iv c8_i32_177 c1_i32_179 k0_t22
  let v328 : BitVec 32 := Scalar.addi v2 arg15
  let c32_i32_376 : BitVec 32 := 32#32
  let v329 : BitVec 32 := Scalar.remsi v328 c32_i32_376
  let c1_i32_380 : BitVec 32 := 1#32
  let v333 : BitVec 32 := Scalar.muli v329 c1_i32_380
  let v334 : BitVec 32 := Scalar.addi c0_i32 v333
  v334.toNat
@[reducible] def k0_t23_loop : Scf.Loop 32 :=
  let c1_i32_181 : BitVec 32 := 1#32
  let c7_i32_182 : BitVec 32 := 7#32
  let v162 : BitVec 32 := Scalar.addi c1_i32_181 c7_i32_182
  let c1_i32_183 : BitVec 32 := 1#32
  ⟨c1_i32_181, v162, c1_i32_183⟩
def k0_off60 (k0_t23 : Fin k0_t23_loop.trips) : Fin 2 → Nat :=
  let c2_i32 : BitVec 32 := 2#32
  let c1_i32_181 : BitVec 32 := 1#32
  let c1_i32_183 : BitVec 32 := 1#32
  let arg15 : BitVec 32 := Scf.iv c1_i32_181 c1_i32_183 k0_t23
  ![2, arg15.toNat]
def k0_off61 (k0_t23 : Fin k0_t23_loop.trips) : Fin 2 → Nat :=
  let c1_i32_181 : BitVec 32 := 1#32
  let c1_i32_183 : BitVec 32 := 1#32
  let arg15 : BitVec 32 := Scf.iv c1_i32_181 c1_i32_183 k0_t23
  let c256_i32 : BitVec 32 := 256#32
  let v328 : BitVec 32 := Scalar.muli arg15 c256_i32
  let c0_i32_379 : BitVec 32 := 0#32
  ![v328.toNat, 0]
@[reducible] def k0_t24_loop : Scf.Loop 32 :=
  let c1_i32_194 : BitVec 32 := 1#32
  let c7_i32_195 : BitVec 32 := 7#32
  let v177 : BitVec 32 := Scalar.addi c1_i32_194 c7_i32_195
  let c1_i32_196 : BitVec 32 := 1#32
  ⟨c1_i32_194, v177, c1_i32_196⟩
def k0_off62 (k0_t24 : Fin k0_t24_loop.trips) : Fin 2 → Nat :=
  let c1_i32_379 : BitVec 32 := 1#32
  let c1_i32_194 : BitVec 32 := 1#32
  let c1_i32_196 : BitVec 32 := 1#32
  let arg15 : BitVec 32 := Scf.iv c1_i32_194 c1_i32_196 k0_t24
  ![1, arg15.toNat]
def k0_off63 (k0_t24 : Fin k0_t24_loop.trips) : Fin 2 → Nat :=
  let c3_i32 : BitVec 32 := 3#32
  let c32_i32_377 : BitVec 32 := 32#32
  let c1_i32_194 : BitVec 32 := 1#32
  let c1_i32_196 : BitVec 32 := 1#32
  let arg15 : BitVec 32 := Scf.iv c1_i32_194 c1_i32_196 k0_t24
  let v330 : BitVec 32 := Scalar.subi c32_i32_377 arg15
  ![3, v330.toNat]
def k0_off64 (k0_t24 : Fin k0_t24_loop.trips) : Fin 2 → Nat :=
  let c32_i32_377 : BitVec 32 := 32#32
  let c1_i32_194 : BitVec 32 := 1#32
  let c1_i32_196 : BitVec 32 := 1#32
  let arg15 : BitVec 32 := Scf.iv c1_i32_194 c1_i32_196 k0_t24
  let v330 : BitVec 32 := Scalar.subi c32_i32_377 arg15
  let c256_i32_378 : BitVec 32 := 256#32
  let v332 : BitVec 32 := Scalar.muli v330 c256_i32_378
  let c0_i32_381 : BitVec 32 := 0#32
  ![v332.toNat, 0]
def k0_off65 (k0_t24 : Fin k0_t24_loop.trips) : Fin 2 → Nat :=
  let c1_i32_194 : BitVec 32 := 1#32
  let c1_i32_196 : BitVec 32 := 1#32
  let arg15 : BitVec 32 := Scf.iv c1_i32_194 c1_i32_196 k0_t24
  let c256_i32 : BitVec 32 := 256#32
  let v331 : BitVec 32 := Scalar.muli arg15 c256_i32
  let c0_i32_382 : BitVec 32 := 0#32
  ![v331.toNat, 0]
def k0_dev11 (d0 : Dev nD) (k0_t24 : Fin k0_t24_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_194 : BitVec 32 := 1#32
  let c1_i32_196 : BitVec 32 := 1#32
  let arg15 : BitVec 32 := Scf.iv c1_i32_194 c1_i32_196 k0_t24
  let v328 : BitVec 32 := Scalar.addi v2 arg15
  let c32_i32_376 : BitVec 32 := 32#32
  let v329 : BitVec 32 := Scalar.remsi v328 c32_i32_376
  let c1_i32_380 : BitVec 32 := 1#32
  let v333 : BitVec 32 := Scalar.muli v329 c1_i32_380
  let v334 : BitVec 32 := Scalar.addi c0_i32 v333
  v334.toNat
@[reducible] def k0_t25_loop : Scf.Loop 32 :=
  let c1_i32_198 : BitVec 32 := 1#32
  let c7_i32_199 : BitVec 32 := 7#32
  let v178 : BitVec 32 := Scalar.addi c1_i32_198 c7_i32_199
  let c1_i32_200 : BitVec 32 := 1#32
  ⟨c1_i32_198, v178, c1_i32_200⟩
def k0_off66 (k0_t25 : Fin k0_t25_loop.trips) : Fin 2 → Nat :=
  let c3_i32 : BitVec 32 := 3#32
  let c1_i32_198 : BitVec 32 := 1#32
  let c1_i32_200 : BitVec 32 := 1#32
  let arg15 : BitVec 32 := Scf.iv c1_i32_198 c1_i32_200 k0_t25
  ![3, arg15.toNat]
def k0_off67 (k0_t25 : Fin k0_t25_loop.trips) : Fin 2 → Nat :=
  let c1_i32_198 : BitVec 32 := 1#32
  let c1_i32_200 : BitVec 32 := 1#32
  let arg15 : BitVec 32 := Scf.iv c1_i32_198 c1_i32_200 k0_t25
  let c256_i32 : BitVec 32 := 256#32
  let v328 : BitVec 32 := Scalar.muli arg15 c256_i32
  let c0_i32_379 : BitVec 32 := 0#32
  ![v328.toNat, 0]
@[reducible] def k0_t26_loop : Scf.Loop 32 :=
  let c8_i32_209 : BitVec 32 := 8#32
  let c8_i32_210 : BitVec 32 := 8#32
  let v188 : BitVec 32 := Scalar.addi c8_i32_209 c8_i32_210
  let c1_i32_211 : BitVec 32 := 1#32
  ⟨c8_i32_209, v188, c1_i32_211⟩
def k0_off68 (k0_t26 : Fin k0_t26_loop.trips) : Fin 2 → Nat :=
  let c3_i32 : BitVec 32 := 3#32
  let c8_i32_209 : BitVec 32 := 8#32
  let c1_i32_211 : BitVec 32 := 1#32
  let arg15 : BitVec 32 := Scf.iv c8_i32_209 c1_i32_211 k0_t26
  ![3, arg15.toNat]
def k0_off69 (k0_t26 : Fin k0_t26_loop.trips) : Fin 2 → Nat :=
  let c8_i32_209 : BitVec 32 := 8#32
  let c1_i32_211 : BitVec 32 := 1#32
  let arg15 : BitVec 32 := Scf.iv c8_i32_209 c1_i32_211 k0_t26
  let c256_i32 : BitVec 32 := 256#32
  let v328 : BitVec 32 := Scalar.muli arg15 c256_i32
  let c0_i32_379 : BitVec 32 := 0#32
  ![v328.toNat, 0]
@[reducible] def k0_t27_loop : Scf.Loop 32 :=
  let c16_i32_220 : BitVec 32 := 16#32
  let c8_i32_221 : BitVec 32 := 8#32
  let v198 : BitVec 32 := Scalar.addi c16_i32_220 c8_i32_221
  let c1_i32_222 : BitVec 32 := 1#32
  ⟨c16_i32_220, v198, c1_i32_222⟩
def k0_off70 (k0_t27 : Fin k0_t27_loop.trips) : Fin 2 → Nat :=
  let c3_i32 : BitVec 32 := 3#32
  let c16_i32_220 : BitVec 32 := 16#32
  let c1_i32_222 : BitVec 32 := 1#32
  let arg15 : BitVec 32 := Scf.iv c16_i32_220 c1_i32_222 k0_t27
  ![3, arg15.toNat]
def k0_off71 (k0_t27 : Fin k0_t27_loop.trips) : Fin 2 → Nat :=
  let c16_i32_220 : BitVec 32 := 16#32
  let c1_i32_222 : BitVec 32 := 1#32
  let arg15 : BitVec 32 := Scf.iv c16_i32_220 c1_i32_222 k0_t27
  let c256_i32 : BitVec 32 := 256#32
  let v328 : BitVec 32 := Scalar.muli arg15 c256_i32
  let c0_i32_379 : BitVec 32 := 0#32
  ![v328.toNat, 0]
@[reducible] def k0_t28_loop : Scf.Loop 32 :=
  let c24_i32_231 : BitVec 32 := 24#32
  let c8_i32_232 : BitVec 32 := 8#32
  let v208 : BitVec 32 := Scalar.addi c24_i32_231 c8_i32_232
  let c1_i32_233 : BitVec 32 := 1#32
  ⟨c24_i32_231, v208, c1_i32_233⟩
def k0_off72 (k0_t28 : Fin k0_t28_loop.trips) : Fin 2 → Nat :=
  let c3_i32 : BitVec 32 := 3#32
  let c24_i32_231 : BitVec 32 := 24#32
  let c1_i32_233 : BitVec 32 := 1#32
  let arg15 : BitVec 32 := Scf.iv c24_i32_231 c1_i32_233 k0_t28
  ![3, arg15.toNat]
def k0_off73 (k0_t28 : Fin k0_t28_loop.trips) : Fin 2 → Nat :=
  let c24_i32_231 : BitVec 32 := 24#32
  let c1_i32_233 : BitVec 32 := 1#32
  let arg15 : BitVec 32 := Scf.iv c24_i32_231 c1_i32_233 k0_t28
  let c256_i32 : BitVec 32 := 256#32
  let v328 : BitVec 32 := Scalar.muli arg15 c256_i32
  let c0_i32_379 : BitVec 32 := 0#32
  ![v328.toNat, 0]
@[reducible] def k0_t29_loop : Scf.Loop 32 :=
  let c1_i32_242 : BitVec 32 := 1#32
  let c31_i32_243 : BitVec 32 := 31#32
  let v218 : BitVec 32 := Scalar.addi c1_i32_242 c31_i32_243
  let c1_i32_244 : BitVec 32 := 1#32
  ⟨c1_i32_242, v218, c1_i32_244⟩
def k0_off74 (k0_t29 : Fin k0_t29_loop.trips) : Fin 2 → Nat :=
  let c0_i32 : BitVec 32 := 0#32
  let c1_i32_242 : BitVec 32 := 1#32
  let c1_i32_244 : BitVec 32 := 1#32
  let arg15 : BitVec 32 := Scf.iv c1_i32_242 c1_i32_244 k0_t29
  ![0, arg15.toNat]
def k0_off75 (k0_t29 : Fin k0_t29_loop.trips) : Fin 2 → Nat :=
  let c1_i32_381 : BitVec 32 := 1#32
  let c1_i32_242 : BitVec 32 := 1#32
  let c1_i32_244 : BitVec 32 := 1#32
  let arg15 : BitVec 32 := Scf.iv c1_i32_242 c1_i32_244 k0_t29
  ![1, arg15.toNat]
def k0_off76 (k0_t29 : Fin k0_t29_loop.trips) : Fin 2 → Nat :=
  let c1_i32_242 : BitVec 32 := 1#32
  let c1_i32_244 : BitVec 32 := 1#32
  let arg15 : BitVec 32 := Scf.iv c1_i32_242 c1_i32_244 k0_t29
  let c256_i32_380 : BitVec 32 := 256#32
  let v333 : BitVec 32 := Scalar.muli arg15 c256_i32_380
  let c0_i32_384 : BitVec 32 := 0#32
  ![v333.toNat, 0]
@[reducible] def k0_t30_loop : Scf.Loop 32 :=
  let c1_i32_258 : BitVec 32 := 1#32
  let c31_i32_259 : BitVec 32 := 31#32
  let v232 : BitVec 32 := Scalar.addi c1_i32_258 c31_i32_259
  let c1_i32_260 : BitVec 32 := 1#32
  ⟨c1_i32_258, v232, c1_i32_260⟩
def k0_off77 (k0_t30 : Fin k0_t30_loop.trips) : Fin 2 → Nat :=
  let c0_i32 : BitVec 32 := 0#32
  let c1_i32_258 : BitVec 32 := 1#32
  let c1_i32_260 : BitVec 32 := 1#32
  let arg15 : BitVec 32 := Scf.iv c1_i32_258 c1_i32_260 k0_t30
  ![0, arg15.toNat]
def k0_off78 (k0_t30 : Fin k0_t30_loop.trips) : Fin 2 → Nat :=
  let c4_i32 : BitVec 32 := 4#32
  let c32_i32_377 : BitVec 32 := 32#32
  let c1_i32_258 : BitVec 32 := 1#32
  let c1_i32_260 : BitVec 32 := 1#32
  let arg15 : BitVec 32 := Scf.iv c1_i32_258 c1_i32_260 k0_t30
  let v330 : BitVec 32 := Scalar.subi c32_i32_377 arg15
  ![4, v330.toNat]
def k0_off79 (k0_t30 : Fin k0_t30_loop.trips) : Fin 2 → Nat :=
  let c32_i32_377 : BitVec 32 := 32#32
  let c1_i32_258 : BitVec 32 := 1#32
  let c1_i32_260 : BitVec 32 := 1#32
  let arg15 : BitVec 32 := Scf.iv c1_i32_258 c1_i32_260 k0_t30
  let v330 : BitVec 32 := Scalar.subi c32_i32_377 arg15
  let c256_i32 : BitVec 32 := 256#32
  let v331 : BitVec 32 := Scalar.muli v330 c256_i32
  let c0_i32_380 : BitVec 32 := 0#32
  ![v331.toNat, 0]
def k0_dev12 (d0 : Dev nD) (k0_t30 : Fin k0_t30_loop.trips) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_258 : BitVec 32 := 1#32
  let c1_i32_260 : BitVec 32 := 1#32
  let arg15 : BitVec 32 := Scf.iv c1_i32_258 c1_i32_260 k0_t30
  let v328 : BitVec 32 := Scalar.addi v2 arg15
  let c32_i32_376 : BitVec 32 := 32#32
  let v329 : BitVec 32 := Scalar.remsi v328 c32_i32_376
  let c1_i32_378 : BitVec 32 := 1#32
  let v332 : BitVec 32 := Scalar.muli v329 c1_i32_378
  let v333 : BitVec 32 := Scalar.addi c0_i32_379 v332
  v333.toNat
@[reducible] def k0_t31_loop : Scf.Loop 32 :=
  let c24_i32_262 : BitVec 32 := 24#32
  let c8_i32_263 : BitVec 32 := 8#32
  let v233 : BitVec 32 := Scalar.addi c24_i32_262 c8_i32_263
  let c1_i32_264 : BitVec 32 := 1#32
  ⟨c24_i32_262, v233, c1_i32_264⟩
def k0_off80 (k0_t31 : Fin k0_t31_loop.trips) : Fin 2 → Nat :=
  let c4_i32 : BitVec 32 := 4#32
  let c24_i32_262 : BitVec 32 := 24#32
  let c1_i32_264 : BitVec 32 := 1#32
  let arg15 : BitVec 32 := Scf.iv c24_i32_262 c1_i32_264 k0_t31
  ![4, arg15.toNat]
def k0_off81 (k0_t31 : Fin k0_t31_loop.trips) : Fin 2 → Nat :=
  let c24_i32_262 : BitVec 32 := 24#32
  let c1_i32_264 : BitVec 32 := 1#32
  let arg15 : BitVec 32 := Scf.iv c24_i32_262 c1_i32_264 k0_t31
  let c256_i32 : BitVec 32 := 256#32
  let v328 : BitVec 32 := Scalar.muli arg15 c256_i32
  let c0_i32_379 : BitVec 32 := 0#32
  ![v328.toNat, 0]
@[reducible] def k0_t32_loop : Scf.Loop 32 :=
  let c24_i32_273 : BitVec 32 := 24#32
  let c8_i32_274 : BitVec 32 := 8#32
  let v244 : BitVec 32 := Scalar.addi c24_i32_273 c8_i32_274
  let c1_i32_275 : BitVec 32 := 1#32
  ⟨c24_i32_273, v244, c1_i32_275⟩
def k0_off82 (k0_t32 : Fin k0_t32_loop.trips) : Fin 2 → Nat :=
  let c1_i32_379 : BitVec 32 := 1#32
  let c24_i32_273 : BitVec 32 := 24#32
  let c1_i32_275 : BitVec 32 := 1#32
  let arg15 : BitVec 32 := Scf.iv c24_i32_273 c1_i32_275 k0_t32
  ![1, arg15.toNat]
def k0_off83 (k0_t32 : Fin k0_t32_loop.trips) : Fin 2 → Nat :=
  let c5_i32 : BitVec 32 := 5#32
  let c32_i32_377 : BitVec 32 := 32#32
  let c24_i32_273 : BitVec 32 := 24#32
  let c1_i32_275 : BitVec 32 := 1#32
  let arg15 : BitVec 32 := Scf.iv c24_i32_273 c1_i32_275 k0_t32
  let v330 : BitVec 32 := Scalar.subi c32_i32_377 arg15
  ![5, v330.toNat]
def k0_off84 (k0_t32 : Fin k0_t32_loop.trips) : Fin 2 → Nat :=
  let c32_i32_377 : BitVec 32 := 32#32
  let c24_i32_273 : BitVec 32 := 24#32
  let c1_i32_275 : BitVec 32 := 1#32
  let arg15 : BitVec 32 := Scf.iv c24_i32_273 c1_i32_275 k0_t32
  let v330 : BitVec 32 := Scalar.subi c32_i32_377 arg15
  let c256_i32_378 : BitVec 32 := 256#32
  let v332 : BitVec 32 := Scalar.muli v330 c256_i32_378
  let c0_i32_381 : BitVec 32 := 0#32
  ![v332.toNat, 0]
def k0_off85 (k0_t32 : Fin k0_t32_loop.trips) : Fin 2 → Nat :=
  let c24_i32_273 : BitVec 32 := 24#32
  let c1_i32_275 : BitVec 32 := 1#32
  let arg15 : BitVec 32 := Scf.iv c24_i32_273 c1_i32_275 k0_t32
  let c256_i32 : BitVec 32 := 256#32
  let v331 : BitVec 32 := Scalar.muli arg15 c256_i32
  let c0_i32_382 : BitVec 32 := 0#32
  ![v331.toNat, 0]
def k0_dev13 (d0 : Dev nD) (k0_t32 : Fin k0_t32_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_273 : BitVec 32 := 24#32
  let c1_i32_275 : BitVec 32 := 1#32
  let arg15 : BitVec 32 := Scf.iv c24_i32_273 c1_i32_275 k0_t32
  let v328 : BitVec 32 := Scalar.addi v2 arg15
  let c32_i32_376 : BitVec 32 := 32#32
  let v329 : BitVec 32 := Scalar.remsi v328 c32_i32_376
  let c1_i32_380 : BitVec 32 := 1#32
  let v333 : BitVec 32 := Scalar.muli v329 c1_i32_380
  let v334 : BitVec 32 := Scalar.addi c0_i32 v333
  v334.toNat
@[reducible] def k0_t33_loop : Scf.Loop 32 :=
  let c16_i32_277 : BitVec 32 := 16#32
  let c8_i32_278 : BitVec 32 := 8#32
  let v245 : BitVec 32 := Scalar.addi c16_i32_277 c8_i32_278
  let c1_i32_279 : BitVec 32 := 1#32
  ⟨c16_i32_277, v245, c1_i32_279⟩
def k0_off86 (k0_t33 : Fin k0_t33_loop.trips) : Fin 2 → Nat :=
  let c4_i32 : BitVec 32 := 4#32
  let c16_i32_277 : BitVec 32 := 16#32
  let c1_i32_279 : BitVec 32 := 1#32
  let arg15 : BitVec 32 := Scf.iv c16_i32_277 c1_i32_279 k0_t33
  ![4, arg15.toNat]
def k0_off87 (k0_t33 : Fin k0_t33_loop.trips) : Fin 2 → Nat :=
  let c16_i32_277 : BitVec 32 := 16#32
  let c1_i32_279 : BitVec 32 := 1#32
  let arg15 : BitVec 32 := Scf.iv c16_i32_277 c1_i32_279 k0_t33
  let c256_i32 : BitVec 32 := 256#32
  let v328 : BitVec 32 := Scalar.muli arg15 c256_i32
  let c0_i32_379 : BitVec 32 := 0#32
  ![v328.toNat, 0]
@[reducible] def k0_t34_loop : Scf.Loop 32 :=
  let c16_i32_288 : BitVec 32 := 16#32
  let c8_i32_289 : BitVec 32 := 8#32
  let v256 : BitVec 32 := Scalar.addi c16_i32_288 c8_i32_289
  let c1_i32_290 : BitVec 32 := 1#32
  ⟨c16_i32_288, v256, c1_i32_290⟩
def k0_off88 (k0_t34 : Fin k0_t34_loop.trips) : Fin 2 → Nat :=
  let c1_i32_379 : BitVec 32 := 1#32
  let c16_i32_288 : BitVec 32 := 16#32
  let c1_i32_290 : BitVec 32 := 1#32
  let arg15 : BitVec 32 := Scf.iv c16_i32_288 c1_i32_290 k0_t34
  ![1, arg15.toNat]
def k0_off89 (k0_t34 : Fin k0_t34_loop.trips) : Fin 2 → Nat :=
  let c5_i32 : BitVec 32 := 5#32
  let c32_i32_377 : BitVec 32 := 32#32
  let c16_i32_288 : BitVec 32 := 16#32
  let c1_i32_290 : BitVec 32 := 1#32
  let arg15 : BitVec 32 := Scf.iv c16_i32_288 c1_i32_290 k0_t34
  let v330 : BitVec 32 := Scalar.subi c32_i32_377 arg15
  ![5, v330.toNat]
def k0_off90 (k0_t34 : Fin k0_t34_loop.trips) : Fin 2 → Nat :=
  let c32_i32_377 : BitVec 32 := 32#32
  let c16_i32_288 : BitVec 32 := 16#32
  let c1_i32_290 : BitVec 32 := 1#32
  let arg15 : BitVec 32 := Scf.iv c16_i32_288 c1_i32_290 k0_t34
  let v330 : BitVec 32 := Scalar.subi c32_i32_377 arg15
  let c256_i32_378 : BitVec 32 := 256#32
  let v332 : BitVec 32 := Scalar.muli v330 c256_i32_378
  let c0_i32_381 : BitVec 32 := 0#32
  ![v332.toNat, 0]
def k0_off91 (k0_t34 : Fin k0_t34_loop.trips) : Fin 2 → Nat :=
  let c16_i32_288 : BitVec 32 := 16#32
  let c1_i32_290 : BitVec 32 := 1#32
  let arg15 : BitVec 32 := Scf.iv c16_i32_288 c1_i32_290 k0_t34
  let c256_i32 : BitVec 32 := 256#32
  let v331 : BitVec 32 := Scalar.muli arg15 c256_i32
  let c0_i32_382 : BitVec 32 := 0#32
  ![v331.toNat, 0]
def k0_dev14 (d0 : Dev nD) (k0_t34 : Fin k0_t34_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_288 : BitVec 32 := 16#32
  let c1_i32_290 : BitVec 32 := 1#32
  let arg15 : BitVec 32 := Scf.iv c16_i32_288 c1_i32_290 k0_t34
  let v328 : BitVec 32 := Scalar.addi v2 arg15
  let c32_i32_376 : BitVec 32 := 32#32
  let v329 : BitVec 32 := Scalar.remsi v328 c32_i32_376
  let c1_i32_380 : BitVec 32 := 1#32
  let v333 : BitVec 32 := Scalar.muli v329 c1_i32_380
  let v334 : BitVec 32 := Scalar.addi c0_i32 v333
  v334.toNat
@[reducible] def k0_t35_loop : Scf.Loop 32 :=
  let c8_i32_292 : BitVec 32 := 8#32
  let c8_i32_293 : BitVec 32 := 8#32
  let v257 : BitVec 32 := Scalar.addi c8_i32_292 c8_i32_293
  let c1_i32_294 : BitVec 32 := 1#32
  ⟨c8_i32_292, v257, c1_i32_294⟩
def k0_off92 (k0_t35 : Fin k0_t35_loop.trips) : Fin 2 → Nat :=
  let c4_i32 : BitVec 32 := 4#32
  let c8_i32_292 : BitVec 32 := 8#32
  let c1_i32_294 : BitVec 32 := 1#32
  let arg15 : BitVec 32 := Scf.iv c8_i32_292 c1_i32_294 k0_t35
  ![4, arg15.toNat]
def k0_off93 (k0_t35 : Fin k0_t35_loop.trips) : Fin 2 → Nat :=
  let c8_i32_292 : BitVec 32 := 8#32
  let c1_i32_294 : BitVec 32 := 1#32
  let arg15 : BitVec 32 := Scf.iv c8_i32_292 c1_i32_294 k0_t35
  let c256_i32 : BitVec 32 := 256#32
  let v328 : BitVec 32 := Scalar.muli arg15 c256_i32
  let c0_i32_379 : BitVec 32 := 0#32
  ![v328.toNat, 0]
@[reducible] def k0_t36_loop : Scf.Loop 32 :=
  let c8_i32_303 : BitVec 32 := 8#32
  let c8_i32_304 : BitVec 32 := 8#32
  let v268 : BitVec 32 := Scalar.addi c8_i32_303 c8_i32_304
  let c1_i32_305 : BitVec 32 := 1#32
  ⟨c8_i32_303, v268, c1_i32_305⟩
def k0_off94 (k0_t36 : Fin k0_t36_loop.trips) : Fin 2 → Nat :=
  let c1_i32_379 : BitVec 32 := 1#32
  let c8_i32_303 : BitVec 32 := 8#32
  let c1_i32_305 : BitVec 32 := 1#32
  let arg15 : BitVec 32 := Scf.iv c8_i32_303 c1_i32_305 k0_t36
  ![1, arg15.toNat]
def k0_off95 (k0_t36 : Fin k0_t36_loop.trips) : Fin 2 → Nat :=
  let c5_i32 : BitVec 32 := 5#32
  let c32_i32_377 : BitVec 32 := 32#32
  let c8_i32_303 : BitVec 32 := 8#32
  let c1_i32_305 : BitVec 32 := 1#32
  let arg15 : BitVec 32 := Scf.iv c8_i32_303 c1_i32_305 k0_t36
  let v330 : BitVec 32 := Scalar.subi c32_i32_377 arg15
  ![5, v330.toNat]
def k0_off96 (k0_t36 : Fin k0_t36_loop.trips) : Fin 2 → Nat :=
  let c32_i32_377 : BitVec 32 := 32#32
  let c8_i32_303 : BitVec 32 := 8#32
  let c1_i32_305 : BitVec 32 := 1#32
  let arg15 : BitVec 32 := Scf.iv c8_i32_303 c1_i32_305 k0_t36
  let v330 : BitVec 32 := Scalar.subi c32_i32_377 arg15
  let c256_i32_378 : BitVec 32 := 256#32
  let v332 : BitVec 32 := Scalar.muli v330 c256_i32_378
  let c0_i32_381 : BitVec 32 := 0#32
  ![v332.toNat, 0]
def k0_off97 (k0_t36 : Fin k0_t36_loop.trips) : Fin 2 → Nat :=
  let c8_i32_303 : BitVec 32 := 8#32
  let c1_i32_305 : BitVec 32 := 1#32
  let arg15 : BitVec 32 := Scf.iv c8_i32_303 c1_i32_305 k0_t36
  let c256_i32 : BitVec 32 := 256#32
  let v331 : BitVec 32 := Scalar.muli arg15 c256_i32
  let c0_i32_382 : BitVec 32 := 0#32
  ![v331.toNat, 0]
def k0_dev15 (d0 : Dev nD) (k0_t36 : Fin k0_t36_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_303 : BitVec 32 := 8#32
  let c1_i32_305 : BitVec 32 := 1#32
  let arg15 : BitVec 32 := Scf.iv c8_i32_303 c1_i32_305 k0_t36
  let v328 : BitVec 32 := Scalar.addi v2 arg15
  let c32_i32_376 : BitVec 32 := 32#32
  let v329 : BitVec 32 := Scalar.remsi v328 c32_i32_376
  let c1_i32_380 : BitVec 32 := 1#32
  let v333 : BitVec 32 := Scalar.muli v329 c1_i32_380
  let v334 : BitVec 32 := Scalar.addi c0_i32 v333
  v334.toNat
@[reducible] def k0_t37_loop : Scf.Loop 32 :=
  let c1_i32_307 : BitVec 32 := 1#32
  let c7_i32_308 : BitVec 32 := 7#32
  let v269 : BitVec 32 := Scalar.addi c1_i32_307 c7_i32_308
  let c1_i32_309 : BitVec 32 := 1#32
  ⟨c1_i32_307, v269, c1_i32_309⟩
def k0_off98 (k0_t37 : Fin k0_t37_loop.trips) : Fin 2 → Nat :=
  let c4_i32 : BitVec 32 := 4#32
  let c1_i32_307 : BitVec 32 := 1#32
  let c1_i32_309 : BitVec 32 := 1#32
  let arg15 : BitVec 32 := Scf.iv c1_i32_307 c1_i32_309 k0_t37
  ![4, arg15.toNat]
def k0_off99 (k0_t37 : Fin k0_t37_loop.trips) : Fin 2 → Nat :=
  let c1_i32_307 : BitVec 32 := 1#32
  let c1_i32_309 : BitVec 32 := 1#32
  let arg15 : BitVec 32 := Scf.iv c1_i32_307 c1_i32_309 k0_t37
  let c256_i32 : BitVec 32 := 256#32
  let v328 : BitVec 32 := Scalar.muli arg15 c256_i32
  let c0_i32_379 : BitVec 32 := 0#32
  ![v328.toNat, 0]
@[reducible] def k0_t38_loop : Scf.Loop 32 :=
  let c1_i32_320 : BitVec 32 := 1#32
  let c7_i32_321 : BitVec 32 := 7#32
  let v284 : BitVec 32 := Scalar.addi c1_i32_320 c7_i32_321
  let c1_i32_322 : BitVec 32 := 1#32
  ⟨c1_i32_320, v284, c1_i32_322⟩
def k0_off100 (k0_t38 : Fin k0_t38_loop.trips) : Fin 2 → Nat :=
  let c1_i32_379 : BitVec 32 := 1#32
  let c1_i32_320 : BitVec 32 := 1#32
  let c1_i32_322 : BitVec 32 := 1#32
  let arg15 : BitVec 32 := Scf.iv c1_i32_320 c1_i32_322 k0_t38
  ![1, arg15.toNat]
def k0_off101 (k0_t38 : Fin k0_t38_loop.trips) : Fin 2 → Nat :=
  let c5_i32 : BitVec 32 := 5#32
  let c32_i32_377 : BitVec 32 := 32#32
  let c1_i32_320 : BitVec 32 := 1#32
  let c1_i32_322 : BitVec 32 := 1#32
  let arg15 : BitVec 32 := Scf.iv c1_i32_320 c1_i32_322 k0_t38
  let v330 : BitVec 32 := Scalar.subi c32_i32_377 arg15
  ![5, v330.toNat]
def k0_off102 (k0_t38 : Fin k0_t38_loop.trips) : Fin 2 → Nat :=
  let c32_i32_377 : BitVec 32 := 32#32
  let c1_i32_320 : BitVec 32 := 1#32
  let c1_i32_322 : BitVec 32 := 1#32
  let arg15 : BitVec 32 := Scf.iv c1_i32_320 c1_i32_322 k0_t38
  let v330 : BitVec 32 := Scalar.subi c32_i32_377 arg15
  let c256_i32_378 : BitVec 32 := 256#32
  let v332 : BitVec 32 := Scalar.muli v330 c256_i32_378
  let c0_i32_381 : BitVec 32 := 0#32
  ![v332.toNat, 0]
def k0_off103 (k0_t38 : Fin k0_t38_loop.trips) : Fin 2 → Nat :=
  let c1_i32_320 : BitVec 32 := 1#32
  let c1_i32_322 : BitVec 32 := 1#32
  let arg15 : BitVec 32 := Scf.iv c1_i32_320 c1_i32_322 k0_t38
  let c256_i32 : BitVec 32 := 256#32
  let v331 : BitVec 32 := Scalar.muli arg15 c256_i32
  let c0_i32_382 : BitVec 32 := 0#32
  ![v331.toNat, 0]
def k0_dev16 (d0 : Dev nD) (k0_t38 : Fin k0_t38_loop.trips) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_320 : BitVec 32 := 1#32
  let c1_i32_322 : BitVec 32 := 1#32
  let arg15 : BitVec 32 := Scf.iv c1_i32_320 c1_i32_322 k0_t38
  let v328 : BitVec 32 := Scalar.addi v2 arg15
  let c32_i32_376 : BitVec 32 := 32#32
  let v329 : BitVec 32 := Scalar.remsi v328 c32_i32_376
  let c1_i32_380 : BitVec 32 := 1#32
  let v333 : BitVec 32 := Scalar.muli v329 c1_i32_380
  let v334 : BitVec 32 := Scalar.addi c0_i32 v333
  v334.toNat
@[reducible] def k0_t39_loop : Scf.Loop 32 :=
  let c1_i32_324 : BitVec 32 := 1#32
  let c7_i32_325 : BitVec 32 := 7#32
  let v285 : BitVec 32 := Scalar.addi c1_i32_324 c7_i32_325
  let c1_i32_326 : BitVec 32 := 1#32
  ⟨c1_i32_324, v285, c1_i32_326⟩
def k0_off104 (k0_t39 : Fin k0_t39_loop.trips) : Fin 2 → Nat :=
  let c5_i32 : BitVec 32 := 5#32
  let c1_i32_324 : BitVec 32 := 1#32
  let c1_i32_326 : BitVec 32 := 1#32
  let arg15 : BitVec 32 := Scf.iv c1_i32_324 c1_i32_326 k0_t39
  ![5, arg15.toNat]
def k0_off105 (k0_t39 : Fin k0_t39_loop.trips) : Fin 2 → Nat :=
  let c1_i32_324 : BitVec 32 := 1#32
  let c1_i32_326 : BitVec 32 := 1#32
  let arg15 : BitVec 32 := Scf.iv c1_i32_324 c1_i32_326 k0_t39
  let c256_i32 : BitVec 32 := 256#32
  let v328 : BitVec 32 := Scalar.muli arg15 c256_i32
  let c0_i32_379 : BitVec 32 := 0#32
  ![v328.toNat, 0]
@[reducible] def k0_t40_loop : Scf.Loop 32 :=
  let c8_i32_335 : BitVec 32 := 8#32
  let c8_i32_336 : BitVec 32 := 8#32
  let v295 : BitVec 32 := Scalar.addi c8_i32_335 c8_i32_336
  let c1_i32_337 : BitVec 32 := 1#32
  ⟨c8_i32_335, v295, c1_i32_337⟩
def k0_off106 (k0_t40 : Fin k0_t40_loop.trips) : Fin 2 → Nat :=
  let c5_i32 : BitVec 32 := 5#32
  let c8_i32_335 : BitVec 32 := 8#32
  let c1_i32_337 : BitVec 32 := 1#32
  let arg15 : BitVec 32 := Scf.iv c8_i32_335 c1_i32_337 k0_t40
  ![5, arg15.toNat]
def k0_off107 (k0_t40 : Fin k0_t40_loop.trips) : Fin 2 → Nat :=
  let c8_i32_335 : BitVec 32 := 8#32
  let c1_i32_337 : BitVec 32 := 1#32
  let arg15 : BitVec 32 := Scf.iv c8_i32_335 c1_i32_337 k0_t40
  let c256_i32 : BitVec 32 := 256#32
  let v328 : BitVec 32 := Scalar.muli arg15 c256_i32
  let c0_i32_379 : BitVec 32 := 0#32
  ![v328.toNat, 0]
@[reducible] def k0_t41_loop : Scf.Loop 32 :=
  let c16_i32_346 : BitVec 32 := 16#32
  let c8_i32_347 : BitVec 32 := 8#32
  let v305 : BitVec 32 := Scalar.addi c16_i32_346 c8_i32_347
  let c1_i32_348 : BitVec 32 := 1#32
  ⟨c16_i32_346, v305, c1_i32_348⟩
def k0_off108 (k0_t41 : Fin k0_t41_loop.trips) : Fin 2 → Nat :=
  let c5_i32 : BitVec 32 := 5#32
  let c16_i32_346 : BitVec 32 := 16#32
  let c1_i32_348 : BitVec 32 := 1#32
  let arg15 : BitVec 32 := Scf.iv c16_i32_346 c1_i32_348 k0_t41
  ![5, arg15.toNat]
def k0_off109 (k0_t41 : Fin k0_t41_loop.trips) : Fin 2 → Nat :=
  let c16_i32_346 : BitVec 32 := 16#32
  let c1_i32_348 : BitVec 32 := 1#32
  let arg15 : BitVec 32 := Scf.iv c16_i32_346 c1_i32_348 k0_t41
  let c256_i32 : BitVec 32 := 256#32
  let v328 : BitVec 32 := Scalar.muli arg15 c256_i32
  let c0_i32_379 : BitVec 32 := 0#32
  ![v328.toNat, 0]
@[reducible] def k0_t42_loop : Scf.Loop 32 :=
  let c24_i32_357 : BitVec 32 := 24#32
  let c8_i32_358 : BitVec 32 := 8#32
  let v315 : BitVec 32 := Scalar.addi c24_i32_357 c8_i32_358
  let c1_i32_359 : BitVec 32 := 1#32
  ⟨c24_i32_357, v315, c1_i32_359⟩
def k0_off110 (k0_t42 : Fin k0_t42_loop.trips) : Fin 2 → Nat :=
  let c5_i32 : BitVec 32 := 5#32
  let c24_i32_357 : BitVec 32 := 24#32
  let c1_i32_359 : BitVec 32 := 1#32
  let arg15 : BitVec 32 := Scf.iv c24_i32_357 c1_i32_359 k0_t42
  ![5, arg15.toNat]
def k0_off111 (k0_t42 : Fin k0_t42_loop.trips) : Fin 2 → Nat :=
  let c24_i32_357 : BitVec 32 := 24#32
  let c1_i32_359 : BitVec 32 := 1#32
  let arg15 : BitVec 32 := Scf.iv c24_i32_357 c1_i32_359 k0_t42
  let c256_i32 : BitVec 32 := 256#32
  let v328 : BitVec 32 := Scalar.muli arg15 c256_i32
  let c0_i32_379 : BitVec 32 := 0#32
  ![v328.toNat, 0]
@[reducible] def k0_t43_loop : Scf.Loop 32 :=
  let c1_i32_368 : BitVec 32 := 1#32
  let c31_i32_369 : BitVec 32 := 31#32
  let v325 : BitVec 32 := Scalar.addi c1_i32_368 c31_i32_369
  let c1_i32_370 : BitVec 32 := 1#32
  ⟨c1_i32_368, v325, c1_i32_370⟩
def k0_off112 (k0_t43 : Fin k0_t43_loop.trips) : Fin 2 → Nat :=
  let c0_i32 : BitVec 32 := 0#32
  let c1_i32_368 : BitVec 32 := 1#32
  let c1_i32_370 : BitVec 32 := 1#32
  let arg15 : BitVec 32 := Scf.iv c1_i32_368 c1_i32_370 k0_t43
  ![0, arg15.toNat]
def k0_off113 (k0_t43 : Fin k0_t43_loop.trips) : Fin 2 → Nat :=
  let c1_i32_381 : BitVec 32 := 1#32
  let c1_i32_368 : BitVec 32 := 1#32
  let c1_i32_370 : BitVec 32 := 1#32
  let arg15 : BitVec 32 := Scf.iv c1_i32_368 c1_i32_370 k0_t43
  ![1, arg15.toNat]
def k0_off114 (k0_t43 : Fin k0_t43_loop.trips) : Fin 2 → Nat :=
  let c1_i32_368 : BitVec 32 := 1#32
  let c1_i32_370 : BitVec 32 := 1#32
  let arg15 : BitVec 32 := Scf.iv c1_i32_368 c1_i32_370 k0_t43
  let c256_i32_380 : BitVec 32 := 256#32
  let v333 : BitVec 32 := Scalar.muli arg15 c256_i32_380
  let c0_i32_384 : BitVec 32 := 0#32
  ![v333.toNat, 0]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S8192x256 : Shape := ⟨2, ![8192, 256]⟩
abbrev S256x16384 : Shape := ⟨2, ![256, 16384]⟩
abbrev S16384x256 : Shape := ⟨2, ![16384, 256]⟩
abbrev S8192x16384 : Shape := ⟨2, ![8192, 16384]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x16384, .bf16⟩
  | .hbm, ⟨2, _⟩ => ⟨S256x16384, .bf16⟩
  | .hbm, ⟨3, _⟩ => ⟨S256x16384, .bf16⟩
  | .hbm, ⟨4, _⟩ => ⟨S16384x256, .bf16⟩
  | .hbm, ⟨5, _⟩ => ⟨S16384x256, .bf16⟩
  | .hbm, ⟨6, _⟩ => ⟨S16384x256, .bf16⟩
  | .hbm, ⟨7, _⟩ => ⟨S8192x16384, .f32⟩
  | .hbm, ⟨8, _⟩ => ⟨S8192x16384, .bf16⟩
  | .hbm, ⟨9, _⟩ => ⟨S_, .bf16⟩
  | .hbm, ⟨10, _⟩ => ⟨S8192x16384, .bf16⟩
  | .hbm, ⟨11, _⟩ => ⟨S8192x16384, .bf16⟩
  | .hbm, ⟨12, _⟩ => ⟨S8192x256, .f32⟩
  | .hbm, ⟨13, _⟩ => ⟨S8192x256, .bf16⟩
  | .hbm, ⟨14, _⟩ => ⟨S8192x16384, .f32⟩
  | .hbm, ⟨15, _⟩ => ⟨S8192x16384, .bf16⟩
  | .hbm, ⟨16, _⟩ => ⟨S_, .bf16⟩
  | .hbm, ⟨17, _⟩ => ⟨S8192x16384, .bf16⟩
  | .hbm, ⟨18, _⟩ => ⟨S8192x16384, .bf16⟩
  | .hbm, ⟨19, _⟩ => ⟨S8192x256, .f32⟩
  | .hbm, ⟨20, _⟩ => ⟨S8192x256, .bf16⟩
  | .hbm, ⟨21, _⟩ => ⟨S8192x16384, .f32⟩
  | .hbm, ⟨22, _⟩ => ⟨S8192x16384, .bf16⟩
  | .hbm, ⟨23, _⟩ => ⟨S_, .bf16⟩
  | .hbm, ⟨24, _⟩ => ⟨S8192x16384, .bf16⟩
  | .hbm, ⟨25, _⟩ => ⟨S8192x16384, .bf16⟩
  | .hbm, ⟨26, _⟩ => ⟨S8192x256, .f32⟩
  | .hbm, ⟨27, _⟩ => ⟨S8192x256, .bf16⟩
  | .hbm, ⟨28, _⟩ => ⟨S8192x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Slots.lean ====
/-
# Rows of the 8192×256 scratch buffers

The three large scratch buffers are each 32 slots of 256 rows (or 4 groups of 2048 rows). This file has the sets of
their elements by rows, the cut of a run of rows out of contents, the contents made of a family of blocks, and what
an access through a rectangle of whole rows sees of them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves
public import Idealize.SL.BI.BigOpNat

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Sets of rows -/

/-- The elements of rows `a ≤ row < b`. -/
def rows (a b : ℕ) : Finset S8192x256.Idx := Finset.univ.filter fun i => a ≤ (i 0).val ∧ (i 0).val < b

theorem mem_rows {a b : ℕ} {i : S8192x256.Idx} : i ∈ rows a b ↔ a ≤ (i 0).val ∧ (i 0).val < b := by
  simp only [rows, Finset.mem_filter, Finset.mem_univ, true_and]

theorem rows_union {a b d : ℕ} (h₁ : a ≤ b) (h₂ : b ≤ d) : rows a b ∪ rows b d = rows a d := by
  ext i; simp only [Finset.mem_union, mem_rows]; omega

theorem rows_disjoint {a b b' d : ℕ} (h : b ≤ b') : Disjoint (rows a b) (rows b' d) := by
  rw [Finset.disjoint_left]; intro i h₁ h₂; rw [mem_rows] at h₁ h₂; omega

theorem rows_empty {a b : ℕ} (h : b ≤ a) : rows a b = ∅ := by
  ext i; simp only [mem_rows, Finset.notMem_empty, iff_false]; omega

theorem rows_all : rows 0 8192 = Finset.univ := by
  ext i; simp only [mem_rows, Finset.mem_univ, iff_true]; have h : (i 0).val < 8192 := (i 0).isLt; omega

theorem rows_subset {a b a' b' : ℕ} (h₁ : a' ≤ a) (h₂ : b ≤ b') : rows a b ⊆ rows a' b' := by
  intro i; simp only [mem_rows]; omega

/-- A rectangle of whole rows covers those rows' elements. -/
theorem rect_rows (h : ℕ) (lo : ℕ) (inb : ∀ a, (![lo, 0] : Fin 2 → ℕ) a + (![h, 256] : Fin 2 → ℕ) a ≤ S8192x256.size a) :
    (Rect.unit (s := S8192x256) ![lo, 0] ![h, 256] inb).set = rows lo (lo + h) := by
  ext i
  rw [Rect.mem_set_unit, mem_rows]
  constructor
  · intro hi; exact hi 0
  · intro hi a
    have h1 : (i 1).val < 256 := (i 1).isLt
    fin_cases a
    · exact hi
    · show 0 ≤ (i 1).val ∧ (i 1).val < 0 + 256; omega

/-! ## Cutting and gluing contents -/

section Contents
variable {α : Type}

/-- The element in row `n` (taken modulo the row count) and column `q`. -/
def elt (n : ℕ) (q : Fin 256) : S8192x256.Idx := fun a => match a with
  | ⟨0, _⟩ => (⟨n % 8192, Nat.mod_lt _ (by decide)⟩ : Fin 8192)
  | ⟨1, _⟩ => q

/-- Row `n` (modulo `h`), column `q` of a block of `h` rows. -/
def sub (h : ℕ) (hh : 0 < h) (n : ℕ) (q : Fin 256) : (⟨2, ![h, 256]⟩ : Shape).Idx := fun a => match a with
  | ⟨0, _⟩ => (⟨n % h, Nat.mod_lt _ hh⟩ : Fin h)
  | ⟨1, _⟩ => q

/-- The `h` rows of `f` from row `lo` on. -/
def cut (h lo : ℕ) (f : S8192x256.Idx → α) : (⟨2, ![h, 256]⟩ : Shape).Idx → α := fun x => f (elt (lo + (x 0).val) (x 1))

/-- The contents whose block `r` of `h` rows is `g r`. -/
def glue (h : ℕ) (hh : 0 < h) (g : ℕ → (⟨2, ![h, 256]⟩ : Shape).Idx → α) : S8192x256.Idx → α :=
  fun i => g ((i 0).val / h) (sub h hh (i 0).val (i 1))

theorem emb_eq_elt (h lo : ℕ) (inb : ∀ a, (![lo, 0] : Fin 2 → ℕ) a + (![h, 256] : Fin 2 → ℕ) a ≤ S8192x256.size a)
    (x : (⟨2, ![h, 256]⟩ : Shape).Idx) :
    (Rect.unit (s := S8192x256) ![lo, 0] ![h, 256] inb).emb x = elt (lo + (x 0).val) (x 1) := by
  have h0 : lo + h ≤ 8192 := inb 0
  have hx : (x 0).val < h := (x 0).isLt
  funext a; apply Fin.ext
  rw [Rect.emb_apply]
  match a with
  | ⟨0, _⟩ => show lo + 1 * (x 0).val = (lo + (x 0).val) % 8192; omega
  | ⟨1, _⟩ => show 0 + 1 * (x 1).val = (x 1).val; omega

/-- Reading contents through a rectangle of whole rows cuts those rows. -/
theorem cut_emb (h lo : ℕ) (inb : ∀ a, (![lo, 0] : Fin 2 → ℕ) a + (![h, 256] : Fin 2 → ℕ) a ≤ S8192x256.size a)
    (f : S8192x256.Idx → α) :
    (fun x => f ((Rect.unit (s := S8192x256) ![lo, 0] ![h, 256] inb).emb x)) = cut h lo f :=
  funext fun x => congrArg f (emb_eq_elt h lo inb x)

theorem sub_self (h : ℕ) (hh : 0 < h) (r : ℕ) (x : (⟨2, ![h, 256]⟩ : Shape).Idx) (n : ℕ) (hn : n = h * r + (x 0).val) :
    n / h = r ∧ sub h hh n (x 1) = x := by
  have hx : (x 0).val < h := (x 0).isLt
  subst hn
  constructor
  · rw [Nat.mul_add_div hh, Nat.div_eq_of_lt hx, Nat.add_zero]
  · funext a; apply Fin.ext
    match a with
    | ⟨0, _⟩ => show (h * r + (x 0).val) % h = (x 0).val; rw [Nat.mul_add_mod, Nat.mod_eq_of_lt hx]
    | ⟨1, _⟩ => rfl

theorem glue_elt (h : ℕ) (hh : 0 < h) (g : ℕ → (⟨2, ![h, 256]⟩ : Shape).Idx → α) (r : ℕ) (hr : h * r + h ≤ 8192)
    (x : (⟨2, ![h, 256]⟩ : Shape).Idx) : glue h hh g (elt (h * r + (x 0).val) (x 1)) = g r x := by
  have hx : (x 0).val < h := (x 0).isLt
  have e : ((elt (h * r + (x 0).val) (x 1)) 0).val = h * r + (x 0).val := by
    show (h * r + (x 0).val) % 8192 = _; exact Nat.mod_eq_of_lt (by omega)
  obtain ⟨h1, h2⟩ := sub_self h hh r x _ e
  show g (((elt (h * r + (x 0).val) (x 1)) 0).val / h) (sub h hh ((elt (h * r + (x 0).val) (x 1)) 0).val (x 1)) = _
  rw [h1, h2]

/-- Block `r` of glued contents is the `r`-th block. -/
theorem cut_glue (h : ℕ) (hh : 0 < h) (g : ℕ → (⟨2, ![h, 256]⟩ : Shape).Idx → α) (r : ℕ) (hr : h * r + h ≤ 8192) :
    cut h (h * r) (glue h hh g) = g r := funext fun x => glue_elt h hh g r hr x

/-- Contents that agree with `f` on a rectangle of rows: any whose values there are `f`'s cut. -/
theorem eq_on_rows (h lo : ℕ) (inb : ∀ a, (![lo, 0] : Fin 2 → ℕ) a + (![h, 256] : Fin 2 → ℕ) a ≤ S8192x256.size a)
    (f g : S8192x256.Idx → α)
    (hx : ∀ x, g ((Rect.unit (s := S8192x256) ![lo, 0] ![h, 256] inb).emb x) = cut h lo f x) :
    ∀ i ∈ rows lo (lo + h), g i = f i := by
  intro i hi
  rw [← rect_rows h lo inb, ← Rect.map_emb_univ, Finset.mem_map] at hi
  obtain ⟨x, -, rfl⟩ := hi
  rw [hx x]; exact (congrFun (cut_emb h lo inb f) x).symm

end Contents

/-! ## Accesses through rows of the three buffers -/

variable {F : FTy → Type} [FloatOps F]

/-- Contents of one of the three large scratch buffers. -/
abbrev Big (F : FTy → Type) : Type := Vec F S8192x256 .bf16

abbrev xM : Memref sig .tc .vmem S8192x256 .bf16 := Memref.whole cc0_scratch0
abbrev pM : Memref sig .tc .vmem S8192x256 .bf16 := Memref.whole cc0_scratch1
abbrev rM : Memref sig .tc .vmem S8192x256 .bf16 := Memref.whole cc0_scratch2
abbrev bM : Memref sig .tc .vmem S256x256 .bf16 := Memref.whole cc0_scratch3
abbrev aM : Memref sig .tc .vmem S256x256 .f32 := Memref.whole cc0_scratch4

/-- A row rectangle of `h` rows from `lo` on. -/
abbrev rr (h lo : ℕ) (inb : ∀ a, (![lo, 0] : Fin 2 → ℕ) a + (![h, 256] : Fin 2 → ℕ) a ≤ S8192x256.size a) : Rect S8192x256 :=
  Rect.unit (s := S8192x256) ![lo, 0] ![h, 256] inb

section Access
variable (h lo : ℕ) (inb : ∀ a, (![lo, 0] : Fin 2 → ℕ) a + (![h, 256] : Fin 2 → ℕ) a ≤ S8192x256.size a)

omit [FloatOps F] in
theorem x_set : (xM.view.slice (rr h lo inb)).set = rows lo (lo + h) := (View.set_slice_whole _ _).trans (rect_rows h lo inb)
omit [FloatOps F] in
theorem p_set : (pM.view.slice (rr h lo inb)).set = rows lo (lo + h) := (View.set_slice_whole _ _).trans (rect_rows h lo inb)
omit [FloatOps F] in
theorem r_set : (rM.view.slice (rr h lo inb)).set = rows lo (lo + h) := (View.set_slice_whole _ _).trans (rect_rows h lo inb)

omit [FloatOps F] in
theorem x_read (f : Big F) : (xM.view.slice (rr h lo inb)).read (Elt F) f = cut h lo f := cut_emb h lo inb f
omit [FloatOps F] in
theorem p_read (f : Big F) : (pM.view.slice (rr h lo inb)).read (Elt F) f = cut h lo f := cut_emb h lo inb f
omit [FloatOps F] in
theorem x_readAt (f : Big F) : xM.view.readAt (Elt F) (rr h lo inb).toLoadRect f = cut h lo f := cut_emb h lo inb f
omit [FloatOps F] in
theorem r_readAt (f : Big F) : rM.view.readAt (Elt F) (rr h lo inb).toLoadRect f = cut h lo f := cut_emb h lo inb f

omit [FloatOps F] in
theorem x_write (f₀ f : Big F) (w : (⟨2, ![h, 256]⟩ : Shape).Idx → Elt F .bf16) (hw : w = cut h lo f) :
    ∀ i ∈ rows lo (lo + h), ((xM.view.slice (rr h lo inb)).write (Elt F) f₀ w Finset.univ : Big F) i = f i :=
  eq_on_rows h lo inb f _ fun x => by
    subst hw; exact View.write_emb_of_mem (v := xM.view.slice (rr h lo inb)) f₀ (cut h lo f) (Finset.mem_univ x)
omit [FloatOps F] in
theorem p_write (f₀ f : Big F) (w : (⟨2, ![h, 256]⟩ : Shape).Idx → Elt F .bf16) (hw : w = cut h lo f) :
    ∀ i ∈ rows lo (lo + h), ((pM.view.slice (rr h lo inb)).write (Elt F) f₀ w Finset.univ : Big F) i = f i :=
  eq_on_rows h lo inb f _ fun x => by
    subst hw; exact View.write_emb_of_mem (v := pM.view.slice (rr h lo inb)) f₀ (cut h lo f) (Finset.mem_univ x)
omit [FloatOps F] in
theorem r_write (f₀ f : Big F) (w : (⟨2, ![h, 256]⟩ : Shape).Idx → Elt F .bf16) (hw : w = cut h lo f) :
    ∀ i ∈ rows lo (lo + h), ((rM.view.slice (rr h lo inb)).write (Elt F) f₀ w Finset.univ : Big F) i = f i :=
  eq_on_rows h lo inb f _ fun x => by
    subst hw; exact View.write_emb_of_mem (v := rM.view.slice (rr h lo inb)) f₀ (cut h lo f) (Finset.mem_univ x)

end Access

end Cert.MlpProof

end
-- ==== Proof.Contents.lean ====
/-
# What the buffers hold

Per layer: each device's block of the activations, the activations as a device collects them, the products with its
slice of the weights, the partial sums as a device receives them, and its running sum.
-/
module

public import proofs.«01_k».proof.Proof.Slots
public import Idealize.ShloMosaic.Lib.Pipeline.Value

@[expose] public section

noncomputable section

namespace Cert.MlpProof

open Cert.KernelIdeal Cert.KernelIdeal.Gen
open Idealize.ShloMosaic Idealize.ShloMosaic.TcCoe

variable {F : FTy → Type} [FloatOps F]

set_option backward.proofsInPublic true in
/-- The device `k` places further round the ring of 32. -/
def peer (c : Dev nD) (k : ℕ) : Dev nD := ⟨(c.val + k) % 32, Nat.mod_lt _ (by decide)⟩

theorem peer_peer (c : Dev nD) (a b : ℕ) : peer (peer c a) b = peer c (a + b) :=
  Fin.ext (by show ((c.val + a) % 32 + b) % 32 = (c.val + (a + b)) % 32; omega)
theorem peer_zero (c : Dev nD) : peer c 0 = c :=
  Fin.ext (by have h : c.val < 32 := c.isLt; show (c.val + 0) % 32 = c.val; omega)
theorem peer_32 (c : Dev nD) : peer c 32 = c :=
  Fin.ext (by have h : c.val < 32 := c.isLt; show (c.val + 32) % 32 = c.val; omega)
theorem peer_back (c : Dev nD) {k : ℕ} (hk : k ≤ 32) : peer (peer c k) (32 - k) = c := by
  rw [peer_peer, Nat.add_sub_cancel' hk, peer_32]

/-- The inputs: each device's block of the activations and its slices of the three layers' weights. -/
structure Ins (F : FTy → Type) where
  x : Dev nD → Vec F S256x256 .bf16
  wi : ℕ → Dev nD → Vec F S256x512 .bf16
  wo : ℕ → Dev nD → Vec F S512x256 .bf16

/-! ## The arithmetic of one device -/

/-- 2048 rows times the first weight slice. -/
def hid (wi : FVec F S256x512 .bf16) (v : FVec F S2048x256 .bf16) : FVec F S2048x512 .f32 :=
  matmul dot_S2048x256_S256x512_S2048x512_1_0_0_1_n_n none v wi (constant S2048x512 .f32 0x00000000#32)
/-- The positive part, rounded, times the second weight slice. -/
def fin (wo : FVec F S512x256 .bf16) (h : FVec F S2048x512 .f32) : FVec F S2048x256 .f32 :=
  matmul dot_S2048x512_S512x256_S2048x256_1_0_0_1_n_n none
    (truncf .bf16 (maximumf h (broadcast S2048x512 (Scalar.ofBits .f32 0x00000000#32))) bitsLt_bf16_f32) wo
    (constant S2048x256 .f32 0x00000000#32)
def gout (wi : FVec F S256x512 .bf16) (wo : FVec F S512x256 .bf16) (v : FVec F S2048x256 .bf16) : FVec F S2048x256 .f32 :=
  fin wo (hid wi v)
def goutb (wi : FVec F S256x512 .bf16) (wo : FVec F S512x256 .bf16) (v : FVec F S2048x256 .bf16) : FVec F S2048x256 .bf16 :=
  truncf .bf16 (gout wi wo v) bitsLt_bf16_f32
def top (v : FVec F S2048x256 .f32) : FVec F S256x256 .f32 := extractStridedSlice S256x256 ![0, 0] v slices_S2048x256_o0_0_S256x256
/-- Seven received blocks added on. -/
def add7 (a : FVec F S256x256 .f32) (v : FVec F S1792x256 .bf16) : FVec F S256x256 .f32 :=
  addf a (multiReduction .add [0] S256x256 (extf .f32 (shapeCast S7x256x256 v shapeCasts_S1792x256_S7x256x256) bitsLt_bf16_f32)
    0x00000000#32 reduces_S7x256x256_S256x256 (.inl rfl) rfl)
/-- Eight received blocks added on. -/
def add8 (a : FVec F S256x256 .f32) (v : FVec F S2048x256 .bf16) : FVec F S256x256 .f32 :=
  addf a (multiReduction .add [0] S256x256 (extf .f32 (shapeCast S8x256x256 v shapeCasts_S2048x256_S8x256x256) bitsLt_bf16_f32)
    0x00000000#32 reduces_S8x256x256_S256x256 (.inl rfl) rfl)
def rnd (a : FVec F S256x256 .f32) : FVec F S256x256 .bf16 := truncf .bf16 a bitsLt_bf16_f32

/-! ## One layer over all devices -/

section Layer
variable (wi : Dev nD → Vec F S256x512 .bf16) (wo : Dev nD → Vec F S512x256 .bf16) (x : Dev nD → Vec F S256x256 .bf16)

/-- Slot `r` of the collected activations is the block of the device `r` places further. -/
def layXF (c : Dev nD) : Big F := glue 256 (by decide) fun r => x (peer c r)
def layPT (c : Dev nD) : Big F := glue 2048 (by decide) fun g => goutb (wi c) (wo c) (cut 2048 (2048 * g) (layXF x c))
/-- Slot `k` received is the other device's product of this device's rows. -/
def layRS (c : Dev nD) : Big F := glue 256 (by decide) fun k => cut 256 (256 * (32 - k)) (layPT wi wo x (peer c k))
/-- The running sum after its own rows and `n` groups of received blocks. -/
def layA (c : Dev nD) : ℕ → FVec F S256x256 .f32
  | 0 => top (gout (wi c) (wo c) (cut 2048 0 (layXF x c)))
  | 1 => add7 (layA c 0) (cut 1792 256 (layRS wi wo x c))
  | n + 2 => add8 (layA c (n + 1)) (cut 2048 (2048 * (n + 1)) (layRS wi wo x c))

end Layer

variable (I : Ins F)

/-- Each device's block of the activations at the start of layer `l`. -/
def X : ℕ → Dev nD → Vec F S256x256 .bf16
  | 0 => I.x
  | l + 1 => fun c => rnd (layA (I.wi l) (I.wo l) (X l) c 4)
def XF (l : ℕ) (c : Dev nD) : Big F := layXF (X I l) c
def PT (l : ℕ) (c : Dev nD) : Big F := layPT (I.wi l) (I.wo l) (X I l) c
def RS (l : ℕ) (c : Dev nD) : Big F := layRS (I.wi l) (I.wo l) (X I l) c
def Acc (l : ℕ) (c : Dev nD) (n : ℕ) : FVec F S256x256 .f32 := layA (I.wi l) (I.wo l) (X I l) c n

theorem X_succ (l : ℕ) (c : Dev nD) : X I (l + 1) c = rnd (Acc I l c 4) := rfl
theorem cut_XF (l : ℕ) (c : Dev nD) {r : ℕ} (hr : r < 32) : cut 256 (256 * r) (XF I l c) = X I l (peer c r) :=
  cut_glue 256 (by decide) (fun r => X I l (peer c r)) r (by omega)
theorem cut_PT (l : ℕ) (c : Dev nD) {g : ℕ} (hg : g < 4) :
    cut 2048 (2048 * g) (PT I l c) = goutb (I.wi l c) (I.wo l c) (cut 2048 (2048 * g) (XF I l c)) :=
  cut_glue 2048 (by decide) (fun g => goutb (I.wi l c) (I.wo l c) (cut 2048 (2048 * g) (XF I l c))) g (by omega)
theorem cut_RS (l : ℕ) (c : Dev nD) {k : ℕ} (hk : k < 32) : cut 256 (256 * k) (RS I l c) = cut 256 (256 * (32 - k)) (PT I l (peer c k)) :=
  cut_glue 256 (by decide) (fun k => cut 256 (256 * (32 - k)) (PT I l (peer c k))) k (by omega)
theorem Acc_one (l : ℕ) (c : Dev nD) : Acc I l c 1 = add7 (Acc I l c 0) (cut 1792 256 (RS I l c)) := rfl
theorem Acc_step (l : ℕ) (c : Dev nD) (n : ℕ) : Acc I l c (n + 2) = add8 (Acc I l c (n + 1)) (cut 2048 (2048 * (n + 1)) (RS I l c)) := rfl

/-! ## The kernel's payloads are these -/

theorem pay1_eq (v : FVec F S256x256 .f32) : k0_pay1 v = v := shapeCast_self _ _
theorem pay2_eq (v : Vec F S256x256 .bf16) : k0_pay2 v = v := (shapeCast_self _ _).trans (shapeCast_self _ _)
theorem pay3_eq (v : Vec F S256x512 .bf16) : k0_pay3 v = v := shapeCast_self _ _
theorem pay4_eq (v : Vec F S512x256 .bf16) : k0_pay4 v = v := shapeCast_self _ _
theorem pay5_eq (v : Vec F S256x256 .bf16) : k0_pay5 v = v := shapeCast_self _ _
theorem pay6_eq (wi : Vec F S256x512 .bf16) (v : Vec F S2048x256 .bf16) : k0_pay6 wi v = hid wi v := by
  show hid (k0_pay3 wi) v = _; rw [pay3_eq]
theorem pay7_eq (wo : FVec F S512x256 .bf16) (h : FVec F S2048x512 .f32) :
    k0_pay7 wo h = truncf .bf16 (fin wo h) bitsLt_bf16_f32 := shapeCast_self _ _
theorem pay8_eq (wi : FVec F S256x512 .bf16) (wo : FVec F S512x256 .bf16) (v : Vec F S2048x256 .bf16) : k0_pay8 wi wo v = goutb wi wo v :=
  shapeCast_self _ _
theorem pay9_eq (wi : FVec F S256x512 .bf16) (v : Vec F S2048x256 .bf16) : k0_pay9 wi v = hid wi v := rfl
theorem pay10_eq (wo : FVec F S512x256 .bf16) (h : FVec F S2048x512 .f32) :
    k0_pay10 wo h = truncf .bf16 (fin wo h) bitsLt_bf16_f32 := shapeCast_self _ _
theorem pay12_eq (wi : FVec F S256x512 .bf16) (wo : FVec F S512x256 .bf16) (v : Vec F S2048x256 .bf16) : k0_pay12 wi wo v = goutb wi wo v :=
  shapeCast_self _ _
theorem pay13_eq (wi : FVec F S256x512 .bf16) (wo : FVec F S512x256 .bf16) (v : Vec F S2048x256 .bf16) : k0_pay13 wi wo v = top (gout wi wo v) :=
  shapeCast_self _ _
theorem pay14_eq (a : Vec F S256x256 .f32) (v : Vec F S1792x256 .bf16) : k0_pay14 a v = add7 a v := shapeCast_self _ _
theorem pay15_eq (a : Vec F S256x256 .f32) (v : Vec F S2048x256 .bf16) : k0_pay15 a v = add8 a v := shapeCast_self _ _
theorem pay16_eq (a : Vec F S256x256 .f32) (v : Vec F S2048x256 .bf16) : k0_pay16 a v = add8 a v := rfl
theorem pay17_eq (v : FVec F S256x256 .f32) : k0_pay17 v = v := shapeCast_self _ _
theorem pay18_eq (a : Vec F S256x256 .f32) (v : Vec F S2048x256 .bf16) : k0_pay18 a v = add8 a v := shapeCast_self _ _
theorem pay19_eq (a : Vec F S256x256 .f32) : k0_pay19 a = rnd a := shapeCast_self _ _
theorem pay20_eq (v : Vec F S256x512 .bf16) : k0_pay20 v = v := shapeCast_self _ _
theorem pay21_eq (v : Vec F S512x256 .bf16) : k0_pay21 v = v := shapeCast_self _ _
theorem pay22_eq (v : Vec F S256x256 .bf16) : k0_pay22 v = v := shapeCast_self _ _
theorem pay23_eq (wi : FVec F S256x512 .bf16) (wo : FVec F S512x256 .bf16) (v : Vec F S2048x256 .bf16) : k0_pay23 wi wo v = goutb wi wo v :=
  shapeCast_self _ _
theorem pay24_eq (wi : FVec F S256x512 .bf16) (wo : FVec F S512x256 .bf16) (v : Vec F S2048x256 .bf16) : k0_pay24 wi wo v = goutb wi wo v :=
  shapeCast_self _ _
theorem pay25_eq (wi : FVec F S256x512 .bf16) (wo : FVec F S512x256 .bf16) (v : Vec F S2048x256 .bf16) : k0_pay25 wi wo v = goutb wi wo v :=
  shapeCast_self _ _
theorem pay26_eq (wi : FVec F S256x512 .bf16) (wo : FVec F S512x256 .bf16) (v : Vec F S2048x256 .bf16) : k0_pay26 wi wo v = gout wi wo v := rfl
theorem pay27_eq (wi : FVec F S256x512 .bf16) (wo : FVec F S512x256 .bf16) (v : Vec F S2048x256 .bf16) : k0_pay27 wi wo v = goutb wi wo v :=
  shapeCast_self _ _
theorem pay28_eq (v : FVec F S2048x256 .f32) : k0_pay28 v = top v := shapeCast_self _ _
theorem pay29_eq (a : Vec F S256x256 .f32) (v : Vec F S1792x256 .bf16) : k0_pay29 a v = add7 a v := shapeCast_self _ _
theorem pay30_eq (a : Vec F S256x256 .f32) (v : Vec F S2048x256 .bf16) : k0_pay30 a v = add8 a v := shapeCast_self _ _
theorem pay31_eq (a : Vec F S256x256 .f32) (v : Vec F S2048x256 .bf16) : k0_pay31 a v = add8 a v := shapeCast_self _ _
theorem pay32_eq (a : Vec F S256x256 .f32) (v : Vec F S2048x256 .bf16) : k0_pay32 a v = add8 a v := shapeCast_self _ _
theorem pay33_eq (a : Vec F S256x256 .f32) : k0_pay33 a = rnd a := rfl
theorem pay34_eq (v : FVec F S256x256 .bf16) : k0_pay34 v = v := shapeCast_self _ _
theorem pay35_eq (v : Vec F S256x512 .bf16) : k0_pay35 v = v := shapeCast_self _ _
theorem pay36_eq (v : Vec F S512x256 .bf16) : k0_pay36 v = v := shapeCast_self _ _
theorem pay37_eq (v : Vec F S256x256 .bf16) : k0_pay37 v = v := shapeCast_self _ _
theorem pay38_eq (wi : Vec F S256x512 .bf16) (wo : Vec F S512x256 .bf16) (v : Vec F S2048x256 .bf16) : k0_pay38 wi wo v = goutb wi wo v := by
  refine (shapeCast_self _ _).trans ?_; show goutb (k0_pay35 wi) (k0_pay36 wo) v = _; rw [pay35_eq, pay36_eq]
theorem pay39_eq (wi : FVec F S256x512 .bf16) (wo : FVec F S512x256 .bf16) (v : Vec F S2048x256 .bf16) : k0_pay39 wi wo v = goutb wi wo v :=
  shapeCast_self _ _
theorem pay40_eq (wi : FVec F S256x512 .bf16) (wo : FVec F S512x256 .bf16) (v : Vec F S2048x256 .bf16) : k0_pay40 wi wo v = goutb wi wo v :=
  shapeCast_self _ _
theorem pay42_eq (wi : FVec F S256x512 .bf16) (wo : FVec F S512x256 .bf16) (v : Vec F S2048x256 .bf16) : k0_pay42 wi wo v = goutb wi wo v :=
  shapeCast_self _ _
theorem pay43_eq (wi : FVec F S256x512 .bf16) (wo : FVec F S512x256 .bf16) (v : Vec F S2048x256 .bf16) : k0_pay43 wi wo v = top (gout wi wo v) :=
  shapeCast_self _ _
theorem pay44_eq (a : Vec F S256x256 .f32) (v : Vec F S1792x256 .bf16) : k0_pay44 a v = add7 a v := shapeCast_self _ _
theorem pay45_eq (a : Vec F S256x256 .f32) (v : Vec F S2048x256 .bf16) : k0_pay45 a v = add8 a v := shapeCast_self _ _
theorem pay46_eq (a : Vec F S256x256 .f32) (v : Vec F S2048x256 .bf16) : k0_pay46 a v = add8 a v := shapeCast_self _ _
theorem pay47_eq (a : Vec F S256x256 .f32) (v : Vec F S2048x256 .bf16) : k0_pay47 a v = add8 a v := rfl

end Cert.MlpProof

end
-- ==== Proof.Protocol.lean ====
/-
# The protocol of the copies

Every device has one barrier cell, 64 cells for its sends to finish (row 0: its activations, row 1: its partial sums) and
192 cells for what it receives (two rows of 32 per layer: first activations, then partial sums). This file says who pays
each cell in which round, how much, and what each payment hands over.
-/
module

public import proofs.«01_k».proof.Proof.Contents
public import Mathlib.Algebra.BigOperators.Intervals

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB := URounds (GSem nD τ sig) ℕ
abbrev UU := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells -/

abbrev barS : Sem sig := (SemArray.scalar (sig.barrier 0 rfl) : Sems sig S_).sem

set_option backward.proofsInPublic true in
/-- The kernel's own transfer semaphores, numbered: number `32 a + k` is column `k` of row `a`, the two rows of the send
    array followed by the six of the receive array. -/
def xsem (n : ℕ) : DmaSem sig := ⟨8 + n % 256, by have : n % 256 < 256 := Nat.mod_lt _ (by decide); show 8 + n % 256 < 264; omega⟩

abbrev bc (c : Dev nD) : GSem nD τ sig := ((c : Thread nD τ), .reg barS)
abbrev xc (c : Dev nD) (n : ℕ) : GSem nD τ sig := ((c : Thread nD τ), .dma (xsem n))
/-- Row `a` of the sends (0 or 1), column `k`. -/
abbrev sc (c : Dev nD) (a k : ℕ) : GSem nD τ sig := xc c (32 * a + k)
/-- Row `p` of the receives (0 to 5), column `k`. -/
abbrev rc (c : Dev nD) (p k : ℕ) : GSem nD τ sig := xc c (32 * (2 + p) + k)

theorem xsem_val {n : ℕ} (hn : n < 256) : (xsem n).val = 8 + n := by show 8 + n % 256 = _; rw [Nat.mod_eq_of_lt hn]

theorem send_sem (a k : ℕ) (ha : a < 2) (hk : k < 32) (inb) (hq) :
    ((cc0_scratch5.slice (Rect.unit (s := S2x32) ![a, k] S1x1.size inb)).squeeze S_ hq).sem = xsem (32 * a + k) := by
  apply Fin.ext
  rw [xsem_val (by omega)]
  have e : ∀ j, (S2x32.rowMajor ((Rect.unit (s := S2x32) ![a, k] S1x1.size inb).emb j)).val = 32 * a + k := by
    intro j
    have h0 : (j 0).val < 1 := (j 0).isLt
    have h1 : (j 1).val < 1 := (j 1).isLt
    unfold Shape.rowMajor
    simp only [Shape.rowMajorPi_succ_val]
    show (a + 1 * (j 0).val) * (32 * 1) + ((k + 1 * (j 1).val) * 1 + 0) = _
    omega
  exact congrArg (8 + ·) (e _)

theorem recv_sem (p k : ℕ) (hp : p < 6) (hk : k < 32) (inb) (hq) :
    ((cc0_scratch6.slice (Rect.unit (s := S6x32) ![p, k] S1x1.size inb)).squeeze S_ hq).sem = xsem (32 * (2 + p) + k) := by
  apply Fin.ext
  rw [xsem_val (by omega)]
  have e : ∀ j, (S6x32.rowMajor ((Rect.unit (s := S6x32) ![p, k] S1x1.size inb).emb j)).val = 32 * p + k := by
    intro j
    have h0 : (j 0).val < 1 := (j 0).isLt
    have h1 : (j 1).val < 1 := (j 1).isLt
    unfold Shape.rowMajor
    simp only [Shape.rowMajorPi_succ_val]
    show (p + 1 * (j 0).val) * (32 * 1) + ((k + 1 * (j 1).val) * 1 + 0) = _
    omega
  exact (congrArg (72 + ·) (e _)).trans (by omega)

/-- The credit of one block of 256 rows. -/
abbrev N : ℕ := (bM : Memref sig .tc .vmem S256x256 .bf16).view.dmaCredit
theorem N_pos : 0 < N := View.dmaCredit_pos _ (by decide)

/-! ## What the payments hand over -/

/-- Rows `a ≤ row < b` of the collected activations, of the partial sums, of the received partial sums. -/
def xpt (c : Dev nD) (f : Big F) (a b : ℕ) : sProp 𝕄 := (c : Thread nD τ).loc cc0_scratch0 ↦[rows a b]{fullShare} f
def ppt (c : Dev nD) (f : Big F) (a b : ℕ) : sProp 𝕄 := (c : Thread nD τ).loc cc0_scratch1 ↦[rows a b]{fullShare} f
def rpt (c : Dev nD) (f : Big F) (a b : ℕ) : sProp 𝕄 := (c : Thread nD τ).loc cc0_scratch2 ↦[rows a b]{fullShare} f
/-- One of 32 shares of the block sent out. -/
def bleaf (c : Dev nD) (f : Vec F S256x256 .bf16) (k : ℕ) : sProp 𝕄 :=
  (c : Thread nD τ).loc cc0_scratch3 ↦[Finset.univ]{ShareLeaves.leaf 5 fullShare (⟨k % 32, Nat.mod_lt _ (by decide)⟩ : Fin (2 ^ 5))} f
def xslot (c : Dev nD) (f : Big F) (r : ℕ) : sProp 𝕄 := xpt c f (256 * r) (256 * r + 256)
def pslot (c : Dev nD) (f : Big F) (r : ℕ) : sProp 𝕄 := ppt c f (256 * r) (256 * r + 256)
def rslot (c : Dev nD) (f : Big F) (r : ℕ) : sProp 𝕄 := rpt c f (256 * r) (256 * r + 256)
/-- The slot of the device `k` further on that this device writes. -/
def xfree (c : Dev nD) (k : ℕ) : sProp 𝕄 := iprop(∃ f : Big F, xslot (peer c k) f (32 - k))
def rfree (c : Dev nD) (k : ℕ) : sProp 𝕄 := iprop(∃ f : Big F, rslot (peer c k) f (32 - k))
/-- A permission that is passed on in the first two layers only. -/
def early (l : ℕ) (P : sProp 𝕄) : sProp 𝕄 := if l < 2 then P else iprop(emp)

section Storable
omit [FloatOps F]
instance xpt_storable (c : Dev nD) (f : Big F) (a b : ℕ) : BI.Storable (upEmb : UEmb _ 𝕄) (xpt c f a b) := by unfold xpt; infer_instance
instance ppt_storable (c : Dev nD) (f : Big F) (a b : ℕ) : BI.Storable (upEmb : UEmb _ 𝕄) (ppt c f a b) := by unfold ppt; infer_instance
instance rpt_storable (c : Dev nD) (f : Big F) (a b : ℕ) : BI.Storable (upEmb : UEmb _ 𝕄) (rpt c f a b) := by unfold rpt; infer_instance
instance bleaf_storable (c : Dev nD) (f) (k : ℕ) : BI.Storable (upEmb : UEmb _ 𝕄) (bleaf (F := F) c f k) := by unfold bleaf; infer_instance
instance xslot_storable (c : Dev nD) (f : Big F) (r : ℕ) : BI.Storable (upEmb : UEmb _ 𝕄) (xslot c f r) := by unfold xslot; infer_instance
instance pslot_storable (c : Dev nD) (f : Big F) (r : ℕ) : BI.Storable (upEmb : UEmb _ 𝕄) (pslot c f r) := by unfold pslot; infer_instance
instance rslot_storable (c : Dev nD) (f : Big F) (r : ℕ) : BI.Storable (upEmb : UEmb _ 𝕄) (rslot c f r) := by unfold rslot; infer_instance
instance xfree_storable (c : Dev nD) (k : ℕ) : BI.Storable (upEmb : UEmb _ 𝕄) (xfree (F := F) c k) := by unfold xfree; infer_instance
instance rfree_storable (c : Dev nD) (k : ℕ) : BI.Storable (upEmb : UEmb _ 𝕄) (rfree (F := F) c k) := by unfold rfree; infer_instance
instance early_storable (l : ℕ) (P : sProp 𝕄) [BI.Storable (upEmb : UEmb _ 𝕄) P] : BI.Storable (upEmb : UEmb _ 𝕄) (early l P) := by
  unfold early; split <;> infer_instance
end Storable

variable (I : Ins F)

/-- Activations arriving in slot `k`: the slot filled, and leave to fill the other device's slot of received sums. -/
def payX (l : ℕ) (e : Dev nD) (k : ℕ) : sProp 𝕄 := iprop(xslot e (XF I l e) k ∗ rfree e k)
/-- Sums arriving in slot `k`: the slot filled, and (but for the last layer) leave to fill the other device's slot of activations. -/
def payR (l : ℕ) (e : Dev nD) (k : ℕ) : sProp 𝕄 := iprop(rslot e (RS I l e) k ∗ early l (xfree e k))

def payDma (a k : ℕ) (e : Dev nD) (r : ℕ) : sProp 𝕄 :=
  if a = 0 then bleaf e (X I r e) k
  else if a = 1 then pslot e (PT I r e) k
  else if a % 2 = 0 then payX I ((a - 2) / 2) e k
  else payR I ((a - 2) / 2) e k

instance payDma_storable (a k : ℕ) (e : Dev nD) (r : ℕ) : BI.Storable (upEmb : UEmb _ 𝕄) (payDma I a k e r) := by
  unfold payDma payX payR; (repeat' split) <;> infer_instance

/-! ## The schedule -/

/-- In which rounds a transfer cell is paid: a send cell once per layer, a receive cell once; column 0 is not used. -/
abbrev Paid (n r : ℕ) : Prop := n % 32 ≠ 0 ∧ (if n < 64 then r < 3 else r = 0)

def Rd : Rounds.Schedule (GSem nD τ sig) ℕ 𝕄 where
  duties g r := match g.2 with
    | .reg s => if g.1.2 = .tc ∧ s = barS ∧ r = 0 then Finset.Ico 1 32 else ∅
    | .dma s => if g.1.2 = .tc ∧ 8 ≤ s.val ∧ Paid (s.val - 8) r then {0} else ∅
  unitless _ := False
  amount g _ _ := match g.2 with
    | .reg _ => 1
    | .dma _ => N
  payload g r d := match g.2 with
    | .reg _ => xfree g.1.1 d
    | .dma s => payDma I ((s.val - 8) / 32) ((s.val - 8) % 32) g.1.1 r
  amount_pos g _ _ _ := by
    rcases g with ⟨t, s | s⟩
    · exact Nat.one_pos
    · exact N_pos

instance Rd_storable (g : GSem nD τ sig) (r : ℕ) (d : ℕ) : BI.Storable (upEmb : UEmb _ 𝕄) ((Rd I).payload g r d) := by
  rcases g with ⟨t, s | s⟩
  · show BI.Storable _ (xfree t.1 d); infer_instance
  · show BI.Storable _ (payDma I _ _ t.1 r); infer_instance

theorem duties_bar (c : Dev nD) : (Rd I).duties (bc c) 0 = Finset.Ico 1 32 :=
  by dsimp only [Rd]; exact if_pos ⟨rfl, rfl, rfl⟩
theorem duties_bar_later (c : Dev nD) (r : ℕ) (hr : 1 ≤ r) : (Rd I).duties (bc c) r = ∅ := if_neg fun h => by have := h.2.2; omega
theorem duties_x (c : Dev nD) {n r : ℕ} (hn : n < 256) (h : Paid n r) : (Rd I).duties (xc c n) r = {0} :=
  if_pos ⟨rfl, by rw [xsem_val hn]; omega, by rw [xsem_val hn, Nat.add_sub_cancel_left]; exact h⟩
theorem duties_x_none (c : Dev nD) {n r : ℕ} (hn : n < 256) (h : ¬ Paid n r) : (Rd I).duties (xc c n) r = ∅ :=
  if_neg fun h' => h (by have := h'.2.2; rwa [xsem_val hn, Nat.add_sub_cancel_left] at this)
theorem payload_bar (c : Dev nD) (r d : ℕ) : (Rd I).payload (bc c) r d = xfree c d := rfl
theorem payload_x (c : Dev nD) {a k : ℕ} (r d : ℕ) (ha : a < 8) (hk : k < 32) : (Rd I).payload (xc c (32 * a + k)) r d = payDma I a k c r := by
  show payDma I (((xsem (32 * a + k)).val - 8) / 32) (((xsem (32 * a + k)).val - 8) % 32) c r = _
  rw [xsem_val (by omega), Nat.add_sub_cancel_left, show (32 * a + k) / 32 = a by omega, show (32 * a + k) % 32 = k by omega]
theorem amount_bar (c : Dev nD) (r d : ℕ) : (Rd I).amount (bc c) r d = 1 := rfl
theorem amount_x (c : Dev nD) (n r d : ℕ) : (Rd I).amount (xc c n) r d = N := rfl

theorem paid_send {a k r : ℕ} (ha : a < 2) (hk : 1 ≤ k) (hk' : k < 32) (hr : r < 3) : Paid (32 * a + k) r :=
  ⟨by omega, by rw [if_pos (by omega)]; exact hr⟩
theorem paid_recv {p k : ℕ} (hk : 1 ≤ k) (hk' : k < 32) : Paid (32 * (2 + p) + k) 0 :=
  ⟨by omega, by rw [if_neg (by omega)]⟩

theorem expect_bar (c : Dev nD) : (Rd I).expect (bc c) 0 = 31 := by
  unfold Schedule.expect Schedule.amountOf; rw [duties_bar, Finset.sum_congr rfl fun d _ => amount_bar I c 0 d]; decide
theorem expect_x (c : Dev nD) {n r : ℕ} (hn : n < 256) (h : Paid n r) : (Rd I).expect (xc c n) r = N := by
  unfold Schedule.expect Schedule.amountOf; rw [duties_x I c hn h, Finset.sum_singleton, amount_x]
theorem rest_bar (c : Dev nD) : bigSep ((Rd I).duties (bc c) 0 \ ∅) (fun d => (Rd I).payload (bc c) 0 d) = bigSep (Finset.Ico 1 32) (xfree c) := by
  rw [Finset.sdiff_empty, duties_bar]; rfl
theorem rest_x (c : Dev nD) {a k r : ℕ} (ha : a < 8) (hk : k < 32) (h : Paid (32 * a + k) r) :
    bigSep ((Rd I).duties (xc c (32 * a + k)) r \ ∅) (fun d => (Rd I).payload (xc c (32 * a + k)) r d) = payDma I a k c r := by
  rw [Finset.sdiff_empty, duties_x I c (by omega) h, bigSep_singleton, payload_x I c r 0 ha hk]

/-! ## What is owed, and the levels -/

def L (g : GSem nD τ sig) : Finset Unit := if g.1.2 = .tc then {()} else ∅
/-- A device's barrier at 1, its receives by row from 2 on, all else at 0. -/
def lv (g : GSem nD τ sig) (_ : Unit) : ℕ := match g.2 with
  | .reg _ => 1
  | .dma s => if s.val < 72 then 0 else (s.val - 8) / 32

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (p k : ℕ) (hp : p < 6) (hk : k < 32) : lv (rc c p k) () = 2 + p := by
  show (if (xsem _).val < 72 then 0 else ((xsem _).val - 8) / 32) = _
  rw [xsem_val (by omega), if_neg (by omega)]; omega
theorem lv_send (c : Dev nD) (a k : ℕ) (ha : a < 2) (hk : k < 32) : lv (sc c a k) () = 0 := by
  show (if (xsem _).val < 72 then 0 else ((xsem _).val - 8) / 32) = _
  rw [xsem_val (by omega), if_pos (by omega)]

/-- The credit a device owes the cells of phase `p` it will fill, for the peers `lo ≤ r < hi`. -/
def owP (p : ℕ) (c : Dev nD) (lo hi : ℕ) : CellTallies nD τ sig Unit :=
  ∑ r ∈ Finset.Ico lo hi, tallyAt (rc (peer c r) p (32 - r)) () N
/-- All it owes from phase `p` on. -/
def debt (c : Dev nD) (p : ℕ) : CellTallies nD τ sig Unit := ∑ q ∈ Finset.Ico p 6, owP q c 1 32
/-- What it owes the barriers of the peers `lo ≤ r < hi`. -/
def owB (c : Dev nD) (lo hi : ℕ) : CellTallies nD τ sig Unit := ∑ r ∈ Finset.Ico lo hi, tallyAt (bc (peer c r)) () 1

theorem debt_step (c : Dev nD) {p : ℕ} (hp : p < 6) : debt c p = debt c (p + 1) + owP p c 1 32 := by
  unfold debt; rw [Finset.sum_eq_sum_Ico_succ_bot hp, add_comm]
theorem debt_end (c : Dev nD) : debt c 6 = 0 := by unfold debt; rw [Finset.Ico_self, Finset.sum_empty]
theorem owP_bot (p : ℕ) (c : Dev nD) {lo hi : ℕ} (h : lo < hi) :
    owP p c lo hi = owP p c (lo + 1) hi + tallyAt (rc (peer c lo) p (32 - lo)) () N := by
  unfold owP; rw [Finset.sum_eq_sum_Ico_succ_bot h, add_comm]
theorem owP_split (p : ℕ) (c : Dev nD) {a b d : ℕ} (h₁ : a ≤ b) (h₂ : b ≤ d) : owP p c a d = owP p c a b + owP p c b d := by
  unfold owP; rw [Finset.sum_Ico_consecutive _ h₁ h₂]
theorem owP_nil (p : ℕ) (c : Dev nD) (a : ℕ) : owP p c a a = 0 := by unfold owP; rw [Finset.Ico_self, Finset.sum_empty]
theorem owB_bot (c : Dev nD) {lo hi : ℕ} (h : lo < hi) : owB c lo hi = owB c (lo + 1) hi + tallyAt (bc (peer c lo)) () 1 := by
  unfold owB; rw [Finset.sum_eq_sum_Ico_succ_bot h, add_comm]
theorem owB_nil (c : Dev nD) (a : ℕ) : owB c a a = 0 := by unfold owB; rw [Finset.Ico_self, Finset.sum_empty]

/-- Everything in `O` is owed to cells above level `n`. -/
def Above (n : ℕ) (O : CellTallies nD τ sig Unit) : Prop := ∀ g u, 0 < O g u → g.1.2 = .tc ∧ n < lv g ()

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with e | e
  · exact h' g u (by omega)
  · exact h g u e
theorem above_tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases e : g = ((c : Thread nD τ), sm) ∧ u = ()
  · rw [e.1]; exact ⟨rfl, h⟩
  · rw [if_neg e] at hg; exact absurd hg (Nat.lt_irrefl 0)
theorem above_sum {n : ℕ} (s : Finset ℕ) (O : ℕ → CellTallies nD τ sig Unit) (h : ∀ r ∈ s, Above n (O r)) : Above n (∑ r ∈ s, O r) := by
  induction s using Finset.induction_on with
  | empty => rw [Finset.sum_empty]; exact above_zero n
  | insert a s ha ih =>
    rw [Finset.sum_insert ha]
    exact above_add (h a (Finset.mem_insert_self _ _)) (ih fun r hr => h r (Finset.mem_insert_of_mem hr))
theorem above_owP {n p : ℕ} (c : Dev nD) {lo hi : ℕ} (hp : p < 6) (hlo : 1 ≤ lo) (hhi : hi ≤ 32) (h : n < 2 + p) : Above n (owP p c lo hi) :=
  above_sum _ _ fun r hr => above_tally _ _ _ (by rw [Finset.mem_Ico] at hr; exact (lv_recv _ p (32 - r) hp (by omega)).symm ▸ h)
theorem above_debt {n p : ℕ} (c : Dev nD) (h : n < 2 + p) : Above n (debt c p) :=
  above_sum _ _ fun q hq => above_owP c (Finset.mem_Ico.mp hq).2 le_rfl le_rfl (by have := (Finset.mem_Ico.mp hq).1; omega)
theorem above_owB (c : Dev nD) (lo hi : ℕ) : Above 0 (owB c lo hi) := above_sum _ _ fun r _ => above_tally _ _ _ Nat.one_pos

omit [FloatOps F] in
/-- A device may wait on a cell at level `n` when all it owes lies above. -/
theorem mayWait (c : Dev nD) (sm : SemLoc sig) (n : ℕ) (O : CellTallies nD τ sig Unit) (hl : lv ((c : Thread nD τ), sm) () ≤ n) (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

/-! ## What every device knows -/

/-- The cells: 256 transfer cells and the barrier, on each device. -/
abbrev CK : Type := Fin 256 ⊕ Unit
abbrev csem : CK → SemLoc sig := fun | .inl n => .dma (xsem n.val) | .inr _ => .reg barS
abbrev kcell (ck : Dev nD × CK) : GSem nD τ sig := ((ck.1 : Thread nD τ), csem ck.2)

/-- Every cell's invariant, that it has reached round 0, and the levels. -/
def Rec (K : Dev nD × CK → ℕ) : sProp 𝕄 :=
  iprop((bigSep Finset.univ fun ck => iprop(cellInv ER (Rd I) (K ck) (kcell ck) ∗ reached ER (kcell ck) 0)) ∗ levAts L lv)

instance Rec_persistent (K : Dev nD × CK → ℕ) : BI.Persistent (Rec I K) := by unfold Rec; infer_instance

omit [FloatOps F] in
/-- One summand of many. -/
theorem big_get {J : Type} [DecidableEq J] {s : Finset J} {i : J} (h : i ∈ s) {Φ : J → sProp 𝕄} : (bigSep s Φ : sProp 𝕄) ⊢ Φ i := bigSep_elim h

/-- The name of transfer cell `n`'s invariant. -/
abbrev kx (K : Dev nD × CK → ℕ) (c : Dev nD) (n : ℕ) : ℕ := K (c, .inl ⟨n % 256, Nat.mod_lt _ (by decide)⟩)

theorem Rec_x (K : Dev nD × CK → ℕ) (c : Dev nD) (n : ℕ) : Rec I K ⊢ iprop(cellInv ER (Rd I) (kx K c n) (xc c n) ∗ reached ER (xc c n) 0) := by
  have e : kcell (c, .inl ⟨n % 256, Nat.mod_lt _ (by decide)⟩) = xc c n := by
    show ((c : Thread nD τ), SemLoc.dma (xsem (n % 256))) = _
    rw [show xsem (n % 256) = xsem n from Fin.ext (by show 8 + n % 256 % 256 = 8 + n % 256; rw [Nat.mod_mod])]
  rw [← e]; unfold Rec
  iintro ⟨H, -⟩
  iapply (big_get (Finset.mem_univ (c, (.inl ⟨n % 256, Nat.mod_lt _ (by decide)⟩ : CK)))
    (Φ := fun ck => iprop(cellInv ER (Rd I) (K ck) (kcell ck) ∗ reached ER (kcell ck) 0)))
  iexact H
theorem Rec_b (K : Dev nD × CK → ℕ) (c : Dev nD) : Rec I K ⊢ iprop(cellInv ER (Rd I) (K (c, .inr ())) (bc c) ∗ reached ER (bc c) 0) := by
  unfold Rec
  iintro ⟨H, -⟩
  iapply (big_get (Finset.mem_univ (c, (.inr () : CK)))
    (Φ := fun ck => iprop(cellInv ER (Rd I) (K ck) (kcell ck) ∗ reached ER (kcell ck) 0)))
  iexact H
theorem Rec_wait (K : Dev nD × CK → ℕ) (c : Dev nD) (sm : SemLoc sig) (n : ℕ) (O : CellTallies nD τ sig Unit) (hl : lv ((c : Thread nD τ), sm) () ≤ n)
    (hO : Above n O) : Rec I K ⊢ MayWait (c : Thread nD τ) sm () O := by
  unfold Rec
  iintro ⟨-, H⟩
  iapply (mayWait c sm n O hl hO)
  iexact H

end Cert.MlpProof

end
-- ==== Proof.Trips.lean ====
/-
# One trip of each of the kernel's loops

What a signal, a copy and a wait do to the protocol's state, for any layer and any peer; and the rule by which a loop
works through a run of such trips.
-/
module

public import proofs.«01_k».proof.Proof.Protocol

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The program `p` runs on device `c` to the postcondition `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A device owes `O`, having waited on whatever it has. -/
def Owes (c : Dev nD) (O : CellTallies nD τ sig Unit) : sProp 𝕄 := iprop(∃ W, owes (c : Thread nD τ) O W)

/-! ## A loop that works through a run of items -/

/-- A loop each of whose trips turns one item `Pre r` into `Post r`, and a state `Own r` into `Own (r + 1)`. -/
theorem wp_items (c : Dev nD) {lb ub st : BitVec 32} {hok : Scf.OK lb ub st}
    {body : Fin (Scf.trips lb ub st) → Unit → Prog (TpuEff nD τ sig (Elt F) Λ₀ .tc) Unit}
    {β : Type} {kk : Unit → Prog (TpuEff nD τ sig (Elt F) Λ₀ .tc) β} {Q : β → sProp 𝕄}
    (lo hi : ℕ) (hhi : lo + Scf.trips lb ub st = hi) (R : sProp 𝕄) [BI.Persistent R] (Own Pre Post : ℕ → sProp 𝕄)
    (hb : ∀ k acc, iprop(R ∗ Own (lo + k.val) ∗ Pre (lo + k.val)) ⊢ WP c (body k acc) fun _ => iprop(Own (lo + k.val + 1) ∗ Post (lo + k.val))) :
    iprop(R ∗ Own lo ∗ bigSep (Finset.Ico lo hi) Pre)
      ⊢ iprop(((Own hi ∗ bigSep (Finset.Ico lo hi) Post) -∗ WP c (kk ⟨⟩) Q) -∗ WP c (Scf.for lb ub st hok ⟨⟩ body >>= kk) Q) := by
  subst hhi
  let Inv : ℕ → Unit → sProp 𝕄 := fun n _ => iprop(R ∗ Own (lo + n)
    ∗ bigSep (Finset.Ico (lo + n) (lo + Scf.trips lb ub st)) Pre ∗ bigSep (Finset.Ico lo (lo + n)) Post)
  have step : ∀ (k : Fin (Scf.trips lb ub st)) (acc : Unit), Inv k.val acc ⊢ WP c (body k acc) (Inv (k.val + 1)) := by
    intro k acc
    have hk := k.isLt
    dsimp only [Inv]
    rw [bigSep_Ico_succ_bot (a := lo + k.val) (by omega)]
    iintro ⟨#HR, HO, ⟨Hpre, Hrest⟩, Hdone⟩
    iapply (wp_wand_r frame (wpE (defs₀ (F := F)) 𝒱₀ (c : Thread nD τ) none) (E := Set.univ) (p := body k acc) (Q := fun _ => iprop(Own (lo + k.val + 1) ∗ Post (lo + k.val))))
    isplitl [HO Hpre]
    · iapply (hb k acc)
      isplitr; · iexact HR
      isplitl [HO]; · iexact HO
      iexact Hpre
    iintro %u ⟨HO, Hpost⟩
    isplitr; · iexact HR
    isplitl [HO]; · iexact HO
    isplitl [Hrest]; · iexact Hrest
    rw [show lo + (k.val + 1) = (lo + k.val) + 1 from rfl, bigSep_Ico_succ_top (by omega)]
    isplitl [Hpost]; · iexact Hpost
    iexact Hdone
  iintro ⟨#HR, HO, Hpre⟩ Hk
  iapply (Scf.wp_for_bind frame (wpE (defs₀ (F := F)) 𝒱₀ (c : Thread nD τ) none) Set.univ lb ub st hok ⟨⟩ body Inv step) $$ [HO Hpre]
  · dsimp only [Inv]
    isplitr; · iexact HR
    isplitl [HO]; · iexact HO
    isplitl [Hpre]; · iexact Hpre
    rw [Nat.add_zero, Finset.Ico_self, bigSep_empty]; iempintro
  dsimp only [Inv]
  iintro %acc ⟨-, HO, -, Hpost⟩
  iapply Hk
  isplitl [HO]; · iexact HO
  iexact Hpost

/-! ## The trips -/

variable (I : Ins F) (K : Dev nD × CK → ℕ)

/-- Signalling the barrier of the peer `k` further: it may then fill this device's slot `k` of activations. -/
theorem wp_sig (c n : Dev nD) {k : ℕ} (hk : 1 ≤ k) (hk' : k < 32) (hn : n = peer c k) (O : CellTallies nD τ sig Unit)
    {α : Type} {Q : α → sProp 𝕄} {kont : PUnit → Prog (TpuEff nD τ sig (Elt F) Λ₀ .tc) α} :
    iprop(Rec I K ∗ Owes c (O + tallyAt (bc (peer c k)) () 1) ∗ dutyTok ER (bc (peer c k)) 0 (32 - k) ∗ (∃ f : Big F, xslot c f k))
      ⊢ iprop((Owes c O -∗ WP c (kont ⟨⟩) Q) -∗ WP c (.op (.semSignal (Dev.tc n : Thread nD τ) barS 1) kont) Q) := by
  subst hn
  unfold Owes
  iintro ⟨#HR, ⟨%W, HO⟩, Ht, ⟨%f, Hx⟩⟩ Hk
  icases (Rec_b I K (peer c k)) $$ HR with ⟨#Hi, #Hr⟩
  iapply (Rounds.wp_signal 𝒱₀ ER (Rd I) (c : Thread nD τ) none (dst := (peer c k : Thread nD τ)) (κ := K (peer c k, .inr ()))
      (d := 32 - k) (r := 0) (by rw [duties_bar, Finset.mem_Ico]; omega) (amount_bar I (peer c k) 0 (32 - k)) () O rfl) $$ [HO Ht Hx]
  · isplitr; · iexact Hi
    isplitl [HO]; · iexact HO
    isplitl [Ht]; · iexact Ht
    isplitl [Hx]
    · rw [payload_bar]; unfold xfree
      rw [peer_back c (by omega), show 32 - (32 - k) = k by omega]
      iexists f; iexact Hx
    iexact Hr
  iintro HO
  iapply Hk
  iexists W; iexact HO

/-- Waiting for the peers' 31 signals: leave to fill a slot of each. -/
theorem wp_bar (c : Dev nD) (O : CellTallies nD τ sig Unit) (hO : Above 1 O)
    {α : Type} {Q : α → sProp 𝕄} {kont : PUnit → Prog (TpuEff nD τ sig (Elt F) Λ₀ .tc) α} :
    iprop(Rec I K ∗ Owes c O ∗ cred (tallyAt (bc c) () 31) ∗ atPos ER (bc c) 0 ∅ 0)
      ⊢ iprop(((Owes c O ∗ atPos ER (bc c) 1 ∅ 0 ∗ bigSep (Finset.Ico 1 32) (xfree c)) -∗ WP c (kont ⟨⟩) Q)
          -∗ WP c (.op (.semWait barS 31) kont) Q) := by
  unfold Owes
  iintro ⟨#HR, ⟨%W, HO⟩, Hc, Hat⟩ Hk
  icases (Rec_b I K c) $$ HR with ⟨#Hi, -⟩
  iapply (Rounds.wp_wait_rest_token 𝒱₀ ER (Rd I) (c : Thread nD τ) none (κ := K (c, .inr ()))
      (wpE_semWait_eq 𝒱₀ (c : Thread nD τ) none Set.univ) (Set.mem_univ _) () (O := O) (W := W) (R := 0) (m := 0) (T := ∅)
      (by rw [expect_bar])) $$ [Hc HO Hat]
  · isplitr; · iexact Hi
    isplitl [Hc]; · iexact Hc
    isplitl [HO]; · iexact HO
    isplitr; · iapply (Rec_wait I K c (.reg barS) 1 O le_rfl hO); iexact HR
    iexact Hat
  iintro ⟨HO, Hat, -, Hpay⟩
  ihave Hp := (Entails.of_eq (rest_bar I c)) $$ Hpay
  iapply Hk
  isplitl [HO]; · iexists _; iexact HO
  isplitl [Hat]; · iexact Hat
  iexact Hp

/-- Waiting for one transfer on cell `32 a + k` in its round `r`. -/
theorem wp_dma (c : Dev nD) {a k r : ℕ} (ha : a < 8) (hk : k < 32) (hp : Paid (32 * a + k) r) (O : CellTallies nD τ sig Unit)
    (hO : Above (lv (xc c (32 * a + k)) ()) O) {s : DmaSem sig} (hs : s = xsem (32 * a + k))
    {e e' : EltTy} {sp sp' : Space} {s' s'' : Shape} {src : Memref sig .tc sp s' e} {dst : Memref sig .tc sp' s'' e'} (hN : dst.view.dmaCredit = N)
    {h₁ : src.view.WordExact} {h₂ : dst.view.WordExact}
    {α : Type} {Q : α → sProp 𝕄} {kont : PUnit → Prog (TpuEff nD τ sig (Elt F) Λ₀ .tc) α} :
    iprop(Rec I K ∗ Owes c O ∗ cred (tallyAt (xc c (32 * a + k)) () N) ∗ atPos ER (xc c (32 * a + k)) r ∅ 0)
      ⊢ iprop(((Owes c O ∗ atPos ER (xc c (32 * a + k)) (r + 1) ∅ 0 ∗ reached ER (xc c (32 * a + k)) (r + 1) ∗ payDma I a k c r) -∗ WP c (kont ⟨⟩) Q)
          -∗ WP c (.op (.waitDma2 s src dst h₁ h₂) kont) Q) := by
  subst hs
  unfold Owes
  iintro ⟨#HR, ⟨%W, HO⟩, Hc, Hat⟩ Hk
  icases (Rec_x I K c (32 * a + k)) $$ HR with ⟨#Hi, -⟩
  iapply (Rounds.wp_wait_rest_token 𝒱₀ ER (Rd I) (c : Thread nD τ) none (κ := kx K c (32 * a + k)) (sm := .dma (xsem (32 * a + k))) (k' := N)
      (fun Q' => (wpE_waitDma2_eq 𝒱₀ (c : Thread nD τ) none Set.univ Q').trans (by rw [hN])) (Set.mem_univ _) () (O := O) (W := W) (R := r) (m := 0) (T := ∅)
      (by rw [Nat.zero_add, expect_x I c (by omega) hp])) $$ [Hc HO Hat]
  · isplitr; · iexact Hi
    isplitl [Hc]; · iexact Hc
    isplitl [HO]; · iexact HO
    isplitr; · iapply (Rec_wait I K c (.dma (xsem (32 * a + k))) _ O le_rfl hO); iexact HR
    iexact Hat
  iintro ⟨HO, Hat, Hre, Hpay⟩
  ihave Hp := (Entails.of_eq (rest_x I c ha hk hp)) $$ Hpay
  iapply Hk
  isplitl [HO]; · iexists _; iexact HO
  isplitl [Hat]; · iexact Hat
  isplitl [Hre]; · iexact Hre
  iexact Hp

/-- Sending the block of layer `l` to the peer `k` further, with leave to fill this device's slot `k` of received sums. -/
theorem wp_ag (c n : Dev nD) {l k : ℕ} (hl : l < 3) (hk : 1 ≤ k) (hk' : k < 32) (hn : n = peer c k)
    {sS sR : DmaSem sig} (hS : sS = xsem (32 * 0 + k)) (hR : sR = xsem (32 * (2 + 2 * l) + (32 - k)))
    {off : Fin 2 → ℕ} (hoff : off = ![256 * (32 - k), 0]) {inb : ∀ a, off a + S256x256.size a ≤ S8192x256.size a}
    {hsc : (xM.slice (Rect.unit (s := S8192x256) off S256x256.size inb) (fun _ => rfl) : Memref sig (Dev.tc n : Thread nD τ).2.kind .vmem S256x256 .bf16).view.ref.isScScratch = false}
    {hsrc : bM.view.WordExact} {hdst : (xM.slice (Rect.unit (s := S8192x256) off S256x256.size inb) (fun _ => rfl)).view.WordExact}
    {hsem : DmaTarget.Typed .vmem (.dma sR) (.remote (Dev.tc n : Thread nD τ)
      (xM.slice (Rect.unit (s := S8192x256) off S256x256.size inb) (fun _ => rfl) : Memref sig (Dev.tc n : Thread nD τ).2.kind .vmem S256x256 .bf16) (.dma sS) hsc)}
    (O : CellTallies nD τ sig Unit) {α : Type} {Q : α → sProp 𝕄} {kont : PUnit → Prog (TpuEff nD τ sig (Elt F) Λ₀ .tc) α} :
    iprop(Rec I K ∗ Owes c (O + tallyAt (rc (peer c k) (2 * l) (32 - k)) () N)
        ∗ bleaf c (X I l c) k ∗ xfree c k ∗ (∃ f : Big F, rslot c f k)
        ∗ dutyTok ER (sc c 0 k) l 0 ∗ reached ER (sc c 0 k) l ∗ dutyTok ER (rc (peer c k) (2 * l) (32 - k)) 0 0)
      ⊢ iprop(((Owes c O ∗ cred (tallyAt (sc c 0 k) () N)) -∗ WP c (kont ⟨⟩) Q)
          -∗ WP c (.op (.enqueueDma bM (.remote (Dev.tc n : Thread nD τ) (xM.slice (Rect.unit (s := S8192x256) off S256x256.size inb) (fun _ => rfl)) (.dma sS) hsc)
              (.dma sR) hsrc hdst hsem) kont) Q) := by
  subst hn hS hR hoff
  unfold Owes xfree
  iintro ⟨#HR, ⟨%W, HO⟩, Hb, ⟨%fd, Hx⟩, Hr, Ht1, #Hre, Ht2⟩ Hk
  icases (Rec_x I K c (32 * 0 + k)) $$ HR with ⟨#Hi1, -⟩
  icases (Rec_x I K (peer c k) (32 * (2 + 2 * l) + (32 - k))) $$ HR with ⟨#Hi2, #Hre2⟩
  iapply (Rounds.wp_send_pointsTo_with 𝒱₀ ER (Rd I) (c : Thread nD τ) none (c' := (peer c k : Thread nD τ)) (κ₁ := kx K c (32 * 0 + k)) (κ₂ := kx K (peer c k) (32 * (2 + 2 * l) + (32 - k)))
      (r₁ := l) (r₂ := 0) (d₁ := 0) (d₂ := 0) (fs := X I l c) (fd := fd) (F := iprop(∃ f : Big F, rslot c f k))
      (q := ShareLeaves.leaf 5 fullShare (⟨k % 32, Nat.mod_lt _ (by decide)⟩ : Fin (2 ^ 5)))
      (by rw [duties_x I c (by omega) (paid_send (by omega) hk hk' hl)]; exact Finset.mem_singleton_self _)
      (by rw [duties_x I (peer c k) (by omega) (paid_recv (by omega) (by omega))]; exact Finset.mem_singleton_self _)
      () () N rfl rfl rfl O rfl (W := W)
      (by rw [payload_x I c l 0 (by omega) hk']; rw [View.set_whole]; exact BI.Entails.refl _)
      (by
        rw [payload_x I (peer c k) 0 0 (by omega) (by omega)]
        have e1 : payDma I (2 + 2 * l) (32 - k) (peer c k) 0 = iprop(xslot (peer c k) (XF I l (peer c k)) (32 - k) ∗ ∃ f : Big F, rslot c f k) := by
          unfold payDma payX rfree
          rw [if_neg (by omega), if_neg (by omega), if_pos (by omega), show (2 + 2 * l - 2) / 2 = l by omega, peer_back c (by omega), show 32 - (32 - k) = k by omega]
        rw [e1]
        refine BI.sep_mono_l ?_
        unfold xslot xpt
        rw [show (xM.slice (Rect.unit (s := S8192x256) ![256 * (32 - k), 0] S256x256.size inb) (fun _ => rfl)).view.set
          = rows (256 * (32 - k)) (256 * (32 - k) + 256) from x_set 256 (256 * (32 - k)) inb]
        refine Entails.of_eq (pointsTo_congr (x_write 256 (256 * (32 - k)) inb fd (XF I l (peer c k)) _ ?_))
        rw [cut_XF I l (peer c k) (by omega), peer_back c (by omega)]
        exact View.read_whole _ _)) $$ [HO Hb Hx Hr Ht1 Ht2]
  · isplitr; · iexact Hi1
    isplitr; · iexact Hi2
    isplitl [Hb]; · unfold bleaf; rw [View.set_whole]; iexact Hb
    isplitl [Hx Hr]
    · isplitl [Hx]
      · unfold xslot xpt
        rw [show (xM.slice (Rect.unit (s := S8192x256) ![256 * (32 - k), 0] S256x256.size inb) (fun _ => rfl)).view.set
          = rows (256 * (32 - k)) (256 * (32 - k) + 256) from x_set 256 (256 * (32 - k)) inb]
        iexact Hx
      iexact Hr
    isplitl [HO]; · iexact HO
    isplitl [Ht1]; · iexact Ht1
    isplitr; · iexact Hre
    isplitl [Ht2]; · iexact Ht2
    iexact Hre2
  iintro ⟨Hc, HO⟩
  iapply Hk
  isplitl [HO]; · iexists W; iexact HO
  iexact Hc

/-- Sending the partial sums for the peer `k` further, with leave (but for the last layer) to fill this device's slot `k` of activations. -/
theorem wp_rs (c n : Dev nD) {l k : ℕ} (hl : l < 3) (hk : 1 ≤ k) (hk' : k < 32) (hn : n = peer c k)
    {sS sR : DmaSem sig} (hS : sS = xsem (32 * 1 + k)) (hR : sR = xsem (32 * (2 + (2 * l + 1)) + (32 - k)))
    {off off' : Fin 2 → ℕ} (hoff : off = ![256 * (32 - k), 0]) (hoff' : off' = ![256 * k, 0])
    {inb : ∀ a, off a + S256x256.size a ≤ S8192x256.size a} {inb' : ∀ a, off' a + S256x256.size a ≤ S8192x256.size a}
    {hsc : (rM.slice (Rect.unit (s := S8192x256) off S256x256.size inb) (fun _ => rfl) : Memref sig (Dev.tc n : Thread nD τ).2.kind .vmem S256x256 .bf16).view.ref.isScScratch = false}
    {hsrc : (pM.slice (Rect.unit (s := S8192x256) off' S256x256.size inb') (fun _ => rfl)).view.WordExact}
    {hdst : (rM.slice (Rect.unit (s := S8192x256) off S256x256.size inb) (fun _ => rfl)).view.WordExact}
    {hsem : DmaTarget.Typed .vmem (.dma sR) (.remote (Dev.tc n : Thread nD τ)
      (rM.slice (Rect.unit (s := S8192x256) off S256x256.size inb) (fun _ => rfl) : Memref sig (Dev.tc n : Thread nD τ).2.kind .vmem S256x256 .bf16) (.dma sS) hsc)}
    (O : CellTallies nD τ sig Unit) {α : Type} {Q : α → sProp 𝕄} {kont : PUnit → Prog (TpuEff nD τ sig (Elt F) Λ₀ .tc) α} :
    iprop(Rec I K ∗ Owes c (O + tallyAt (rc (peer c k) (2 * l + 1) (32 - k)) () N)
        ∗ pslot c (PT I l c) k ∗ rfree c k ∗ early l iprop(∃ f : Big F, xslot c f k)
        ∗ dutyTok ER (sc c 1 k) l 0 ∗ reached ER (sc c 1 k) l ∗ dutyTok ER (rc (peer c k) (2 * l + 1) (32 - k)) 0 0)
      ⊢ iprop(((Owes c O ∗ cred (tallyAt (sc c 1 k) () N)) -∗ WP c (kont ⟨⟩) Q)
          -∗ WP c (.op (.enqueueDma (pM.slice (Rect.unit (s := S8192x256) off' S256x256.size inb') (fun _ => rfl))
              (.remote (Dev.tc n : Thread nD τ) (rM.slice (Rect.unit (s := S8192x256) off S256x256.size inb) (fun _ => rfl)) (.dma sS) hsc)
              (.dma sR) hsrc hdst hsem) kont) Q) := by
  subst hn hS hR hoff hoff'
  unfold Owes rfree
  iintro ⟨#HR, ⟨%W, HO⟩, Hb, ⟨%fd, Hx⟩, Hr, Ht1, #Hre, Ht2⟩ Hk
  icases (Rec_x I K c (32 * 1 + k)) $$ HR with ⟨#Hi1, -⟩
  icases (Rec_x I K (peer c k) (32 * (2 + (2 * l + 1)) + (32 - k))) $$ HR with ⟨#Hi2, #Hre2⟩
  have eset : (pM.slice (Rect.unit (s := S8192x256) ![256 * k, 0] S256x256.size inb') (fun _ => rfl)).view.set
    = rows (256 * k) (256 * k + 256) := p_set 256 (256 * k) inb'
  have eset' : (rM.slice (Rect.unit (s := S8192x256) ![256 * (32 - k), 0] S256x256.size inb) (fun _ => rfl)).view.set
    = rows (256 * (32 - k)) (256 * (32 - k) + 256) := r_set 256 (256 * (32 - k)) inb
  iapply (Rounds.wp_send_pointsTo_with 𝒱₀ ER (Rd I) (c : Thread nD τ) none (c' := (peer c k : Thread nD τ)) (κ₁ := kx K c (32 * 1 + k)) (κ₂ := kx K (peer c k) (32 * (2 + (2 * l + 1)) + (32 - k)))
      (r₁ := l) (r₂ := 0) (d₁ := 0) (d₂ := 0) (fs := PT I l c) (fd := fd) (F := early l iprop(∃ f : Big F, xslot c f k))
      (q := fullShare)
      (by rw [duties_x I c (by omega) (paid_send (by omega) hk hk' hl)]; exact Finset.mem_singleton_self _)
      (by rw [duties_x I (peer c k) (by omega) (paid_recv (by omega) (by omega))]; exact Finset.mem_singleton_self _)
      () () N rfl rfl rfl O rfl (W := W)
      (by rw [payload_x I c l 0 (by omega) hk', eset]; exact BI.Entails.refl _)
      (by
        rw [payload_x I (peer c k) 0 0 (by omega) (by omega)]
        have e1 : payDma I (2 + (2 * l + 1)) (32 - k) (peer c k) 0
            = iprop(rslot (peer c k) (RS I l (peer c k)) (32 - k) ∗ early l iprop(∃ f : Big F, xslot c f k)) := by
          unfold payDma payR xfree
          rw [if_neg (by omega), if_neg (by omega), if_neg (by omega), show (2 + (2 * l + 1) - 2) / 2 = l by omega, peer_back c (by omega),
            show 32 - (32 - k) = k by omega]
        rw [e1]
        refine BI.sep_mono_l ?_
        unfold rslot rpt
        rw [eset']
        refine Entails.of_eq (pointsTo_congr (r_write 256 (256 * (32 - k)) inb fd (RS I l (peer c k)) _ ?_))
        rw [cut_RS I l (peer c k) (by omega), peer_back c (by omega), show 32 - (32 - k) = k by omega]
        exact p_read 256 (256 * k) inb' _)) $$ [HO Hb Hx Hr Ht1 Ht2]
  · isplitr; · iexact Hi1
    isplitr; · iexact Hi2
    isplitl [Hb]; · unfold pslot ppt; rw [eset]; iexact Hb
    isplitl [Hx Hr]
    · isplitl [Hx]
      · unfold rslot rpt; rw [eset']; iexact Hx
      iexact Hr
    isplitl [HO]; · iexact HO
    isplitl [Ht1]; · iexact Ht1
    isplitr; · iexact Hre
    isplitl [Ht2]; · iexact Ht2
    iexact Hre2
  iintro ⟨Hc, HO⟩
  iapply Hk
  isplitl [HO]; · iexists W; iexact HO
  iexact Hc

end Cert.MlpProof

end
-- ==== Proof.State.lean ====
/-
# A device's state within a layer

Runs of slots joined and split; the state of a device between two steps of a layer; and the same between two layers.
-/
module

public import proofs.«01_k».proof.Proof.Trips
public import Idealize.ShloMosaic.Lib.Ring

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Runs -/

/-- One `Φ r` for each `a ≤ r < b`. -/
abbrev run (a b : ℕ) (Φ : ℕ → sProp 𝕄) : sProp 𝕄 := bigSep (Finset.Ico a b) Φ

section Runs
omit [FloatOps F]

theorem run_nil (a : ℕ) (Φ : ℕ → sProp 𝕄) : run a a Φ = iprop(emp) := by unfold run; rw [Finset.Ico_self, bigSep_empty]; rfl
theorem run_split {a b d : ℕ} (h₁ : a ≤ b) (h₂ : b ≤ d) (Φ : ℕ → sProp 𝕄) : run a d Φ = iprop(run a b Φ ∗ run b d Φ) := by
  unfold run
  rw [← Finset.Ico_union_Ico_eq_Ico h₁ h₂, bigSep_union (Finset.Ico_disjoint_Ico_consecutive a b d)]; rfl
theorem run_sep (a b : ℕ) (Φ Ψ : ℕ → sProp 𝕄) : run a b (fun r => iprop(Φ r ∗ Ψ r)) = iprop(run a b Φ ∗ run a b Ψ) := bigSep_sep' _ _ _
theorem run_congr {a b : ℕ} {Φ Ψ : ℕ → sProp 𝕄} (h : ∀ r, a ≤ r → r < b → Φ r = Ψ r) : run a b Φ = run a b Ψ :=
  bigSep_congr fun r hr => h r (Finset.mem_Ico.mp hr).1 (Finset.mem_Ico.mp hr).2
theorem run_mono {a b : ℕ} {Φ Ψ : ℕ → sProp 𝕄} (h : ∀ r, a ≤ r → r < b → Φ r ⊢ Ψ r) : run a b Φ ⊢ run a b Ψ :=
  bigSep_mono fun r hr => h r (Finset.mem_Ico.mp hr).1 (Finset.mem_Ico.mp hr).2
theorem run_one (a : ℕ) (Φ : ℕ → sProp 𝕄) : run a (a + 1) Φ = Φ a := bigSep_Ico_one a Φ
theorem run_emp (a b : ℕ) : run a b (fun _ => iprop(emp)) = (iprop(emp) : sProp 𝕄) := bigSep_emp_const _

/-- A family of rows that can be cut anywhere is a run of slots. -/
theorem slots_of {P : Big F → ℕ → ℕ → sProp 𝕄} (hU : ∀ f a b d, a ≤ b → b ≤ d → P f a d = iprop(P f a b ∗ P f b d))
    (hE : ∀ f a, P f a a = iprop(emp)) (f : Big F) {a b : ℕ} (h : a ≤ b) :
    P f (256 * a) (256 * b) = run a b fun r => P f (256 * r) (256 * r + 256) := by
  obtain ⟨n, rfl⟩ := Nat.exists_eq_add_of_le h
  induction n with
  | zero => rw [Nat.add_zero, run_nil, hE]
  | succ n ih =>
    rw [run_split (b := a + n) (by omega) (by omega), hU f (256 * a) (256 * (a + n)) _ (by omega) (by omega), ih (by omega),
      show a + (n + 1) = (a + n) + 1 from rfl, run_one]
    rfl

variable (c : Dev nD)

theorem xpt_union (f : Big F) (a b d : ℕ) (h₁ : a ≤ b) (h₂ : b ≤ d) : xpt c f a d = iprop(xpt c f a b ∗ xpt c f b d) := by
  unfold xpt; rw [← rows_union h₁ h₂]
  exact BI.Entails.antisymm (pointsTo_union (ℓ := (c : Thread nD τ).loc cc0_scratch0) (rows_disjoint le_rfl)).1 (pointsTo_union (ℓ := (c : Thread nD τ).loc cc0_scratch0) (rows_disjoint le_rfl)).2
theorem ppt_union (f : Big F) (a b d : ℕ) (h₁ : a ≤ b) (h₂ : b ≤ d) : ppt c f a d = iprop(ppt c f a b ∗ ppt c f b d) := by
  unfold ppt; rw [← rows_union h₁ h₂]
  exact BI.Entails.antisymm (pointsTo_union (ℓ := (c : Thread nD τ).loc cc0_scratch1) (rows_disjoint le_rfl)).1 (pointsTo_union (ℓ := (c : Thread nD τ).loc cc0_scratch1) (rows_disjoint le_rfl)).2
theorem rpt_union (f : Big F) (a b d : ℕ) (h₁ : a ≤ b) (h₂ : b ≤ d) : rpt c f a d = iprop(rpt c f a b ∗ rpt c f b d) := by
  unfold rpt; rw [← rows_union h₁ h₂]
  exact BI.Entails.antisymm (pointsTo_union (ℓ := (c : Thread nD τ).loc cc0_scratch2) (rows_disjoint le_rfl)).1 (pointsTo_union (ℓ := (c : Thread nD τ).loc cc0_scratch2) (rows_disjoint le_rfl)).2
theorem xpt_nil (f : Big F) (a : ℕ) : xpt c f a a = iprop(emp) := by unfold xpt; rw [rows_empty le_rfl]; exact pointsTo_empty
theorem ppt_nil (f : Big F) (a : ℕ) : ppt c f a a = iprop(emp) := by unfold ppt; rw [rows_empty le_rfl]; exact pointsTo_empty
theorem rpt_nil (f : Big F) (a : ℕ) : rpt c f a a = iprop(emp) := by unfold rpt; rw [rows_empty le_rfl]; exact pointsTo_empty
theorem xslots (f : Big F) {a b : ℕ} (h : a ≤ b) : xpt c f (256 * a) (256 * b) = run a b (xslot c f) :=
  slots_of (xpt_union c) (xpt_nil c) f h
theorem pslots (f : Big F) {a b : ℕ} (h : a ≤ b) : ppt c f (256 * a) (256 * b) = run a b (pslot c f) :=
  slots_of (ppt_union c) (ppt_nil c) f h
theorem rslots (f : Big F) {a b : ℕ} (h : a ≤ b) : rpt c f (256 * a) (256 * b) = run a b (rslot c f) :=
  slots_of (rpt_union c) (rpt_nil c) f h

/-- Rows at some contents or other. -/
def xany (a b : ℕ) : sProp 𝕄 := iprop(∃ f : Big F, xpt c f a b)
def pany (a b : ℕ) : sProp 𝕄 := iprop(∃ f : Big F, ppt c f a b)
def rany (a b : ℕ) : sProp 𝕄 := iprop(∃ f : Big F, rpt c f a b)

theorem xany_join {a b d : ℕ} (h₁ : a ≤ b) (h₂ : b ≤ d) : iprop(xany (F := F) c a b ∗ xany c b d) ⊢ xany c a d := by
  unfold xany xpt; iintro ⟨⟨%f, Hf⟩, ⟨%g, Hg⟩⟩; iexists _
  rw [← rows_union h₁ h₂]; iapply (pointsTo_join (rows_disjoint le_rfl))
  isplitl [Hf] <;> iassumption
theorem pany_join {a b d : ℕ} (h₁ : a ≤ b) (h₂ : b ≤ d) : iprop(pany (F := F) c a b ∗ pany c b d) ⊢ pany c a d := by
  unfold pany ppt; iintro ⟨⟨%f, Hf⟩, ⟨%g, Hg⟩⟩; iexists _
  rw [← rows_union h₁ h₂]; iapply (pointsTo_join (rows_disjoint le_rfl))
  isplitl [Hf] <;> iassumption
theorem rany_join {a b d : ℕ} (h₁ : a ≤ b) (h₂ : b ≤ d) : iprop(rany (F := F) c a b ∗ rany c b d) ⊢ rany c a d := by
  unfold rany rpt; iintro ⟨⟨%f, Hf⟩, ⟨%g, Hg⟩⟩; iexists _
  rw [← rows_union h₁ h₂]; iapply (pointsTo_join (rows_disjoint le_rfl))
  isplitl [Hf] <;> iassumption
theorem slot_some_x {a b : ℕ} (f : Big F) (r : ℕ) (_ : a ≤ r) (_ : r < b) : xslot c f r ⊢ iprop(∃ f : Big F, xslot c f r) := by
  iintro H; iexists f; iexact H
theorem slot_some_r {a b : ℕ} (f : Big F) (r : ℕ) (_ : a ≤ r) (_ : r < b) : rslot c f r ⊢ iprop(∃ f : Big F, rslot c f r) := by
  iintro H; iexists f; iexact H
theorem xany_slots {a b : ℕ} (h : a ≤ b) : xany (F := F) c (256 * a) (256 * b) ⊢ run a b fun r => iprop(∃ f : Big F, xslot c f r) := by
  unfold xany; iintro ⟨%f, H⟩
  ihave H' := (BIBase.Entails.of_eq (xslots c f h)) $$ H
  iapply (run_mono (Φ := xslot c f) (Ψ := fun r => iprop(∃ f : Big F, xslot c f r)) (slot_some_x c f)); iexact H'
theorem rany_slots {a b : ℕ} (h : a ≤ b) : rany (F := F) c (256 * a) (256 * b) ⊢ run a b fun r => iprop(∃ f : Big F, rslot c f r) := by
  unfold rany; iintro ⟨%f, H⟩
  ihave H' := (BIBase.Entails.of_eq (rslots c f h)) $$ H
  iapply (run_mono (Φ := rslot c f) (Ψ := fun r => iprop(∃ f : Big F, rslot c f r)) (slot_some_r c f)); iexact H'

/-- The whole block to be sent. -/
def bpt (f : Vec F S256x256 .bf16) : sProp 𝕄 := (c : Thread nD τ).loc cc0_scratch3 ↦[Finset.univ]{fullShare} f
/-- The running sum. -/
def apt (f : Vec F S256x256 .f32) : sProp 𝕄 := (c : Thread nD τ).loc cc0_scratch4 ↦[Finset.univ]{fullShare} f

theorem range_eq (n : ℕ) : Finset.range n = Finset.Ico 0 n := by rw [Finset.range_eq_Ico]

/-- The block is its 32 shares. -/
theorem bpt_leaves (f : Vec F S256x256 .bf16) : bpt c f = run 0 32 (bleaf c f) := by
  unfold bpt
  refine (ShareLeaves.pointsTo_leaves (ℓ := (c : Thread nD τ).loc cc0_scratch3) Finset.univ f 5 fullShare).trans ?_
  show _ = bigSep (Finset.Ico 0 32) _
  rw [← range_eq]
  exact Ring.bigSep_fin_eq_range 32 _ (bleaf c f) (fun i h => by
    unfold bleaf
    rw [show (⟨i % 32, Nat.mod_lt _ (by decide)⟩ : Fin (2 ^ 5)) = ⟨i, h⟩ from Fin.ext (Nat.mod_eq_of_lt h)])

end Runs

/-! ## The pieces of the state -/

variable (I : Ins F) (c : Dev nD)

section Pieces
omit [FloatOps F]
/-- A receive yet to come, and one that has come. -/
def wt (p r : ℕ) : sProp 𝕄 := iprop(cred (tallyAt (rc c p r) () N) ∗ atPos ER (rc c p r) 0 ∅ 0)
def dn (p r : ℕ) : sProp 𝕄 := atPos ER (rc c p r) 1 ∅ 0
/-- The round a send cell is at; that it has reached it; the credit of a send under way. -/
def sp (a l r : ℕ) : sProp 𝕄 := atPos ER (sc c a r) l ∅ 0
def re (a l r : ℕ) : sProp 𝕄 := reached ER (sc c a r) l
def sw (a r : ℕ) : sProp 𝕄 := cred (tallyAt (sc c a r) () N)
/-- The rights to pay for a layer's copies of activations and of sums. -/
def tkA (l r : ℕ) : sProp 𝕄 := iprop(dutyTok ER (sc c 0 r) l 0 ∗ dutyTok ER (rc (peer c r) (2 * l) (32 - r)) 0 0)
def tkR (l r : ℕ) : sProp 𝕄 := iprop(dutyTok ER (sc c 1 r) l 0 ∗ dutyTok ER (rc (peer c r) (2 * l + 1) (32 - r)) 0 0)
/-- What a layer to come needs, and what a layer past leaves. -/
def Kit (l : ℕ) : sProp 𝕄 := run 1 32 fun r => iprop(tkA c l r ∗ tkR c l r ∗ wt c (2 * l) r ∗ wt c (2 * l + 1) r)
def Past (l : ℕ) : sProp 𝕄 := run 1 32 fun r => iprop(dn c (2 * l) r ∗ dn c (2 * l + 1) r)

instance re_persistent (a l r : ℕ) : BI.Persistent (re (F := F) c a l r) := by unfold re; infer_instance
end Pieces

/-- The activations held above the slots not yet read: all of them in the last layer, none once handed on before. -/
def xtop (l s : ℕ) : ℕ := if l < 2 then 256 * s else 8192

theorem xtop_ge (l : ℕ) {s : ℕ} (hs : s ≤ 32) : 256 * s ≤ xtop l s := by unfold xtop; split <;> omega
theorem xtop_top (l : ℕ) : xtop l 32 = 8192 := by unfold xtop; split <;> rfl

/-- Within layer `l`, once the block has been sent out: the activations of slots `a` and up have come in, the partial sums
    of groups `w` and up are computed, those of slots `s` and up are sent, and the sums of slots below `d` have come in. -/
def St (l a s w d : ℕ) : sProp 𝕄 :=
  iprop((run (l + 1) 3 (Kit c) ∗ run 0 l (Past c))
    ∗ Owes c (debt c (2 * l + 2) + owP (2 * l + 1) c 1 s)
    ∗ (run 1 a (wt c (2 * l)) ∗ run a 32 (dn c (2 * l)))
    ∗ (run 1 d (dn c (2 * l + 1)) ∗ run d 32 (wt c (2 * l + 1)))
    ∗ (run 1 32 (sw c 0) ∗ run 1 32 (sp c 0 l) ∗ run s 32 (sw c 1) ∗ run 1 32 (sp c 1 l))
    ∗ (run 1 s (tkR c l) ∗ run 1 s (re c 1 l))
    ∗ bleaf c (X I l c) 0
    ∗ (xpt c (XF I l c) 0 256 ∗ xpt c (XF I l c) (256 * a) (xtop l s) ∗ run a s (rfree c))
    ∗ (ppt c (PT I l c) (2048 * w) (256 * s) ∗ pany c 0 (2048 * w))
    ∗ (rany c 0 256 ∗ rpt c (RS I l c) 256 (256 * d) ∗ run 1 d (fun r => early l (xfree c r))))

/-- Between layers, `l` of them done: all but the block, the running sum and the first slot of activations. -/
def Bt (l : ℕ) : sProp 𝕄 :=
  iprop((run l 3 (Kit c) ∗ run 0 l (Past c))
    ∗ Owes c (debt c (2 * l))
    ∗ (run 1 32 (sp c 0 l) ∗ run 1 32 (sp c 1 l) ∗ run 1 32 (re c 0 l) ∗ run 1 32 (re c 1 l))
    ∗ pany c 0 8192 ∗ rany c 0 8192
    ∗ (if l < 3 then run 1 32 (xfree c) else xany c 256 8192))

end Cert.MlpProof

end
-- ==== Proof.Kinds.lean ====
/-
# The six kinds of loop trip

What one trip of each loop does to the device's state, and that the operations of a trip do it.
-/
module

public import proofs.«01_k».proof.Proof.State

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-- A trip `p` turns `P` into `Q`, given what is known of every cell. -/
def Trip (p : Prog (TpuEff nD τ sig (Elt F) Λ₀ .tc) Unit) (P Q : sProp 𝕄) : Prop :=
  iprop(Rec I K ∗ P) ⊢ WP c p fun _ => Q

/-- The right to signal the barrier of the peer `r` further. -/
def tkB (r : ℕ) : sProp 𝕄 := dutyTok ER (bc (peer c r)) 0 (32 - r)

/-- Signalling the peer `r` further. -/
def SigTrip (r : ℕ) (p : Prog (TpuEff nD τ sig (Elt F) Λ₀ .tc) Unit) : Prop :=
  ∀ O, Trip I K c p iprop(Owes c (O + tallyAt (bc (peer c r)) () 1) ∗ tkB c r ∗ (∃ f : Big F, xslot c f r)) (Owes c O)
/-- Sending the block to the peer `r` further. -/
def AgTrip (l r : ℕ) (p : Prog (TpuEff nD τ sig (Elt F) Λ₀ .tc) Unit) : Prop :=
  ∀ O, Trip I K c p
    iprop(Owes c (O + tallyAt (rc (peer c r) (2 * l) (32 - r)) () N)
      ∗ bleaf c (X I l c) r ∗ xfree c r ∗ (∃ f : Big F, rslot c f r) ∗ tkA c l r ∗ re c 0 l r)
    iprop(Owes c O ∗ sw c 0 r)
/-- Waiting for slot `r` of the activations. -/
def WxTrip (l r : ℕ) (p : Prog (TpuEff nD τ sig (Elt F) Λ₀ .tc) Unit) : Prop :=
  ∀ O, Above (2 + 2 * l) O → Trip I K c p iprop(Owes c O ∗ wt c (2 * l) r)
    iprop(Owes c O ∗ (dn c (2 * l) r ∗ xslot c (XF I l c) r ∗ rfree c r))
/-- Sending the partial sums for the peer `r` further. -/
def RsTrip (l r : ℕ) (p : Prog (TpuEff nD τ sig (Elt F) Λ₀ .tc) Unit) : Prop :=
  ∀ O, Trip I K c p
    iprop(Owes c (O + tallyAt (rc (peer c r) (2 * l + 1) (32 - r)) () N)
      ∗ pslot c (PT I l c) r ∗ rfree c r ∗ early l iprop(∃ f : Big F, xslot c f r) ∗ tkR c l r ∗ re c 1 l r)
    iprop(Owes c O ∗ sw c 1 r)
/-- Waiting for slot `r` of the sums. -/
def WpTrip (l r : ℕ) (p : Prog (TpuEff nD τ sig (Elt F) Λ₀ .tc) Unit) : Prop :=
  ∀ O, Above (2 + (2 * l + 1)) O → Trip I K c p iprop(Owes c O ∗ wt c (2 * l + 1) r)
    iprop(Owes c O ∗ (dn c (2 * l + 1) r ∗ rslot c (RS I l c) r ∗ early l (xfree c r)))
/-! A whole slot moves as many bytes whichever buffer it lies in. -/

theorem x_credit {off : Fin 2 → ℕ} {inb : ∀ a, off a + S256x256.size a ≤ S8192x256.size a} :
    (xM.slice (Rect.unit (s := S8192x256) off S256x256.size inb) (fun _ => rfl)).view.dmaCredit = N := rfl
theorem p_credit {off : Fin 2 → ℕ} {inb : ∀ a, off a + S256x256.size a ≤ S8192x256.size a} :
    (pM.slice (Rect.unit (s := S8192x256) off S256x256.size inb) (fun _ => rfl)).view.dmaCredit = N := rfl
theorem r_credit {off : Fin 2 → ℕ} {inb : ∀ a, off a + S256x256.size a ≤ S8192x256.size a} :
    (rM.slice (Rect.unit (s := S8192x256) off S256x256.size inb) (fun _ => rfl)).view.dmaCredit = N := rfl

/-- Waiting for the two sends to the peer `r` further. -/
def SwTrip (l r : ℕ) (p : Prog (TpuEff nD τ sig (Elt F) Λ₀ .tc) Unit) : Prop :=
  ∀ O, Above 0 O → Trip I K c p iprop(Owes c O ∗ ((sw c 0 r ∗ sp c 0 l r) ∗ (sw c 1 r ∗ sp c 1 l r)))
    iprop(Owes c O ∗ ((bleaf c (X I l c) r ∗ sp c 0 (l + 1) r ∗ re c 0 (l + 1) r) ∗ (pslot c (PT I l c) r ∗ sp c 1 (l + 1) r ∗ re c 1 (l + 1) r)))

theorem sig_trip {r : ℕ} (hr : 1 ≤ r) (hr' : r < 32) {n : Dev nD} (hn : n = peer c r) :
    SigTrip I K c r (semSignalWord n barS 1#32 >>= fun _ => pure ⟨⟩) := by
  intro O
  unfold Trip tkB
  simp only [semSignalWord, Prog.lift, Prog.bind_op, Prog.bind_ret, Prog.pure_eq_ret]
  iintro ⟨#HR, HO, Ht, Hx⟩
  iapply (wp_sig I K c n hr hr' hn O) $$ [HO Ht Hx]
  · isplitr; · iexact HR
    isplitl [HO]; · iexact HO
    isplitl [Ht]; · iexact Ht
    iexact Hx
  iintro HO
  unfold WP; rw [wp_ret]; imodintro; iexact HO

theorem ag_trip {l r : ℕ} (hl : l < 3) (hr : 1 ≤ r) (hr' : r < 32) {n : Dev nD} (hn : n = peer c r)
    {oS oR off : Fin 2 → ℕ} (hS : oS = ![0, r]) (hR : oR = ![2 * l, 32 - r]) (hoff : off = ![256 * (32 - r), 0])
    {iS iR} {qS qR} {inb : ∀ a, off a + S256x256.size a ≤ S8192x256.size a} {hsc} {hsrc} {hdst} {hsem} :
    AgTrip I K c l r (Prog.lift (.enqueueDma bM (.remote (Dev.tc n : Thread nD τ)
        (xM.slice (Rect.unit (s := S8192x256) off S256x256.size inb) (fun _ => rfl))
        (.dma ((cc0_scratch5.slice (Rect.unit (s := S2x32) oS S1x1.size iS)).squeeze S_ qS).sem) hsc)
        (.dma ((cc0_scratch6.slice (Rect.unit (s := S6x32) oR S1x1.size iR)).squeeze S_ qR).sem) hsrc hdst hsem)
      >>= fun _ => pure ⟨⟩) := by
  subst hS hR
  intro O
  unfold Trip tkA
  simp only [Prog.lift, Prog.bind_op, Prog.bind_ret, Prog.pure_eq_ret]
  iintro ⟨#HR, HO, Hb, Hx, Hr, ⟨Ht1, Ht2⟩, #Hre⟩
  iapply (wp_ag I K c n hl hr hr' hn (send_sem 0 r (by omega) hr' _ _) (recv_sem (2 * l) (32 - r) (by omega) (by omega) _ _) hoff O) $$ [HO Hb Hx Hr Ht1 Ht2]
  · isplitr; · iexact HR
    isplitl [HO]; · iexact HO
    isplitl [Hb]; · iexact Hb
    isplitl [Hx]; · iexact Hx
    isplitl [Hr]; · iexact Hr
    isplitl [Ht1]; · iexact Ht1
    isplitr; · unfold re; iexact Hre
    iexact Ht2
  iintro ⟨HO, Hc⟩
  unfold WP; rw [wp_ret]; imodintro
  isplitl [HO]; · iexact HO
  unfold sw; iexact Hc

theorem rs_trip {l r : ℕ} (hl : l < 3) (hr : 1 ≤ r) (hr' : r < 32) {n : Dev nD} (hn : n = peer c r)
    {oS oR off off' : Fin 2 → ℕ} (hS : oS = ![1, r]) (hR : oR = ![2 * l + 1, 32 - r]) (hoff : off = ![256 * (32 - r), 0]) (hoff' : off' = ![256 * r, 0])
    {iS iR} {qS qR} {inb : ∀ a, off a + S256x256.size a ≤ S8192x256.size a} {inb' : ∀ a, off' a + S256x256.size a ≤ S8192x256.size a}
    {hsc} {hsrc} {hdst} {hsem} :
    RsTrip I K c l r (Prog.lift (.enqueueDma (pM.slice (Rect.unit (s := S8192x256) off' S256x256.size inb') (fun _ => rfl))
        (.remote (Dev.tc n : Thread nD τ) (rM.slice (Rect.unit (s := S8192x256) off S256x256.size inb) (fun _ => rfl))
        (.dma ((cc0_scratch5.slice (Rect.unit (s := S2x32) oS S1x1.size iS)).squeeze S_ qS).sem) hsc)
        (.dma ((cc0_scratch6.slice (Rect.unit (s := S6x32) oR S1x1.size iR)).squeeze S_ qR).sem) hsrc hdst hsem)
      >>= fun _ => pure ⟨⟩) := by
  subst hS hR
  intro O
  unfold Trip tkR
  simp only [Prog.lift, Prog.bind_op, Prog.bind_ret, Prog.pure_eq_ret]
  iintro ⟨#HR, HO, Hb, Hr, Hx, ⟨Ht1, Ht2⟩, #Hre⟩
  iapply (wp_rs I K c n hl hr hr' hn (send_sem 1 r (by omega) hr' _ _) (recv_sem (2 * l + 1) (32 - r) (by omega) (by omega) _ _) hoff hoff' O) $$ [HO Hb Hx Hr Ht1 Ht2]
  · isplitr; · iexact HR
    isplitl [HO]; · iexact HO
    isplitl [Hb]; · iexact Hb
    isplitl [Hr]; · iexact Hr
    isplitl [Hx]; · iexact Hx
    isplitl [Ht1]; · iexact Ht1
    isplitr; · unfold re; iexact Hre
    iexact Ht2
  iintro ⟨HO, Hc⟩
  unfold WP; rw [wp_ret]; imodintro
  isplitl [HO]; · iexact HO
  unfold sw; iexact Hc

theorem pay_b (l r : ℕ) : payDma I 0 r c l = bleaf c (X I l c) r := by unfold payDma; rw [if_pos rfl]
theorem pay_p (l r : ℕ) : payDma I 1 r c l = pslot c (PT I l c) r := by unfold payDma; rw [if_neg (by omega), if_pos rfl]
theorem pay_x (l r : ℕ) : payDma I (2 + 2 * l) r c 0 = payX I l c r := by
  unfold payDma
  rw [if_neg (by omega), if_neg (by omega), if_pos (by omega), show (2 + 2 * l - 2) / 2 = l by omega]
theorem pay_r (l r : ℕ) : payDma I (2 + (2 * l + 1)) r c 0 = payR I l c r := by
  unfold payDma
  rw [if_neg (by omega), if_neg (by omega), if_neg (by omega), show (2 + (2 * l + 1) - 2) / 2 = l by omega]

theorem wx_trip {l r : ℕ} (hl : l < 3) (hr : 1 ≤ r) (hr' : r < 32) {oR : Fin 2 → ℕ} (hR : oR = ![2 * l, r]) {iR} {qR}
    {e : EltTy} {b : Space} {s' : Shape} {src : Memref sig .tc b s' e}
    {h₁ : src.view.WordExact} {off : Fin 2 → ℕ} {inb : ∀ a, off a + S256x256.size a ≤ S8192x256.size a} {h₂} :
    WxTrip I K c l r (Prog.lift (.waitDma2 ((cc0_scratch6.slice (Rect.unit (s := S6x32) oR S1x1.size iR)).squeeze S_ qR).sem src (xM.slice (Rect.unit (s := S8192x256) off S256x256.size inb) (fun _ => rfl)) h₁ h₂)
      >>= fun _ => pure ⟨⟩) := by
  subst hR
  intro O hO
  unfold Trip wt dn
  simp only [Prog.lift, Prog.bind_op, Prog.bind_ret, Prog.pure_eq_ret]
  iintro ⟨#HR, HO, Hc, Hat⟩
  iapply (wp_dma I K c (a := 2 + 2 * l) (k := r) (r := 0) (by omega) hr' (paid_recv hr hr') O
    (by rw [lv_recv c (2 * l) r (by omega) hr']; exact hO) (recv_sem (2 * l) r (by omega) hr' _ _) x_credit) $$ [HO Hc Hat]
  · isplitr; · iexact HR
    isplitl [HO]; · iexact HO
    isplitl [Hc] <;> iassumption
  rw [pay_x]
  unfold payX
  iintro ⟨HO, Hat, -, Hx, Hr⟩
  unfold WP; rw [wp_ret]; imodintro
  isplitl [HO]; · iexact HO
  isplitl [Hat]; · iexact Hat
  isplitl [Hx] <;> iassumption

theorem wp_trip {l r : ℕ} (hl : l < 3) (hr : 1 ≤ r) (hr' : r < 32) {oR : Fin 2 → ℕ} (hR : oR = ![2 * l + 1, r]) {iR} {qR}
    {e : EltTy} {b : Space} {s' : Shape} {src : Memref sig .tc b s' e}
    {h₁ : src.view.WordExact} {off : Fin 2 → ℕ} {inb : ∀ a, off a + S256x256.size a ≤ S8192x256.size a} {h₂} :
    WpTrip I K c l r (Prog.lift (.waitDma2 ((cc0_scratch6.slice (Rect.unit (s := S6x32) oR S1x1.size iR)).squeeze S_ qR).sem src (rM.slice (Rect.unit (s := S8192x256) off S256x256.size inb) (fun _ => rfl)) h₁ h₂)
      >>= fun _ => pure ⟨⟩) := by
  subst hR
  intro O hO
  unfold Trip wt dn
  simp only [Prog.lift, Prog.bind_op, Prog.bind_ret, Prog.pure_eq_ret]
  iintro ⟨#HR, HO, Hc, Hat⟩
  iapply (wp_dma I K c (a := 2 + (2 * l + 1)) (k := r) (r := 0) (by omega) hr' (paid_recv hr hr') O
    (by rw [lv_recv c (2 * l + 1) r (by omega) hr']; exact hO) (recv_sem (2 * l + 1) r (by omega) hr' _ _) r_credit) $$ [HO Hc Hat]
  · isplitr; · iexact HR
    isplitl [HO]; · iexact HO
    isplitl [Hc] <;> iassumption
  rw [pay_r]
  unfold payR
  iintro ⟨HO, Hat, -, Hx, Hr⟩
  unfold WP; rw [wp_ret]; imodintro
  isplitl [HO]; · iexact HO
  isplitl [Hat]; · iexact Hat
  isplitl [Hx] <;> iassumption

theorem sw_trip {l r : ℕ} (hl : l < 3) (hr : 1 ≤ r) (hr' : r < 32) {o o' : Fin 2 → ℕ} (ho : o = ![0, r]) (ho' : o' = ![1, r]) {i i'} {q q'}
    {e : EltTy} {b : Space} {s' : Shape} {src : Memref sig .tc b s' e}
    {h₁ : src.view.WordExact} {h₂}
    {e₂ : EltTy} {b₂ : Space} {s₂ : Shape} {src₂ : Memref sig .tc b₂ s₂ e₂}
    {h₃ : src₂.view.WordExact} {off : Fin 2 → ℕ} {inb : ∀ a, off a + S256x256.size a ≤ S8192x256.size a} {h₄} :
    SwTrip I K c l r (Prog.lift (.waitDma2 ((cc0_scratch5.slice (Rect.unit (s := S2x32) o S1x1.size i)).squeeze S_ q).sem src bM h₁ h₂)
      >>= fun _ => Prog.lift (.waitDma2 ((cc0_scratch5.slice (Rect.unit (s := S2x32) o' S1x1.size i')).squeeze S_ q').sem src₂ (pM.slice (Rect.unit (s := S8192x256) off S256x256.size inb) (fun _ => rfl)) h₃ h₄)
      >>= fun _ => pure ⟨⟩) := by
  subst ho ho'
  intro O hO
  unfold Trip sw sp re
  simp only [Prog.lift, Prog.bind_op, Prog.bind_ret, Prog.pure_eq_ret]
  iintro ⟨#HR, HO, ⟨Hc, Hat⟩, Hc', Hat'⟩
  iapply (wp_dma I K c (a := 0) (k := r) (r := l) (by omega) hr' (paid_send (by omega) hr hr' hl) O
    (by rw [lv_send c 0 r (by omega) hr']; exact hO) (send_sem 0 r (by omega) hr' _ _) rfl) $$ [HO Hc Hat]
  · isplitr; · iexact HR
    isplitl [HO]; · iexact HO
    isplitl [Hc] <;> iassumption
  rw [pay_b]
  iintro ⟨HO, Hat, Hre, Hb⟩
  iapply (wp_dma I K c (a := 1) (k := r) (r := l) (by omega) hr' (paid_send (by omega) hr hr' hl) O
    (by rw [lv_send c 1 r (by omega) hr']; exact hO) (send_sem 1 r (by omega) hr' _ _) p_credit) $$ [HO Hc' Hat']
  · isplitr; · iexact HR
    isplitl [HO]; · iexact HO
    isplitl [Hc'] <;> iassumption
  rw [pay_p]
  iintro ⟨HO, Hat', Hre', Hp⟩
  unfold WP; rw [wp_ret]; imodintro
  isplitl [HO]; · iexact HO
  isplitl [Hb Hat Hre]
  · isplitl [Hb]; · iexact Hb
    isplitl [Hat] <;> iassumption
  isplitl [Hp]; · iexact Hp
  isplitl [Hat'] <;> iassumption

end Cert.MlpProof

end
-- ==== Proof.Steps.lean ====
/-
# The loops, as steps of a device's state

What each loop of a layer does to the state of State.lean, given what its trips do.
-/
module

public import proofs.«01_k».proof.Proof.Kinds

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)
variable {Lp : Scf.Loop 32} {hok : Lp.OK} {body : Fin Lp.trips → Unit → Prog (TpuEff nD τ sig (Elt F) Λ₀ .tc) Unit}
  {β : Type} {kk : Unit → Prog (TpuEff nD τ sig (Elt F) Λ₀ .tc) β}

/-- Equal assertions may stand for each other. -/
theorem as_eq {P P' : sProp 𝕄} (h : P = P') : P ⊢ P' := h ▸ BI.Entails.refl _

/-- The wait for the activations of slots `a' ≤ r < a`. -/
theorem step_wx {Q : β → sProp 𝕄} {l : ℕ} (hl : l < 3) {a' a s w d : ℕ} (h₁ : 1 ≤ a') (h₂ : a' ≤ a) (h₃ : a ≤ s) (hs : s ≤ 32) (htr : a' + Lp.trips = a)
    (hb : ∀ k acc, 1 ≤ a' + k.val → a' + k.val < 32 → WxTrip I K c l (a' + k.val) (body k acc)) :
    iprop(Rec I K ∗ St I c l a s w d)
      ⊢ iprop((St I c l a' s w d -∗ WP c (kk ⟨⟩) Q) -∗ WP c (Scf.Loop.for Lp hok ⟨⟩ body >>= kk) Q) := by
  have hA : Above (2 + 2 * l) (debt c (2 * l + 2) + owP (2 * l + 1) c 1 s) :=
    above_add (above_debt c (by omega)) (above_owP c (by omega) le_rfl hs (by omega))
  have ht := xtop_ge l hs
  unfold St
  iintro ⟨#HR, Hout, HO, ⟨Hw, Hd⟩, H4, H5, H6, H7, ⟨Hx0, Hx, Hf⟩, H9⟩ Hk
  icases (as_eq (run_split h₁ h₂ (wt c (2 * l)))) $$ Hw with ⟨Hw, Hwg⟩
  iapply (wp_items c a' a htr (Rec I K) (fun _ => Owes c (debt c (2 * l + 2) + owP (2 * l + 1) c 1 s)) (wt c (2 * l))
    (fun r => iprop(dn c (2 * l) r ∗ xslot c (XF I l c) r ∗ rfree c r))
    (fun k acc => hb k acc (by omega) (by have := k.isLt; have : Lp.trips = Scf.trips Lp.lb Lp.ub Lp.st := rfl; omega) _ hA)) $$ [HO Hwg]
  · isplitr; · iexact HR
    isplitl [HO] <;> iassumption
  iintro ⟨HO, Hp⟩
  icases (as_eq (run_sep a' a (dn c (2 * l)) (fun r => iprop(xslot c (XF I l c) r ∗ rfree c r)))) $$ Hp with ⟨Hdg, Hp⟩
  icases (as_eq (run_sep a' a (xslot c (XF I l c)) (rfree c))) $$ Hp with ⟨Hxg, Hfg⟩
  iapply Hk
  isplitl [Hout]; · iexact Hout
  isplitl [HO]; · iexact HO
  isplitl [Hw Hd Hdg]
  · isplitl [Hw]; · iexact Hw
    iapply (as_eq (run_split h₂ (by omega) (dn c (2 * l))).symm)
    isplitl [Hdg] <;> iassumption
  isplitl [H4]; · iexact H4
  isplitl [H5]; · iexact H5
  isplitl [H6]; · iexact H6
  isplitl [H7]; · iexact H7
  isplitl [Hx0 Hx Hf Hxg Hfg]
  · isplitl [Hx0]; · iexact Hx0
    isplitl [Hx Hxg]
    · iapply (as_eq (xpt_union c (XF I l c) (256 * a') (256 * a) (xtop l s) (by omega) (by omega)).symm)
      isplitl [Hxg]
      · iapply (as_eq (xslots c (XF I l c) h₂).symm); iexact Hxg
      iexact Hx
    iapply (as_eq (run_split h₂ h₃ (rfree c)).symm)
    isplitl [Hfg] <;> iassumption
  iexact H9

/-- The wait for the sums of slots `d ≤ r < d'`. -/
theorem step_wp {Q : β → sProp 𝕄} {l : ℕ} (hl : l < 3) {d d' : ℕ} (h₁ : 1 ≤ d) (h₂ : d ≤ d') (h₃ : d' ≤ 32) (htr : d + Lp.trips = d')
    (hb : ∀ k acc, 1 ≤ d + k.val → d + k.val < 32 → WpTrip I K c l (d + k.val) (body k acc)) :
    iprop(Rec I K ∗ St I c l 1 1 0 d)
      ⊢ iprop((St I c l 1 1 0 d' -∗ WP c (kk ⟨⟩) Q) -∗ WP c (Scf.Loop.for Lp hok ⟨⟩ body >>= kk) Q) := by
  have hA : Above (2 + (2 * l + 1)) (debt c (2 * l + 2) + owP (2 * l + 1) c 1 1) := by
    rw [owP_nil]; exact above_add (above_debt c (by omega)) (above_zero _)
  unfold St
  iintro ⟨#HR, Hout, HO, H3, ⟨Hd, Hw⟩, H5, H6, H7, H8, H9, ⟨Hr0, Hr, He⟩⟩ Hk
  icases (as_eq (run_split h₂ h₃ (wt c (2 * l + 1)))) $$ Hw with ⟨Hwg, Hw⟩
  iapply (wp_items c d d' htr (Rec I K) (fun _ => Owes c (debt c (2 * l + 2) + owP (2 * l + 1) c 1 1)) (wt c (2 * l + 1))
    (fun r => iprop(dn c (2 * l + 1) r ∗ rslot c (RS I l c) r ∗ early l (xfree c r)))
    (fun k acc => hb k acc (by omega) (by have := k.isLt; have : Lp.trips = Scf.trips Lp.lb Lp.ub Lp.st := rfl; omega) _ hA)) $$ [HO Hwg]
  · isplitr; · iexact HR
    isplitl [HO] <;> iassumption
  iintro ⟨HO, Hp⟩
  icases (as_eq (run_sep d d' (dn c (2 * l + 1)) (fun r => iprop(rslot c (RS I l c) r ∗ early l (xfree c r))))) $$ Hp with ⟨Hdg, Hp⟩
  icases (as_eq (run_sep d d' (rslot c (RS I l c)) (fun r => early l (xfree c r)))) $$ Hp with ⟨Hrg, Heg⟩
  iapply Hk
  isplitl [Hout]; · iexact Hout
  isplitl [HO]; · iexact HO
  isplitl [H3]; · iexact H3
  isplitl [Hw Hd Hdg]
  · isplitl [Hd Hdg]
    · iapply (as_eq (run_split h₁ h₂ (dn c (2 * l + 1))).symm)
      isplitl [Hd] <;> iassumption
    iexact Hw
  isplitl [H5]; · iexact H5
  isplitl [H6]; · iexact H6
  isplitl [H7]; · iexact H7
  isplitl [H8]; · iexact H8
  isplitl [H9]; · iexact H9
  isplitl [Hr0]; · iexact Hr0
  isplitl [Hr Hrg]
  · iapply (as_eq (rpt_union c (RS I l c) 256 (256 * d) (256 * d') (by omega) (by omega)).symm)
    isplitl [Hr]; · iexact Hr
    iapply (as_eq (rslots c (RS I l c) h₂).symm); iexact Hrg
  iapply (as_eq (run_split h₁ h₂ (fun r => early l (xfree c r))).symm)
  isplitl [He] <;> iassumption

/-- The slots of activations that the sends of slots `s' ≤ r < s` pass leave to fill. -/
theorem early_slots {l : ℕ} (hl : l < 3) {a s' s : ℕ} (h₁ : a ≤ s') (h₂ : s' ≤ s) (hs : s ≤ 32) (f : Big F) :
    xpt c f (256 * a) (xtop l s) ⊢ iprop(xpt c f (256 * a) (xtop l s') ∗ run s' s fun r => early l iprop(∃ f : Big F, xslot c f r)) := by
  by_cases h : l < 2
  · have e : ∀ r, early l iprop(∃ f : Big F, xslot c f r) = iprop(∃ f : Big F, xslot c f r) := fun r => if_pos h
    simp only [e]
    unfold xtop
    rw [if_pos h, if_pos h]
    iintro H
    icases (as_eq (xpt_union c f (256 * a) (256 * s') (256 * s) (by omega) (by omega))) $$ H with ⟨H, Hs⟩
    isplitl [H]; · iexact H
    iapply (xany_slots c h₂)
    unfold xany; iexists f; iexact Hs
  · have e : ∀ r, early l iprop(∃ f : Big F, xslot c f r) = iprop(emp) := fun r => if_neg h
    simp only [e]
    unfold xtop
    rw [if_neg h, if_neg h, run_emp]
    iintro H
    isplitl [H]; · iexact H
    iempintro

/-- The sends of the partial sums of slots `s' ≤ r < s`. -/
theorem step_rs {Q : β → sProp 𝕄} {l : ℕ} (hl : l < 3) {a s' s w d : ℕ} (h₀ : 1 ≤ a) (h₁ : a ≤ s') (h₂ : s' ≤ s) (hs : s ≤ 32) (hw : 8 * w ≤ s') (htr : s' + Lp.trips = s)
    (hb : ∀ k acc, 1 ≤ s' + k.val → s' + k.val < 32 → RsTrip I K c l (s' + k.val) (body k acc)) :
    iprop(Rec I K ∗ St I c l a s w d)
      ⊢ iprop((St I c l a s' w d -∗ WP c (kk ⟨⟩) Q) -∗ WP c (Scf.Loop.for Lp hok ⟨⟩ body >>= kk) Q) := by
  have htr' : s' + Scf.trips Lp.lb Lp.ub Lp.st = s := htr
  have eO : debt c (2 * l + 2) + owP (2 * l + 1) c 1 s = (debt c (2 * l + 2) + owP (2 * l + 1) c 1 s') + owP (2 * l + 1) c s' s := by
    rw [owP_split _ c (a := 1) (b := s') (d := s) (by omega) h₂, add_assoc]
  unfold St
  iintro ⟨#HR, Hout, HO, H3, H4, ⟨Hw0, Hs0, Hw1, Hs1⟩, ⟨Ht, Hre⟩, H7, ⟨Hx0, Hx, Hf⟩, ⟨Hp, Hpa⟩, H10⟩ Hk
  ihave HO := (as_eq (congrArg (Owes c) eO)) $$ HO
  icases (as_eq (run_split (a := 1) (by omega) h₂ (tkR c l))) $$ Ht with ⟨Ht, Htg⟩
  icases (as_eq (run_split (a := 1) (by omega) h₂ (re c 1 l))) $$ Hre with ⟨Hre, Hreg⟩
  icases (as_eq (run_split h₁ h₂ (rfree c))) $$ Hf with ⟨Hf, Hfg⟩
  icases (early_slots c hl h₁ h₂ hs (XF I l c)) $$ Hx with ⟨Hx, Heg⟩
  icases (as_eq (ppt_union c (PT I l c) (2048 * w) (256 * s') (256 * s) (by omega) (by omega))) $$ Hp with ⟨Hp, Hpg⟩
  ihave Hpg := (as_eq (pslots c (PT I l c) h₂)) $$ Hpg
  iapply (wp_items c s' s htr (Rec I K) (fun r => Owes c ((debt c (2 * l + 2) + owP (2 * l + 1) c 1 s') + owP (2 * l + 1) c r s))
    (fun r => iprop(pslot c (PT I l c) r ∗ rfree c r ∗ early l iprop(∃ f : Big F, xslot c f r) ∗ tkR c l r ∗ re c 1 l r))
    (sw c 1)
    (fun k acc => by
      have hk : k.val < Scf.trips Lp.lb Lp.ub Lp.st := k.isLt
      rw [owP_bot (2 * l + 1) c (lo := s' + k.val) (hi := s) (by omega), ← add_assoc]
      exact hb k acc (by omega) (by omega) _)) $$ [HO Hpg Hfg Heg Htg Hreg]
  · isplitr; · iexact HR
    isplitl [HO]; · iexact HO
    iapply (as_eq (run_sep s' s (pslot c (PT I l c)) (fun r => iprop(rfree c r ∗ early l iprop(∃ f : Big F, xslot c f r) ∗ tkR c l r ∗ re c 1 l r))).symm)
    isplitl [Hpg]; · iexact Hpg
    iapply (as_eq (run_sep s' s (rfree c) (fun r => iprop(early l iprop(∃ f : Big F, xslot c f r) ∗ tkR c l r ∗ re c 1 l r))).symm)
    isplitl [Hfg]; · iexact Hfg
    iapply (as_eq (run_sep s' s (fun r => early l iprop(∃ f : Big F, xslot c f r)) (fun r => iprop(tkR c l r ∗ re c 1 l r))).symm)
    isplitl [Heg]; · iexact Heg
    iapply (as_eq (run_sep s' s (tkR c l) (re c 1 l)).symm)
    isplitl [Htg] <;> iassumption
  iintro ⟨HO, Hwg⟩
  ihave HO := (as_eq (congrArg (Owes c) (by rw [owP_nil, add_zero] :
    (debt c (2 * l + 2) + owP (2 * l + 1) c 1 s') + owP (2 * l + 1) c s s = debt c (2 * l + 2) + owP (2 * l + 1) c 1 s'))) $$ HO
  iapply Hk
  isplitl [Hout]; · iexact Hout
  isplitl [HO]; · iexact HO
  isplitl [H3]; · iexact H3
  isplitl [H4]; · iexact H4
  isplitl [Hw0 Hs0 Hw1 Hs1 Hwg]
  · isplitl [Hw0]; · iexact Hw0
    isplitl [Hs0]; · iexact Hs0
    isplitl [Hw1 Hwg]
    · iapply (as_eq (run_split h₂ hs (sw c 1)).symm)
      isplitl [Hwg] <;> iassumption
    iexact Hs1
  isplitl [Ht Hre]
  · isplitl [Ht] <;> iassumption
  isplitl [H7]; · iexact H7
  isplitl [Hx0 Hx Hf]
  · isplitl [Hx0]; · iexact Hx0
    isplitl [Hx] <;> iassumption
  isplitl [Hp Hpa]
  · isplitl [Hp] <;> iassumption
  iexact H10

/-- The sends of the block: a layer begins. -/
theorem step_ag {Q : β → sProp 𝕄} {l : ℕ} (hl : l < 3) (htr : 1 + Lp.trips = 32)
    (hb : ∀ k acc, 1 ≤ 1 + k.val → 1 + k.val < 32 → AgTrip I K c l (1 + k.val) (body k acc)) :
    iprop(Rec I K ∗ Bt c l ∗ bpt c (X I l c) ∗ xpt c (XF I l c) 0 256)
      ⊢ iprop((St I c l 32 32 4 1 -∗ WP c (kk ⟨⟩) Q) -∗ WP c (Scf.Loop.for Lp hok ⟨⟩ body >>= kk) Q) := by
  have htr' : 1 + Scf.trips Lp.lb Lp.ub Lp.st = 32 := htr
  have eO : debt c (2 * l) = (debt c (2 * l + 2) + owP (2 * l + 1) c 1 32) + owP (2 * l) c 1 32 := by
    rw [debt_step c (p := 2 * l) (by omega), debt_step c (p := 2 * l + 1) (by omega)]
  unfold Bt
  rw [if_pos hl]
  iintro ⟨#HR, ⟨⟨Hkit, Hpast⟩, HO, ⟨Hs0, Hs1, Hre0, Hre1⟩, Hp, Hr, Hxf⟩, Hb, Hx0⟩ Hk
  ihave HO := (as_eq (congrArg (Owes c) eO)) $$ HO
  icases (as_eq (run_split (a := l) (b := l + 1) (d := 3) (by omega) (by omega) (Kit c))) $$ Hkit with ⟨Hkl, Hkit⟩
  ihave Hkl := (as_eq (run_one l (Kit c))) $$ Hkl
  unfold Kit
  icases (as_eq (run_sep 1 32 (tkA c l) (fun r => iprop(tkR c l r ∗ wt c (2 * l) r ∗ wt c (2 * l + 1) r)))) $$ Hkl with ⟨HtA, Hkl⟩
  icases (as_eq (run_sep 1 32 (tkR c l) (fun r => iprop(wt c (2 * l) r ∗ wt c (2 * l + 1) r)))) $$ Hkl with ⟨HtR, Hkl⟩
  icases (as_eq (run_sep 1 32 (wt c (2 * l)) (wt c (2 * l + 1)))) $$ Hkl with ⟨HwX, HwR⟩
  ihave Hb := (as_eq (bpt_leaves c (X I l c))) $$ Hb
  icases (as_eq (run_split (a := 0) (b := 0 + 1) (d := 32) (by omega) (by omega) (bleaf c (X I l c)))) $$ Hb with ⟨Hb0, Hb⟩
  ihave Hb0 := (as_eq (run_one 0 (bleaf c (X I l c)))) $$ Hb0
  ihave Hr2 := (show rany c 0 8192 ⊢ iprop(rany c 0 256 ∗ rany c (256 * 1) (256 * 32)) from by
    unfold rany; iintro ⟨%f, H⟩
    icases (as_eq (rpt_union c f 0 256 8192 (by omega) (by omega))) $$ H with ⟨H, H'⟩
    isplitl [H]; · iexists f; iexact H
    iexists f; iexact H') $$ Hr
  icases Hr2 with ⟨Hr0, Hr⟩
  ihave Hr := (rany_slots c (a := 1) (b := 32) (by omega)) $$ Hr
  iapply (wp_items c 1 32 htr (Rec I K) (fun r => Owes c ((debt c (2 * l + 2) + owP (2 * l + 1) c 1 32) + owP (2 * l) c r 32))
    (fun r => iprop(bleaf c (X I l c) r ∗ xfree c r ∗ (∃ f : Big F, rslot c f r) ∗ tkA c l r ∗ re c 0 l r))
    (sw c 0)
    (fun k acc => by
      have hk : k.val < Scf.trips Lp.lb Lp.ub Lp.st := k.isLt
      rw [owP_bot (2 * l) c (lo := 1 + k.val) (hi := 32) (by omega), ← add_assoc]
      exact hb k acc (by omega) (by omega) _)) $$ [HO Hb Hxf Hr HtA Hre0]
  · isplitr; · iexact HR
    isplitl [HO]; · iexact HO
    iapply (as_eq (run_sep 1 32 (bleaf c (X I l c)) (fun r => iprop(xfree c r ∗ (∃ f : Big F, rslot c f r) ∗ tkA c l r ∗ re c 0 l r))).symm)
    isplitl [Hb]; · iexact Hb
    iapply (as_eq (run_sep 1 32 (xfree c) (fun r => iprop((∃ f : Big F, rslot c f r) ∗ tkA c l r ∗ re c 0 l r))).symm)
    isplitl [Hxf]; · iexact Hxf
    iapply (as_eq (run_sep 1 32 (fun r => iprop(∃ f : Big F, rslot c f r)) (fun r => iprop(tkA c l r ∗ re c 0 l r))).symm)
    isplitl [Hr]; · iexact Hr
    iapply (as_eq (run_sep 1 32 (tkA c l) (re c 0 l)).symm)
    isplitl [HtA] <;> iassumption
  iintro ⟨HO, Hwg⟩
  ihave HO := (as_eq (congrArg (Owes c) (by rw [owP_nil, add_zero] :
    (debt c (2 * l + 2) + owP (2 * l + 1) c 1 32) + owP (2 * l) c 32 32 = debt c (2 * l + 2) + owP (2 * l + 1) c 1 32))) $$ HO
  iapply Hk
  unfold St
  rw [run_nil, run_nil, run_nil, run_nil, run_nil, xtop_top, show 256 * 32 = 8192 from rfl, xpt_nil, ppt_nil, show 256 * 1 = 256 from rfl, rpt_nil]
  isplitl [Hkit Hpast]
  · isplitl [Hkit]; · iexact Hkit
    iexact Hpast
  isplitl [HO]; · iexact HO
  isplitl [HwX]
  · isplitl [HwX]; · iexact HwX
    iempintro
  isplitl [HwR]
  · isplitr; · iempintro
    iexact HwR
  isplitl [Hwg Hs0 Hs1]
  · isplitl [Hwg]; · iexact Hwg
    isplitl [Hs0]; · iexact Hs0
    isplitr; · iempintro
    iexact Hs1
  isplitl [HtR Hre1]
  · isplitl [HtR] <;> iassumption
  isplitl [Hb0]; · iexact Hb0
  isplitl [Hx0]
  · isplitl [Hx0]; · iexact Hx0
    isplitr; · iempintro
    iempintro
  isplitl [Hp]
  · isplitr; · iempintro
    iexact Hp
  isplitl [Hr0]; · iexact Hr0
  isplitr; · iempintro
  iempintro

/-- The waits for a layer's sends: the layer ends. -/
theorem step_sw {Q : β → sProp 𝕄} {l : ℕ} (hl : l < 3) (htr : 1 + Lp.trips = 32)
    (hb : ∀ k acc, 1 ≤ 1 + k.val → 1 + k.val < 32 → SwTrip I K c l (1 + k.val) (body k acc)) :
    iprop(Rec I K ∗ St I c l 1 1 0 32)
      ⊢ iprop((Bt c (l + 1) ∗ bpt c (X I l c) ∗ xpt c (XF I l c) 0 256 -∗ WP c (kk ⟨⟩) Q) -∗ WP c (Scf.Loop.for Lp hok ⟨⟩ body >>= kk) Q) := by
  have htr' : 1 + Scf.trips Lp.lb Lp.ub Lp.st = 32 := htr
  have hA : Above 0 (debt c (2 * (l + 1))) := above_debt c (by omega)
  have eO : debt c (2 * l + 2) + owP (2 * l + 1) c 1 1 = debt c (2 * (l + 1)) := by
    rw [owP_nil, add_zero]; rfl
  unfold St
  iintro ⟨#HR, ⟨Hkit, Hpast⟩, HO, ⟨-, Hd⟩, ⟨Hd', -⟩, ⟨Hw0, Hs0, Hw1, Hs1⟩, -, Hb0, ⟨Hx0, Hx, -⟩, ⟨Hp, -⟩, ⟨Hr0, Hr, He⟩⟩ Hk
  ihave HO := (as_eq (congrArg (Owes c) eO)) $$ HO
  iapply (wp_items c 1 32 htr (Rec I K) (fun _ => Owes c (debt c (2 * (l + 1))))
    (fun r => iprop((sw c 0 r ∗ sp c 0 l r) ∗ (sw c 1 r ∗ sp c 1 l r)))
    (fun r => iprop((bleaf c (X I l c) r ∗ sp c 0 (l + 1) r ∗ re c 0 (l + 1) r) ∗ (pslot c (PT I l c) r ∗ sp c 1 (l + 1) r ∗ re c 1 (l + 1) r)))
    (fun k acc => by
      have hk : k.val < Scf.trips Lp.lb Lp.ub Lp.st := k.isLt
      exact hb k acc (by omega) (by omega) _ hA)) $$ [HO Hw0 Hs0 Hw1 Hs1]
  · isplitr; · iexact HR
    isplitl [HO]; · iexact HO
    iapply (as_eq (run_sep 1 32 (fun r => iprop(sw c 0 r ∗ sp c 0 l r)) (fun r => iprop(sw c 1 r ∗ sp c 1 l r))).symm)
    isplitl [Hw0 Hs0]
    · iapply (as_eq (run_sep 1 32 (sw c 0) (sp c 0 l)).symm)
      isplitl [Hw0] <;> iassumption
    iapply (as_eq (run_sep 1 32 (sw c 1) (sp c 1 l)).symm)
    isplitl [Hw1] <;> iassumption
  iintro ⟨HO, Hpost⟩
  icases (as_eq (run_sep 1 32 (fun r => iprop(bleaf c (X I l c) r ∗ sp c 0 (l + 1) r ∗ re c 0 (l + 1) r))
    (fun r => iprop(pslot c (PT I l c) r ∗ sp c 1 (l + 1) r ∗ re c 1 (l + 1) r)))) $$ Hpost with ⟨H0, H1⟩
  icases (as_eq (run_sep 1 32 (bleaf c (X I l c)) (fun r => iprop(sp c 0 (l + 1) r ∗ re c 0 (l + 1) r)))) $$ H0 with ⟨Hb, H0⟩
  icases (as_eq (run_sep 1 32 (sp c 0 (l + 1)) (re c 0 (l + 1)))) $$ H0 with ⟨Hs0, Hre0⟩
  icases (as_eq (run_sep 1 32 (pslot c (PT I l c)) (fun r => iprop(sp c 1 (l + 1) r ∗ re c 1 (l + 1) r)))) $$ H1 with ⟨Hps, H1⟩
  icases (as_eq (run_sep 1 32 (sp c 1 (l + 1)) (re c 1 (l + 1)))) $$ H1 with ⟨Hs1, Hre1⟩
  ihave Hps := (as_eq (pslots c (PT I l c) (a := 1) (b := 32) (by omega)).symm) $$ Hps
  iapply Hk
  isplitr [Hb Hb0 Hx0]
  · unfold Bt
    isplitl [Hkit Hpast Hd Hd']
    · isplitl [Hkit]; · iexact Hkit
      iapply (as_eq (run_split (a := 0) (b := l) (d := l + 1) (by omega) (by omega) (Past c)).symm)
      isplitl [Hpast]; · iexact Hpast
      iapply (as_eq (run_one l (Past c)).symm)
      unfold Past
      iapply (as_eq (run_sep 1 32 (dn c (2 * l)) (dn c (2 * l + 1))).symm)
      isplitl [Hd] <;> iassumption
    isplitl [HO]; · iexact HO
    isplitl [Hs0 Hs1 Hre0 Hre1]
    · isplitl [Hs0]; · iexact Hs0
      isplitl [Hs1]; · iexact Hs1
      isplitl [Hre0] <;> iassumption
    isplitl [Hp Hps]
    · unfold pany; iexists (PT I l c)
      iapply (as_eq (ppt_union c (PT I l c) 0 256 8192 (by omega) (by omega)).symm)
      isplitl [Hp] <;> iassumption
    isplitl [Hr0 Hr]
    · iapply (rany_join c (a := 0) (b := 256) (d := 8192) (by omega) (by omega))
      isplitl [Hr0]; · iexact Hr0
      unfold rany; iexists (RS I l c); iexact Hr
    by_cases h : l < 2
    · rw [if_pos (by omega)]
      iapply (run_mono (Φ := fun r => early l (xfree c r)) (Ψ := xfree c) fun r _ _ => by unfold early; rw [if_pos h])
      iexact He
    · rw [if_neg (by omega)]
      unfold xany; iexists (XF I l c)
      have ex : xtop l 1 = 8192 := if_neg h
      rw [ex]
      iexact Hx
  isplitl [Hb Hb0]
  · iapply (as_eq (bpt_leaves c (X I l c)).symm)
    iapply (as_eq (run_split (a := 0) (b := 0 + 1) (d := 32) (by omega) (by omega) (bleaf c (X I l c))).symm)
    isplitl [Hb0]; · iapply (as_eq (run_one 0 (bleaf c (X I l c))).symm); iexact Hb0
    iexact Hb
  iexact Hx0

/-! ## Before the first layer -/

/-- A device as the kernel starts. -/
def Ini : sProp 𝕄 :=
  iprop(run 0 3 (Kit c) ∗ Owes c (debt c 0 + owB c 1 32) ∗ run 1 32 (tkB c) ∗ (cred (tallyAt (bc c) () 31) ∗ atPos ER (bc c) 0 ∅ 0)
    ∗ (run 1 32 (sp c 0 0) ∗ run 1 32 (sp c 1 0) ∗ run 1 32 (re c 0 0) ∗ run 1 32 (re c 1 0))
    ∗ pany c 0 8192 ∗ rany c 0 8192 ∗ xany c 0 8192)
/-- The same with its signals given. -/
def Ini' : sProp 𝕄 :=
  iprop(run 0 3 (Kit c) ∗ Owes c (debt c 0) ∗ (cred (tallyAt (bc c) () 31) ∗ atPos ER (bc c) 0 ∅ 0)
    ∗ (run 1 32 (sp c 0 0) ∗ run 1 32 (sp c 1 0) ∗ run 1 32 (re c 0 0) ∗ run 1 32 (re c 1 0))
    ∗ pany c 0 8192 ∗ rany c 0 8192 ∗ xany c 0 256)

/-- The signals to the peers. -/
theorem step_sig {Q : β → sProp 𝕄} (htr : 1 + Lp.trips = 32)
    (hb : ∀ k acc, 1 ≤ 1 + k.val → 1 + k.val < 32 → SigTrip I K c (1 + k.val) (body k acc)) :
    iprop(Rec I K ∗ Ini c)
      ⊢ iprop((Ini' c -∗ WP c (kk ⟨⟩) Q) -∗ WP c (Scf.Loop.for Lp hok ⟨⟩ body >>= kk) Q) := by
  have htr' : 1 + Scf.trips Lp.lb Lp.ub Lp.st = 32 := htr
  unfold Ini Ini'
  iintro ⟨#HR, Hkit, HO, Ht, Hb, Hs, Hp, Hr, Hx⟩ Hk
  ihave Hx2 := (show xany c 0 8192 ⊢ iprop(xany c 0 256 ∗ xany c (256 * 1) (256 * 32)) from by
    unfold xany; iintro ⟨%f, H⟩
    icases (as_eq (xpt_union c f 0 256 8192 (by omega) (by omega))) $$ H with ⟨H, H'⟩
    isplitl [H]; · iexists f; iexact H
    iexists f; iexact H') $$ Hx
  icases Hx2 with ⟨Hx0, Hx⟩
  ihave Hx := (xany_slots c (a := 1) (b := 32) (by omega)) $$ Hx
  iapply (wp_items c 1 32 htr (Rec I K) (fun r => Owes c (debt c 0 + owB c r 32))
    (fun r => iprop(tkB c r ∗ ∃ f : Big F, xslot c f r)) (fun _ => iprop(emp))
    (fun k acc => by
      have hk : k.val < Scf.trips Lp.lb Lp.ub Lp.st := k.isLt
      rw [owB_bot c (lo := 1 + k.val) (hi := 32) (by omega), ← add_assoc]
      have h := hb k acc (by omega) (by omega) (debt c 0 + owB c (1 + k.val + 1) 32)
      unfold Trip at h
      iintro H
      iapply (wp_wand_r frame (wpE (defs₀ (F := F)) 𝒱₀ (c : Thread nD τ) none) (E := Set.univ) (p := body k acc)
        (Q := fun _ => Owes c (debt c 0 + owB c (1 + k.val + 1) 32)))
      isplitl [H]; · iapply h; iexact H
      iintro %_ H
      isplitl [H]; · iexact H
      iempintro)) $$ [HO Ht Hx]
  · isplitr; · iexact HR
    isplitl [HO]; · iexact HO
    iapply (as_eq (run_sep 1 32 (tkB c) (fun r => iprop(∃ f : Big F, xslot c f r))).symm)
    isplitl [Ht] <;> iassumption
  iintro ⟨HO, -⟩
  ihave HO := (as_eq (congrArg (Owes c) (by rw [owB_nil, add_zero] : debt c 0 + owB c 32 32 = debt c 0))) $$ HO
  iapply Hk
  isplitl [Hkit]; · iexact Hkit
  isplitl [HO]; · iexact HO
  isplitl [Hb]; · iexact Hb
  isplitl [Hs]; · iexact Hs
  isplitl [Hp]; · iexact Hp
  isplitl [Hr] <;> iassumption

/-- The wait for the peers' signals. -/
theorem step_bar {Q : β → sProp 𝕄} {kont : PUnit → Prog (TpuEff nD τ sig (Elt F) Λ₀ .tc) β} :
    iprop(Rec I K ∗ Ini' c)
      ⊢ iprop((Bt c 0 ∗ atPos ER (bc c) 1 ∅ 0 ∗ xany c 0 256 -∗ WP c (kont ⟨⟩) Q) -∗ WP c (.op (.semWait barS 31) kont) Q) := by
  unfold Ini'
  iintro ⟨#HR, Hkit, HO, ⟨Hc, Hat⟩, Hs, Hp, Hr, Hx⟩ Hk
  iapply (wp_bar I K c (debt c 0) (above_debt c (by omega))) $$ [HO Hc Hat]
  · isplitr; · iexact HR
    isplitl [HO]; · iexact HO
    isplitl [Hc] <;> iassumption
  iintro ⟨HO, Hat, Hxf⟩
  iapply Hk
  isplitr [Hat Hx]
  · unfold Bt
    rw [if_pos (by omega), run_nil]
    isplitl [Hkit]
    · isplitl [Hkit]; · iexact Hkit
      iempintro
    isplitl [HO]; · iexact HO
    isplitl [Hs]; · iexact Hs
    isplitl [Hp]; · iexact Hp
    isplitl [Hr] <;> iassumption
  isplitl [Hat] <;> iassumption

end Cert.MlpProof

end
-- ==== Proof.Moves.lean ====
/-
# Loads and stores, as steps of a device's state
-/
module

public import proofs.«01_k».proof.Proof.Steps

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)
variable {β : Type}

/-! ## Whole buffers -/

/-- A buffer of vector memory by its number. -/
abbrev vref (i : Fin (sig.nNear .tc .vmem)) (p : sig.names .tc .vmem i = true) : Ref sig .tc := ⟨.vmem, i, p⟩

section Whole
variable (i : Fin (sig.nNear .tc .vmem)) (p : sig.names .tc .vmem i = true)

/-- Loading a whole buffer. -/
theorem wp_ld {Q : β → sProp 𝕄} {off : Fin (vref i p).ty.shape.rank → ℕ} (h : off = fun _ => 0)
    {inb : ∀ a, off a + (vref i p).ty.shape.size a ≤ (vref i p).ty.shape.size a}
    {hl : (Memref.whole (vref i p) : Memref sig .tc _ _ _).view.LoadsAt (Rect.unit off (vref i p).ty.shape.size inb).toLoadRect}
    {kont : ((Rect.unit off (vref i p).ty.shape.size inb).toLoadRect.shape.Idx → Elt F (vref i p).ty.elt) → Prog (TpuEff nD τ sig (Elt F) Λ₀ .tc) β}
    {q : PosShare TreeShare} (f : (vref i p).ty.Contents (Elt F)) :
    ((c : Thread nD τ).loc (vref i p) ↦[Finset.univ]{q} f : sProp 𝕄)
      ⊢ iprop((((c : Thread nD τ).loc (vref i p) ↦[Finset.univ]{q} f) -∗ WP c (kont f) Q)
          -∗ WP c (.op (.load (Memref.whole (vref i p)) (Rect.unit off (vref i p).ty.shape.size inb).toLoadRect hl) kont) Q) := by
  have e := Memref.readAt_unit_zero (Elt F) (vref i p) h inb f
  have ek : kont f = kont ((Memref.whole (vref i p) : Memref sig .tc _ _ _).view.readAt (Elt F) (Rect.unit off (vref i p).ty.shape.size inb).toLoadRect f) := by rw [e]
  rw [ek]
  exact wp_load 𝒱₀ (c : Thread nD τ) none Set.univ (m := (Memref.whole (vref i p) : Memref sig .tc _ _ _))
    (r := (Rect.unit off (vref i p).ty.shape.size inb).toLoadRect) (Finset.subset_univ _)

/-- Storing a whole buffer. -/
theorem wp_st {Q : β → sProp 𝕄} {off : Fin (vref i p).ty.shape.rank → ℕ} (h : off = fun _ => 0)
    {inb : ∀ a, off a + (vref i p).ty.shape.size a ≤ (vref i p).ty.shape.size a}
    {hx : ((Memref.whole (vref i p) : Memref sig .tc _ _ _).access (Rect.unit off (vref i p).ty.shape.size inb)).Stores Finset.univ} {hm}
    {kont : PUnit → Prog (TpuEff nD τ sig (Elt F) Λ₀ .tc) β} (f w : (vref i p).ty.Contents (Elt F)) :
    ((c : Thread nD τ).loc (vref i p) ↦[Finset.univ]{fullShare} f : sProp 𝕄)
      ⊢ iprop((((c : Thread nD τ).loc (vref i p) ↦[Finset.univ]{fullShare} w) -∗ WP c (kont ⟨⟩) Q)
          -∗ WP c (.op (.store (Memref.whole (vref i p)) (Rect.unit off (vref i p).ty.shape.size inb) w Finset.univ hx hm) kont) Q) := by
  have e : ((c : Thread nD τ).loc (vref i p) ↦[Finset.univ]{fullShare}
      (((Memref.whole (vref i p) : Memref sig .tc _ _ _).access (Rect.unit off (vref i p).ty.shape.size inb)).write (Elt F) f w Finset.univ) : sProp 𝕄)
      = ((c : Thread nD τ).loc (vref i p) ↦[Finset.univ]{fullShare} w) :=
    congrArg _ (Memref.write_access_unit_zero_univ (Elt F) (vref i p) h inb f w)
  iintro H Hk
  iapply (wp_store 𝒱₀ (c : Thread nD τ) none Set.univ (m := (Memref.whole (vref i p) : Memref sig .tc _ _ _))
    (r := Rect.unit off (vref i p).ty.shape.size inb) (Mk := Finset.univ) (hx := hx) (Finset.subset_univ _)) $$ [H]
  · iexact H
  iintro H
  iapply Hk
  iapply (Entails.of_eq e); iexact H

end Whole

/-! ## Rows of the three large buffers -/

/-- Loading whole rows of a held region of it. -/
theorem wp_ld_x {Q : β → sProp 𝕄} (f : Big F) {a b : ℕ} (h lo : ℕ) (h₁ : a ≤ lo) (h₂ : lo + h ≤ b)
    {inb : ∀ i, (![lo, 0] : Fin 2 → ℕ) i + (![h, 256] : Fin 2 → ℕ) i ≤ S8192x256.size i}
    {hl : xM.view.LoadsAt (rr h lo inb).toLoadRect}
    {kont : ((rr h lo inb).toLoadRect.shape.Idx → Elt F .bf16) → Prog (TpuEff nD τ sig (Elt F) Λ₀ .tc) β} :
    xpt c f a b ⊢ iprop((xpt c f a b -∗ WP c (kont (cut h lo f)) Q) -∗ WP c (.op (.load xM (rr h lo inb).toLoadRect hl) kont) Q) := by
  unfold xpt
  have e : xM.view.readAt (Elt F) (rr h lo inb).toLoadRect f = cut h lo f := cut_emb h lo inb f
  rw [← e]
  exact wp_load 𝒱₀ (c : Thread nD τ) none Set.univ (m := xM) (r := (rr h lo inb).toLoadRect)
    (by
      have hs := x_set h lo inb
      have h' : xM.view.setOn (rr h lo inb).toLoadRect.set = (xM.view.slice (rr h lo inb)).set := (View.set_slice _ _).symm
      rw [h', hs]; exact rows_subset h₁ h₂)

/-- Loading whole rows of a held region of it. -/
theorem wp_ld_r {Q : β → sProp 𝕄} (f : Big F) {a b : ℕ} (h lo : ℕ) (h₁ : a ≤ lo) (h₂ : lo + h ≤ b)
    {inb : ∀ i, (![lo, 0] : Fin 2 → ℕ) i + (![h, 256] : Fin 2 → ℕ) i ≤ S8192x256.size i}
    {hl : rM.view.LoadsAt (rr h lo inb).toLoadRect}
    {kont : ((rr h lo inb).toLoadRect.shape.Idx → Elt F .bf16) → Prog (TpuEff nD τ sig (Elt F) Λ₀ .tc) β} :
    rpt c f a b ⊢ iprop((rpt c f a b -∗ WP c (kont (cut h lo f)) Q) -∗ WP c (.op (.load rM (rr h lo inb).toLoadRect hl) kont) Q) := by
  unfold rpt
  have e : rM.view.readAt (Elt F) (rr h lo inb).toLoadRect f = cut h lo f := cut_emb h lo inb f
  rw [← e]
  exact wp_load 𝒱₀ (c : Thread nD τ) none Set.univ (m := rM) (r := (rr h lo inb).toLoadRect)
    (by
      have hs := r_set h lo inb
      have h' : rM.view.setOn (rr h lo inb).toLoadRect.set = (rM.view.slice (rr h lo inb)).set := (View.set_slice _ _).symm
      rw [h', hs]; exact rows_subset h₁ h₂)

/-- Loading whole rows of a held region of it. -/
theorem wp_ld_p {Q : β → sProp 𝕄} (f : Big F) {a b : ℕ} (h lo : ℕ) (h₁ : a ≤ lo) (h₂ : lo + h ≤ b)
    {inb : ∀ i, (![lo, 0] : Fin 2 → ℕ) i + (![h, 256] : Fin 2 → ℕ) i ≤ S8192x256.size i}
    {hl : pM.view.LoadsAt (rr h lo inb).toLoadRect}
    {kont : ((rr h lo inb).toLoadRect.shape.Idx → Elt F .bf16) → Prog (TpuEff nD τ sig (Elt F) Λ₀ .tc) β} :
    ppt c f a b ⊢ iprop((ppt c f a b -∗ WP c (kont (cut h lo f)) Q) -∗ WP c (.op (.load pM (rr h lo inb).toLoadRect hl) kont) Q) := by
  unfold ppt
  have e : pM.view.readAt (Elt F) (rr h lo inb).toLoadRect f = cut h lo f := cut_emb h lo inb f
  rw [← e]
  exact wp_load 𝒱₀ (c : Thread nD τ) none Set.univ (m := pM) (r := (rr h lo inb).toLoadRect)
    (by
      have hs := p_set h lo inb
      have h' : pM.view.setOn (rr h lo inb).toLoadRect.set = (pM.view.slice (rr h lo inb)).set := (View.set_slice _ _).symm
      rw [h', hs]; exact rows_subset h₁ h₂)

/-- Storing whole rows of a held region: from then on it holds any contents that agree there. -/
theorem wp_st_x {Q : β → sProp 𝕄} (f₀ f : Big F) {a b : ℕ} (h lo : ℕ) (h₁ : a ≤ lo) (h₂ : lo + h ≤ b)
    {inb : ∀ i, (![lo, 0] : Fin 2 → ℕ) i + (![h, 256] : Fin 2 → ℕ) i ≤ S8192x256.size i}
    {w : (rr h lo inb).shape.Idx → Elt F .bf16} (hw : w = cut h lo f)
    {hx : (xM.access (rr h lo inb)).Stores Finset.univ} {hm}
    {kont : PUnit → Prog (TpuEff nD τ sig (Elt F) Λ₀ .tc) β} :
    xpt c f₀ lo (lo + h) ⊢ iprop((xpt c f lo (lo + h) -∗ WP c (kont ⟨⟩) Q) -∗ WP c (.op (.store xM (rr h lo inb) w Finset.univ hx hm) kont) Q) := by
  unfold xpt
  have hs : (xM.access (rr h lo inb)).setOn Finset.univ = rows lo (lo + h) := x_set h lo inb
  have e : ((c : Thread nD τ).loc (xM.view.ref) ↦[rows lo (lo + h)]{fullShare} ((xM.access (rr h lo inb)).write (Elt F) f₀ w Finset.univ) : sProp 𝕄)
      = ((c : Thread nD τ).loc (xM.view.ref) ↦[rows lo (lo + h)]{fullShare} f) := pointsTo_congr (x_write h lo inb f₀ f w hw)
  iintro H Hk
  iapply (wp_store 𝒱₀ (c : Thread nD τ) none Set.univ (m := xM) (r := rr h lo inb) (w := w) (Mk := Finset.univ) (hx := hx) (hm := hm)
    (S := rows lo (lo + h)) (f := f₀) (by rw [hs])) $$ [H]
  · iexact H
  iintro H
  iapply Hk
  iapply (Entails.of_eq e); iexact H

/-- Storing whole rows of a held region: from then on it holds any contents that agree there. -/
theorem wp_st_p {Q : β → sProp 𝕄} (f₀ f : Big F) {a b : ℕ} (h lo : ℕ) (h₁ : a ≤ lo) (h₂ : lo + h ≤ b)
    {inb : ∀ i, (![lo, 0] : Fin 2 → ℕ) i + (![h, 256] : Fin 2 → ℕ) i ≤ S8192x256.size i}
    {w : (rr h lo inb).shape.Idx → Elt F .bf16} (hw : w = cut h lo f)
    {hx : (pM.access (rr h lo inb)).Stores Finset.univ} {hm}
    {kont : PUnit → Prog (TpuEff nD τ sig (Elt F) Λ₀ .tc) β} :
    ppt c f₀ lo (lo + h) ⊢ iprop((ppt c f lo (lo + h) -∗ WP c (kont ⟨⟩) Q) -∗ WP c (.op (.store pM (rr h lo inb) w Finset.univ hx hm) kont) Q) := by
  unfold ppt
  have hs : (pM.access (rr h lo inb)).setOn Finset.univ = rows lo (lo + h) := p_set h lo inb
  have e : ((c : Thread nD τ).loc (pM.view.ref) ↦[rows lo (lo + h)]{fullShare} ((pM.access (rr h lo inb)).write (Elt F) f₀ w Finset.univ) : sProp 𝕄)
      = ((c : Thread nD τ).loc (pM.view.ref) ↦[rows lo (lo + h)]{fullShare} f) := pointsTo_congr (p_write h lo inb f₀ f w hw)
  iintro H Hk
  iapply (wp_store 𝒱₀ (c : Thread nD τ) none Set.univ (m := pM) (r := rr h lo inb) (w := w) (Mk := Finset.univ) (hx := hx) (hm := hm)
    (S := rows lo (lo + h)) (f := f₀) (by rw [hs])) $$ [H]
  · iexact H
  iintro H
  iapply Hk
  iapply (Entails.of_eq e); iexact H

/-! ## The same on the state within a layer -/

/-- Loading activations that have come in. -/
theorem ld_x {Q : β → sProp 𝕄} {l a s w d : ℕ} (lo : ℕ) (h₁ : 256 * a ≤ lo) (h₂ : lo + 2048 ≤ 256 * s) (hs : s ≤ 32)
    {inb : ∀ i, (![lo, 0] : Fin 2 → ℕ) i + (![2048, 256] : Fin 2 → ℕ) i ≤ S8192x256.size i}
    {hl : xM.view.LoadsAt (rr 2048 lo inb).toLoadRect}
    {kont : ((rr 2048 lo inb).toLoadRect.shape.Idx → Elt F .bf16) → Prog (TpuEff nD τ sig (Elt F) Λ₀ .tc) β} :
    St I c l a s w d ⊢ iprop((St I c l a s w d -∗ WP c (kont (cut 2048 lo (XF I l c))) Q)
      -∗ WP c (.op (.load xM (rr 2048 lo inb).toLoadRect hl) kont) Q) := by
  have ht := xtop_ge l hs
  unfold St
  iintro ⟨H1, H2, H3, H4, H5, H6, H7, ⟨Hx0, Hx, Hf⟩, H9⟩ Hk
  iapply (wp_ld_x c (XF I l c) (a := 256 * a) (b := xtop l s) 2048 lo h₁ (by omega)) $$ [Hx]
  · iexact Hx
  iintro Hx
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hx0 Hx Hf]
  · isplitl [Hx0]; · iexact Hx0
    isplitl [Hx] <;> iassumption
  iexact H9

/-- Loading the first group of activations, the device's own among them. -/
theorem ld_x0 {Q : β → sProp 𝕄} {l s w d : ℕ} (h₂ : 2048 ≤ 256 * s) (hs : s ≤ 32)
    {inb : ∀ i, (![0, 0] : Fin 2 → ℕ) i + (![2048, 256] : Fin 2 → ℕ) i ≤ S8192x256.size i}
    {hl : xM.view.LoadsAt (rr 2048 0 inb).toLoadRect}
    {kont : ((rr 2048 0 inb).toLoadRect.shape.Idx → Elt F .bf16) → Prog (TpuEff nD τ sig (Elt F) Λ₀ .tc) β} :
    St I c l 1 s w d ⊢ iprop((St I c l 1 s w d -∗ WP c (kont (cut 2048 0 (XF I l c))) Q)
      -∗ WP c (.op (.load xM (rr 2048 0 inb).toLoadRect hl) kont) Q) := by
  have ht := xtop_ge l hs
  unfold St
  iintro ⟨H1, H2, H3, H4, H5, H6, H7, ⟨Hx0, Hx, Hf⟩, H9⟩ Hk
  iapply (wp_ld_x c (XF I l c) (a := 0) (b := xtop l s) 2048 0 (by omega) (by omega)) $$ [Hx0 Hx]
  · iapply (as_eq (xpt_union c (XF I l c) 0 256 (xtop l s) (by omega) (by omega)).symm)
    isplitl [Hx0]; · iexact Hx0
    iexact Hx
  iintro Hx
  icases (as_eq (xpt_union c (XF I l c) 0 256 (xtop l s) (by omega) (by omega))) $$ Hx with ⟨Hx0, Hx⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hx0 Hx Hf]
  · isplitl [Hx0]; · iexact Hx0
    isplitl [Hx]; · iexact Hx
    iexact Hf
  iexact H9

/-- Loading partial sums not yet computed: some value or other. -/
theorem ld_p {Q : β → sProp 𝕄} {l a s w d : ℕ} (lo : ℕ) (h₂ : lo + 2048 ≤ 2048 * w)
    {inb : ∀ i, (![lo, 0] : Fin 2 → ℕ) i + (![2048, 256] : Fin 2 → ℕ) i ≤ S8192x256.size i}
    {hl : pM.view.LoadsAt (rr 2048 lo inb).toLoadRect}
    {kont : ((rr 2048 lo inb).toLoadRect.shape.Idx → Elt F .bf16) → Prog (TpuEff nD τ sig (Elt F) Λ₀ .tc) β} :
    St I c l a s w d ⊢ iprop((∀ v, St I c l a s w d -∗ WP c (kont v) Q)
      -∗ WP c (.op (.load pM (rr 2048 lo inb).toLoadRect hl) kont) Q) := by
  unfold St pany
  iintro ⟨H1, H2, H3, H4, H5, H6, H7, H8, ⟨Hp, ⟨%f, Hpa⟩⟩, H10⟩ Hk
  iapply (wp_ld_p c f 2048 lo (Nat.zero_le _) h₂) $$ [Hpa]
  · iexact Hpa
  iintro Hpa
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hp Hpa]
  · isplitl [Hp]; · iexact Hp
    iexists f; iexact Hpa
  iexact H10

/-- Storing a group of partial sums. -/
theorem st_p {Q : β → sProp 𝕄} {l a s w d : ℕ} (lo : ℕ) (hlo : lo = 2048 * w) (hw : 8 * (w + 1) ≤ s)
    {inb : ∀ i, (![lo, 0] : Fin 2 → ℕ) i + (![2048, 256] : Fin 2 → ℕ) i ≤ S8192x256.size i}
    {v : (rr 2048 lo inb).shape.Idx → Elt F .bf16} (hv : v = cut 2048 (2048 * w) (PT I l c))
    {hx : (pM.access (rr 2048 lo inb)).Stores Finset.univ} {hm}
    {kont : PUnit → Prog (TpuEff nD τ sig (Elt F) Λ₀ .tc) β} :
    St I c l a s (w + 1) d ⊢ iprop((St I c l a s w d -∗ WP c (kont ⟨⟩) Q)
      -∗ WP c (.op (.store pM (rr 2048 lo inb) v Finset.univ hx hm) kont) Q) := by
  subst hlo
  unfold St pany
  iintro ⟨H1, H2, H3, H4, H5, H6, H7, H8, ⟨Hp, ⟨%f, Hpa⟩⟩, H10⟩ Hk
  icases (as_eq (ppt_union c f 0 (2048 * w) (2048 * (w + 1)) (by omega) (by omega))) $$ Hpa with ⟨Hpa, Hpg⟩
  iapply (wp_st_p c f (PT I l c) 2048 (2048 * w) (Nat.le_refl _) (Nat.le_refl _) hv) $$ [Hpg]
  · iexact Hpg
  iintro Hpg
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hp Hpa Hpg]
  · isplitl [Hp Hpg]
    · iapply (as_eq (ppt_union c (PT I l c) (2048 * w) (2048 * (w + 1)) (256 * s) (by omega) (by omega)).symm)
      isplitl [Hpg] <;> iassumption
    iexists f; iexact Hpa
  iexact H10

/-- Loading sums that have come in. -/
theorem ld_r {Q : β → sProp 𝕄} {l a s w d : ℕ} (h lo : ℕ) (h₁ : 256 ≤ lo) (h₂ : lo + h ≤ 256 * d)
    {inb : ∀ i, (![lo, 0] : Fin 2 → ℕ) i + (![h, 256] : Fin 2 → ℕ) i ≤ S8192x256.size i}
    {hl : rM.view.LoadsAt (rr h lo inb).toLoadRect}
    {kont : ((rr h lo inb).toLoadRect.shape.Idx → Elt F .bf16) → Prog (TpuEff nD τ sig (Elt F) Λ₀ .tc) β} :
    St I c l a s w d ⊢ iprop((St I c l a s w d -∗ WP c (kont (cut h lo (RS I l c))) Q)
      -∗ WP c (.op (.load rM (rr h lo inb).toLoadRect hl) kont) Q) := by
  unfold St
  iintro ⟨H1, H2, H3, H4, H5, H6, H7, H8, H9, ⟨Hr0, Hr, He⟩⟩ Hk
  iapply (wp_ld_r c (RS I l c) h lo h₁ h₂) $$ [Hr]
  · iexact Hr
  iintro Hr
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hr0]; · iexact Hr0
  isplitl [Hr] <;> iassumption

/-- Loading the first slot of activations before it is filled. -/
theorem ld_s {Q : β → sProp 𝕄} {inb : ∀ i, (![0, 0] : Fin 2 → ℕ) i + (![256, 256] : Fin 2 → ℕ) i ≤ S8192x256.size i}
    {hl : xM.view.LoadsAt (rr 256 0 inb).toLoadRect}
    {kont : ((rr 256 0 inb).toLoadRect.shape.Idx → Elt F .bf16) → Prog (TpuEff nD τ sig (Elt F) Λ₀ .tc) β} :
    xany c 0 256 ⊢ iprop((∀ v, xany c 0 256 -∗ WP c (kont v) Q) -∗ WP c (.op (.load xM (rr 256 0 inb).toLoadRect hl) kont) Q) := by
  unfold xany
  iintro ⟨%f, H⟩ Hk
  iapply (wp_ld_x c f 256 0 (Nat.le_refl _) (Nat.le_refl _)) $$ [H]
  · iexact H
  iintro H
  iapply Hk
  iexists f; iexact H

/-- Filling the first slot of activations with the device's own block. -/
theorem st_s {Q : β → sProp 𝕄} (l : ℕ) {inb : ∀ i, (![0, 0] : Fin 2 → ℕ) i + (![256, 256] : Fin 2 → ℕ) i ≤ S8192x256.size i}
    {v : (rr 256 0 inb).shape.Idx → Elt F .bf16} (hv : v = X I l c)
    {hx : (xM.access (rr 256 0 inb)).Stores Finset.univ} {hm}
    {kont : PUnit → Prog (TpuEff nD τ sig (Elt F) Λ₀ .tc) β} :
    xany c 0 256 ⊢ iprop((xpt c (XF I l c) 0 256 -∗ WP c (kont ⟨⟩) Q)
      -∗ WP c (.op (.store xM (rr 256 0 inb) v Finset.univ hx hm) kont) Q) := by
  have e : v = cut 256 0 (XF I l c) := by
    rw [hv]
    have h := cut_XF I l c (r := 0) (by omega)
    rw [peer_zero] at h
    exact h.symm
  unfold xany
  iintro ⟨%f, H⟩ Hk
  iapply (wp_st_x c f (XF I l c) 256 0 (Nat.le_refl _) (Nat.le_refl _) e) $$ [H]
  · iexact H
  iintro H
  iapply Hk
  iexact H

end Cert.MlpProof

end
-- ==== Proof.Part1.lean ====
/-
# The kernel's first part

From the barrier to the arrival of the last group of activations of layer 0.
-/
module

public import proofs.«01_k».proof.Proof.Moves

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

theorem hz : (![0, 0] : Fin 2 → Nat) = fun _ => 0 := funext fun a => by fin_cases a <;> rfl
theorem vec2 {o : Fin 2 → ℕ} {a b a' b' : ℕ} (h : o = ![a, b]) (h₁ : a = a') (h₂ : b = b') : o = ![a', b'] := by
  subst h₁ h₂; exact h

/-- A device index computed from a loop's counter is the peer that many further. -/
theorem to_peer {n k b : ℕ} {hn : n < 32} (h : n = (c.val + k + b) % 32) : (⟨n, hn⟩ : Dev nD) = peer c (b + k) :=
  Fin.ext (h.trans (by show _ = (c.val + (b + k)) % 32; congr 1; omega))

/-! ## The block and the running sum -/

section Small
variable {β : Type} {inb : ∀ a, (![0, 0] : Fin 2 → ℕ) a + S256x256.size a ≤ S256x256.size a}

theorem ld_b {Q : β → sProp 𝕄} (f : Vec F S256x256 .bf16) {hl : bM.view.LoadsAt (Rect.unit (s := S256x256) ![0, 0] S256x256.size inb).toLoadRect}
    {kont : Vec F S256x256 .bf16 → Prog (TpuEff nD τ sig (Elt F) Λ₀ .tc) β} :
    bpt c f ⊢ iprop((bpt c f -∗ WP c (kont f) Q) -∗ WP c (.op (.load bM (Rect.unit (s := S256x256) ![0, 0] S256x256.size inb).toLoadRect hl) kont) Q) := by
  unfold bpt; exact wp_ld c cc0_scratch3.idx cc0_scratch3.names hz f
theorem st_b {Q : β → sProp 𝕄} (f w : Vec F S256x256 .bf16) {hx : (bM.access (Rect.unit (s := S256x256) ![0, 0] S256x256.size inb)).Stores Finset.univ} {hm}
    {kont : PUnit → Prog (TpuEff nD τ sig (Elt F) Λ₀ .tc) β} :
    bpt c f ⊢ iprop((bpt c w -∗ WP c (kont ⟨⟩) Q) -∗ WP c (.op (.store bM (Rect.unit (s := S256x256) ![0, 0] S256x256.size inb) w Finset.univ hx hm) kont) Q) := by
  unfold bpt; exact wp_st c cc0_scratch3.idx cc0_scratch3.names hz f w
theorem ld_a {Q : β → sProp 𝕄} (f : Vec F S256x256 .f32) {hl : aM.view.LoadsAt (Rect.unit (s := S256x256) ![0, 0] S256x256.size inb).toLoadRect}
    {kont : Vec F S256x256 .f32 → Prog (TpuEff nD τ sig (Elt F) Λ₀ .tc) β} :
    apt c f ⊢ iprop((apt c f -∗ WP c (kont f) Q) -∗ WP c (.op (.load aM (Rect.unit (s := S256x256) ![0, 0] S256x256.size inb).toLoadRect hl) kont) Q) := by
  unfold apt; exact wp_ld c cc0_scratch4.idx cc0_scratch4.names hz f
theorem st_a {Q : β → sProp 𝕄} (f w : Vec F S256x256 .f32) {hx : (aM.access (Rect.unit (s := S256x256) ![0, 0] S256x256.size inb)).Stores Finset.univ} {hm}
    {kont : PUnit → Prog (TpuEff nD τ sig (Elt F) Λ₀ .tc) β} :
    apt c f ⊢ iprop((apt c w -∗ WP c (kont ⟨⟩) Q) -∗ WP c (.op (.store aM (Rect.unit (s := S256x256) ![0, 0] S256x256.size inb) w Finset.univ hx hm) kont) Q) := by
  unfold apt; exact wp_st c cc0_scratch4.idx cc0_scratch4.names hz f w
end Small

/-- A staging buffer at given contents. -/
def held (b : Ref sig .tc) (f : b.ty.Contents (Elt F)) : sProp 𝕄 := (c : Thread nD τ).loc b ↦[Finset.univ]{fullShare} f

/-- Layer 0, from the start to the arrival of the last group. -/
theorem part1 {Q : (Σ' (d0 : Dev nD) (v2 : BitVec 32) (v11 : FVec F S256x512 .bf16) (v13 : FVec F S512x256 .bf16), FVec F S2048x512 .f32) → sProp 𝕄}
    (b₀ : Vec F S256x256 .bf16) :
    iprop(Rec I K ∗ Ini c ∗ held c cc0_stg0_0 (X I 0 c) ∗ held c cc0_stg1_0 (I.wi 0 c) ∗ held c cc0_stg2_0 (I.wo 0 c) ∗ bpt c b₀)
      ⊢ iprop((∀ v2, (St I c 0 24 32 4 1 ∗ atPos ER (bc c) 1 ∅ 0 ∗ held c cc0_stg0_0 (X I 0 c) ∗ held c cc0_stg1_0 (I.wi 0 c) ∗ held c cc0_stg2_0 (I.wo 0 c))
          -∗ Q ⟨c, v2, I.wi 0 c, I.wo 0 c, hid (I.wi 0 c) (cut 2048 6144 (XF I 0 c))⟩)
        -∗ WP c (k0_part1_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) Q) := by
  unfold held
  iintro ⟨#HR, HI, H0, H1, H2, Hb⟩ Hk
  unfold k0_part1_skel
  simp only [semWaitWord, Prog.lift, Prog.bind_op, Prog.bind_ret, Prog.pure_eq_ret, wp_deviceId]
  iapply (step_sig I K c (by decide) (fun k _ h₁ h₂ => sig_trip I K c h₁ h₂ (to_peer c (k0_dev1_eq c k)))) $$ [HI]
  · isplitr; · iexact HR
    iexact HI
  iintro HI
  iapply (step_bar I K c) $$ [HI]
  · isplitr; · iexact HR
    iexact HI
  iintro ⟨HB, Hat, Hs⟩
  iapply (wp_ld c cc0_stg0_0.idx cc0_stg0_0.names hz (X I 0 c)) $$ [H0]; · iexact H0
  iintro H0
  iapply (ld_b c b₀) $$ [Hb]; · iexact Hb
  iintro Hb
  iapply (st_b c b₀ _) $$ [Hb]; · iexact Hb
  iintro Hb
  iapply (wp_ld c cc0_stg1_0.idx cc0_stg1_0.names hz (I.wi 0 c)) $$ [H1]; · iexact H1
  iintro H1
  iapply (wp_ld c cc0_stg2_0.idx cc0_stg2_0.names hz (I.wo 0 c)) $$ [H2]; · iexact H2
  iintro H2
  iapply (ld_b c _) $$ [Hb]; · iexact Hb
  iintro Hb
  iapply (ld_s c) $$ [Hs]; · iexact Hs
  iintro %v Hs
  iapply (st_s I c 0 ((pay5_eq _).trans (pay2_eq _))) $$ [Hs]; · iexact Hs
  iintro Hs
  iapply (step_ag I K c (l := 0) (by omega) (by decide) (fun k _ h₁ h₂ => ag_trip I K c (by omega) h₁ h₂
    (to_peer c (k0_dev2_eq c k))
    (vec2 (k0_off1_eq k) rfl (by omega)) (vec2 (k0_off2_eq k) rfl (by omega)) (vec2 (k0_off3_eq k) (by omega) rfl))) $$ [HB Hb Hs]
  · isplitr; · iexact HR
    isplitl [HB]; · iexact HB
    isplitl [Hb]; · rw [pay2_eq]; iexact Hb
    iexact Hs
  iintro HS
  iapply (step_wx I K c (l := 0) (a' := 24) (a := 32) (s := 32) (by omega) (by omega) (by omega) (by omega) (by omega) (by decide) (fun k _ h₁ h₂ => wx_trip I K c (by omega) h₁ h₂
    (vec2 (k0_off4_eq k) rfl (by omega)))) $$ [HS]
  · isplitr; · iexact HR
    iexact HS
  iintro HS
  iapply (ld_x I c (a := 24) (s := 32) 6144 (by omega) (by omega) (by omega)) $$ [HS]; · iexact HS
  iintro HS
  unfold WP
  rw [wp_ret, pay3_eq, pay4_eq, pay6_eq]
  imodintro
  iapply Hk
  isplitl [HS]; · iexact HS
  isplitl [Hat]; · iexact Hat
  isplitl [H0]; · iexact H0
  isplitl [H1] <;> iassumption

end Cert.MlpProof

end
-- ==== Proof.Turns.lean ====
/-
# Writing a group of partial sums, and adding a group of received ones

The kernel reads a buffer's rows before it overwrites them and does not use what it reads.
-/
module

public import proofs.«01_k».proof.Proof.Part1

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD) {β : Type}

theorem put_p {Q : β → sProp 𝕄} {l a s w d : ℕ} (lo : ℕ) (hlo : lo = 2048 * w) (hw : 8 * (w + 1) ≤ s)
    {inb : ∀ i, (![lo, 0] : Fin 2 → ℕ) i + (![2048, 256] : Fin 2 → ℕ) i ≤ S8192x256.size i}
    {v : (rr 2048 lo inb).shape.Idx → Elt F .bf16} (hv : v = cut 2048 (2048 * w) (PT I l c))
    {hl : pM.view.LoadsAt (rr 2048 lo inb).toLoadRect} {hx : (pM.access (rr 2048 lo inb)).Stores Finset.univ} {hm}
    {kont : PUnit → Prog (TpuEff nD τ sig (Elt F) Λ₀ .tc) β} :
    St I c l a s (w + 1) d ⊢ iprop((St I c l a s w d -∗ WP c (kont ⟨⟩) Q)
      -∗ WP c (.op (.load pM (rr 2048 lo inb).toLoadRect hl) fun _ => .op (.store pM (rr 2048 lo inb) v Finset.univ hx hm) kont) Q) := by
  iintro HS Hk
  iapply (ld_p I c (l := l) (a := a) (s := s) (w := w + 1) (d := d) lo (by omega)) $$ [HS]; · iexact HS
  iintro %u HS
  iapply (st_p I c (l := l) (a := a) (s := s) (w := w) (d := d) lo hlo hw hv) $$ [HS]; · iexact HS
  iexact Hk

/-- The running sum, at some contents. -/
def aany : sProp 𝕄 := iprop(∃ f, apt c f)

theorem put_a {Q : β → sProp 𝕄} {inb : ∀ a, (![0, 0] : Fin 2 → ℕ) a + S256x256.size a ≤ S256x256.size a}
    {v v' : Vec F S256x256 .f32} (hv : v = v') {hl : aM.view.LoadsAt (Rect.unit (s := S256x256) ![0, 0] S256x256.size inb).toLoadRect}
    {hx : (aM.access (Rect.unit (s := S256x256) ![0, 0] S256x256.size inb)).Stores Finset.univ} {hm}
    {kont : PUnit → Prog (TpuEff nD τ sig (Elt F) Λ₀ .tc) β} :
    aany c ⊢ iprop((apt c v' -∗ WP c (kont ⟨⟩) Q)
      -∗ WP c (.op (.load aM (Rect.unit (s := S256x256) ![0, 0] S256x256.size inb).toLoadRect hl) fun _ =>
          .op (.store aM (Rect.unit (s := S256x256) ![0, 0] S256x256.size inb) v Finset.univ hx hm) kont) Q) := by
  subst hv
  unfold aany
  iintro ⟨%f, HA⟩ Hk
  iapply (ld_a c f) $$ [HA]; · iexact HA
  iintro HA
  iapply (st_a c f _) $$ [HA]; · iexact HA
  iexact Hk

theorem add_r {Q : β → sProp 𝕄} {l a s w d : ℕ} (f : Vec F S256x256 .f32) (h lo : ℕ) (h₁ : 256 ≤ lo) (h₂ : lo + h ≤ 256 * d)
    {inb : ∀ a, (![0, 0] : Fin 2 → ℕ) a + S256x256.size a ≤ S256x256.size a}
    {inb' : ∀ i, (![lo, 0] : Fin 2 → ℕ) i + (![h, 256] : Fin 2 → ℕ) i ≤ S8192x256.size i}
    {g g' : Vec F S256x256 .f32 → ((rr h lo inb').toLoadRect.shape.Idx → Elt F .bf16) → Vec F S256x256 .f32} (hg : ∀ a v, g a v = g' a v)
    {hl hl₂ : aM.view.LoadsAt (Rect.unit (s := S256x256) ![0, 0] S256x256.size inb).toLoadRect}
    {hl' : rM.view.LoadsAt (rr h lo inb').toLoadRect}
    {hx : (aM.access (Rect.unit (s := S256x256) ![0, 0] S256x256.size inb)).Stores Finset.univ} {hm}
    {kont : PUnit → Prog (TpuEff nD τ sig (Elt F) Λ₀ .tc) β} :
    iprop(St I c l a s w d ∗ apt c f) ⊢ iprop((St I c l a s w d ∗ apt c (g' f (cut h lo (RS I l c))) -∗ WP c (kont ⟨⟩) Q)
      -∗ WP c (.op (.load aM (Rect.unit (s := S256x256) ![0, 0] S256x256.size inb).toLoadRect hl) fun a =>
          .op (.load rM (rr h lo inb').toLoadRect hl') fun v =>
          .op (.load aM (Rect.unit (s := S256x256) ![0, 0] S256x256.size inb).toLoadRect hl₂) fun _ =>
          .op (.store aM (Rect.unit (s := S256x256) ![0, 0] S256x256.size inb) (g a v) Finset.univ hx hm) kont) Q) := by
  iintro ⟨HS, HA⟩ Hk
  iapply (ld_a c f) $$ [HA]; · iexact HA
  iintro HA
  iapply (ld_r I c h lo h₁ h₂) $$ [HS]; · iexact HS
  iintro HS
  iapply (ld_a c f) $$ [HA]; · iexact HA
  iintro HA
  iapply (st_a c f _) $$ [HA]; · iexact HA
  rw [hg]
  iintro HA
  iapply Hk
  isplitl [HS] <;> iassumption

end Cert.MlpProof

end
-- ==== Proof.Layer0.lean ====
/-
# Layer 0
-/
module

public import proofs.«01_k».proof.Proof.Turns

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-- Three groups of activations arrive; the partial sums of the two last groups go out. -/
theorem part2 {Q : FVec F S2048x512 .f32 → sProp 𝕄} (v2 : BitVec 32) :
    iprop(Rec I K ∗ St I c 0 24 32 4 1)
      ⊢ iprop((St I c 0 8 16 2 1 -∗ Q (hid (I.wi 0 c) (cut 2048 2048 (XF I 0 c))))
        -∗ WP c (k0_part2_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v2 (I.wi 0 c) (I.wo 0 c) (hid (I.wi 0 c) (cut 2048 6144 (XF I 0 c)))) Q) := by
  iintro ⟨#HR, HS⟩ Hk
  unfold k0_part2_skel
  simp only [Prog.lift, Prog.bind_op, Prog.bind_ret, Prog.pure_eq_ret]
  iapply (put_p I c (w := 3) (s := 32) 6144 rfl (by omega) ((pay7_eq _ _).trans (cut_PT I 0 c (by omega)).symm)) $$ [HS]; · iexact HS
  iintro HS
  iapply (step_rs I K c (l := 0) (a := 24) (s' := 24) (s := 32) (w := 3) (by omega) (by omega) (by omega) (by omega) (by omega) (by omega) (by decide)
    (fun k _ h₁ h₂ => rs_trip I K c (by omega) h₁ h₂ (to_peer c (k0_dev3_eq c k)) (vec2 (k0_off6_eq k) rfl (by omega)) (vec2 (k0_off7_eq k) rfl (by omega))
      (vec2 (k0_off8_eq k) (by omega) rfl) (vec2 (k0_off9_eq k) (by omega) rfl))) $$ [HS]
  · isplitr <;> iassumption
  iintro HS
  iapply (step_wx I K c (l := 0) (a' := 16) (a := 24) (s := 24) (by omega) (by omega) (by omega) (by omega) (by omega) (by decide)
    (fun k _ h₁ h₂ => wx_trip I K c (by omega) h₁ h₂ (vec2 (k0_off10_eq k) rfl (by omega)))) $$ [HS]
  · isplitr <;> iassumption
  iintro HS
  iapply (ld_x I c (a := 16) (s := 24) 4096 (by omega) (by omega) (by omega)) $$ [HS]; · iexact HS
  iintro HS
  iapply (put_p I c (w := 2) (s := 24) 4096 rfl (by omega) ((pay8_eq _ _ _).trans (cut_PT I 0 c (by omega)).symm)) $$ [HS]; · iexact HS
  iintro HS
  iapply (step_rs I K c (l := 0) (a := 16) (s' := 16) (s := 24) (w := 2) (by omega) (by omega) (by omega) (by omega) (by omega) (by omega) (by decide)
    (fun k _ h₁ h₂ => rs_trip I K c (by omega) h₁ h₂ (to_peer c (k0_dev4_eq c k)) (vec2 (k0_off12_eq k) rfl (by omega)) (vec2 (k0_off13_eq k) rfl (by omega))
      (vec2 (k0_off14_eq k) (by omega) rfl) (vec2 (k0_off15_eq k) (by omega) rfl))) $$ [HS]
  · isplitr <;> iassumption
  iintro HS
  iapply (step_wx I K c (l := 0) (a' := 8) (a := 16) (s := 16) (by omega) (by omega) (by omega) (by omega) (by omega) (by decide)
    (fun k _ h₁ h₂ => wx_trip I K c (by omega) h₁ h₂ (vec2 (k0_off16_eq k) rfl (by omega)))) $$ [HS]
  · isplitr <;> iassumption
  iintro HS
  iapply (ld_x I c (a := 8) (s := 16) 2048 (by omega) (by omega) (by omega)) $$ [HS]; · iexact HS
  iintro HS
  unfold WP
  rw [wp_ret, pay9_eq]
  imodintro
  iapply Hk
  iexact HS

/-- The last partial sums go out, and the running sum starts from this device's own. -/
theorem part3 {Q : (Σ' (c1_i32_73 : BitVec 32), BitVec 32) → sProp 𝕄} (v2 : BitVec 32) :
    iprop(Rec I K ∗ St I c 0 8 16 2 1 ∗ aany c)
      ⊢ iprop((St I c 0 1 1 0 1 ∗ apt c (Acc I 0 c 0) -∗ Q ⟨1#32, 1#32⟩)
        -∗ WP c (k0_part3_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v2 (I.wi 0 c) (I.wo 0 c) (hid (I.wi 0 c) (cut 2048 2048 (XF I 0 c)))) Q) := by
  iintro ⟨#HR, HS, HA⟩ Hk
  unfold k0_part3_skel
  simp only [Prog.lift, Prog.bind_op, Prog.bind_ret, Prog.pure_eq_ret]
  iapply (put_p I c (w := 1) (s := 16) 2048 rfl (by omega) ((pay10_eq _ _).trans (cut_PT I 0 c (g := 1) (by omega)).symm)) $$ [HS]; · iexact HS
  iintro HS
  iapply (step_rs I K c (l := 0) (a := 8) (s' := 8) (s := 16) (w := 1) (by omega) (by omega) (by omega) (by omega) (by omega) (by omega) (by decide)
    (fun k _ h₁ h₂ => rs_trip I K c (by omega) h₁ h₂ (to_peer c (k0_dev5_eq c k)) (vec2 (k0_off18_eq k) rfl (by omega)) (vec2 (k0_off19_eq k) rfl (by omega))
      (vec2 (k0_off20_eq k) (by omega) rfl) (vec2 (k0_off21_eq k) (by omega) rfl))) $$ [HS]
  · isplitr <;> iassumption
  iintro HS
  iapply (step_wx I K c (l := 0) (a' := 1) (a := 8) (s := 8) (by omega) (by omega) (by omega) (by omega) (by omega) (by decide)
    (fun k _ h₁ h₂ => wx_trip I K c (by omega) h₁ h₂ (vec2 (k0_off22_eq k) rfl (by omega)))) $$ [HS]
  · isplitr <;> iassumption
  iintro HS
  iapply (ld_x0 I c (s := 8) (by omega) (by omega)) $$ [HS]; · iexact HS
  iintro HS
  iapply (put_p I c (w := 0) (s := 8) 0 rfl (by omega) ((pay12_eq _ _ _).trans (cut_PT I 0 c (g := 0) (by omega)).symm)) $$ [HS]; · iexact HS
  iintro HS
  iapply (put_a c (pay13_eq _ _ _)) $$ [HA]; · iexact HA
  iintro HA
  iapply (step_rs I K c (l := 0) (a := 1) (s' := 1) (s := 8) (w := 0) (by omega) (by omega) (by omega) (by omega) (by omega) (by omega) (by decide)
    (fun k _ h₁ h₂ => rs_trip I K c (by omega) h₁ h₂ (to_peer c (k0_dev6_eq c k)) (vec2 (k0_off24_eq k) rfl (by omega)) (vec2 (k0_off25_eq k) rfl (by omega))
      (vec2 (k0_off26_eq k) (by omega) rfl) (vec2 (k0_off27_eq k) (by omega) rfl))) $$ [HS]
  · isplitr <;> iassumption
  iintro HS
  unfold WP
  rw [wp_ret]
  imodintro
  iapply Hk
  isplitl [HS]; · iexact HS
  iexact HA

/-- The partial sums of three groups of devices arrive; two are added. -/
theorem part4 {Q : FVec F S256x256 .f32 → sProp 𝕄} (v2 u₁ u₂ : BitVec 32) :
    iprop(Rec I K ∗ St I c 0 1 1 0 1 ∗ apt c (Acc I 0 c 0))
      ⊢ iprop((St I c 0 1 1 0 24 ∗ apt c (Acc I 0 c 2) -∗ Q (Acc I 0 c 3)) -∗ WP c (k0_part4_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v2 u₁ u₂) Q) := by
  iintro ⟨#HR, HS, HA⟩ Hk
  unfold k0_part4_skel
  simp only [Prog.lift, Prog.bind_op, Prog.bind_ret, Prog.pure_eq_ret]
  iapply (step_wp I K c (l := 0) (d := 1) (d' := 8) (by omega) (by omega) (by omega) (by omega) (by decide)
    (fun k _ h₁ h₂ => wp_trip I K c (by omega) h₁ h₂ (vec2 (k0_off28_eq k) rfl (by omega)))) $$ [HS]
  · isplitr <;> iassumption
  iintro HS
  iapply (add_r I c (d := 8) (Acc I 0 c 0) 1792 256 (by omega) (by omega) pay14_eq) $$ [HS HA]
  · isplitl [HS]; · iexact HS
    iexact HA
  iintro ⟨HS, HA⟩
  iapply (step_wp I K c (l := 0) (d := 8) (d' := 16) (by omega) (by omega) (by omega) (by omega) (by decide)
    (fun k _ h₁ h₂ => wp_trip I K c (by omega) h₁ h₂ (vec2 (k0_off30_eq k) rfl (by omega)))) $$ [HS]
  · isplitr <;> iassumption
  iintro HS
  iapply (add_r I c (d := 16) (Acc I 0 c 1) 2048 2048 (by omega) (by omega) pay15_eq) $$ [HS HA]
  · isplitl [HS]; · iexact HS
    iexact HA
  iintro ⟨HS, HA⟩
  iapply (step_wp I K c (l := 0) (d := 16) (d' := 24) (by omega) (by omega) (by omega) (by omega) (by decide)
    (fun k _ h₁ h₂ => wp_trip I K c (by omega) h₁ h₂ (vec2 (k0_off32_eq k) rfl (by omega)))) $$ [HS]
  · isplitr <;> iassumption
  iintro HS
  iapply (ld_a c (Acc I 0 c 2)) $$ [HA]; · iexact HA
  iintro HA
  iapply (ld_r I c (d := 24) 2048 4096 (by omega) (by omega)) $$ [HS]; · iexact HS
  iintro HS
  have e : k0_pay16 (Acc I 0 c 2) (cut 2048 4096 (RS I 0 c)) = Acc I 0 c 3 := pay16_eq _ _
  unfold WP
  rw [wp_ret, e]
  imodintro
  iapply Hk
  isplitl [HS]; · iexact HS
  iexact HA

/-- The last group is added, the layer's sends are over, and the sum, rounded, is the next layer's block. -/
theorem part5 {Q : (Σ' (v118 : FVec F S256x512 .bf16) (v120 : FVec F S512x256 .bf16), FVec F S256x256 .bf16) → sProp 𝕄} (v2 : BitVec 32) :
    iprop(Rec I K ∗ St I c 0 1 1 0 24 ∗ apt c (Acc I 0 c 2) ∗ held c cc0_stg3_0 (I.wi 1 c) ∗ held c cc0_stg4_0 (I.wo 1 c))
      ⊢ iprop((Bt c 1 ∗ bpt c (X I 1 c) ∗ xany c 0 256 ∗ aany c ∗ held c cc0_stg3_0 (I.wi 1 c) ∗ held c cc0_stg4_0 (I.wo 1 c)
          -∗ Q ⟨I.wi 1 c, I.wo 1 c, X I 1 c⟩)
        -∗ WP c (k0_part5_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v2 (Acc I 0 c 3)) Q) := by
  unfold held
  iintro ⟨#HR, HS, HA, H3, H4⟩ Hk
  unfold k0_part5_skel
  simp only [Prog.lift, Prog.bind_op, Prog.bind_ret, Prog.pure_eq_ret]
  iapply (put_a c (pay17_eq _)) $$ [HA]; · unfold aany; iexists (Acc I 0 c 2); iexact HA
  iintro HA
  iapply (step_wp I K c (l := 0) (d := 24) (d' := 32) (by omega) (by omega) (by omega) (by omega) (by decide)
    (fun k _ h₁ h₂ => wp_trip I K c (by omega) h₁ h₂ (vec2 (k0_off34_eq k) rfl (by omega)))) $$ [HS]
  · isplitr <;> iassumption
  iintro HS
  iapply (add_r I c (d := 32) (Acc I 0 c 3) 2048 6144 (by omega) (by omega) pay18_eq) $$ [HS HA]
  · isplitl [HS]; · iexact HS
    iexact HA
  iintro ⟨HS, HA⟩
  iapply (step_sw I K c (l := 0) (by omega) (by decide)
    (fun k _ h₁ h₂ => sw_trip I K c (by omega) h₁ h₂ (vec2 (k0_off36_eq k) rfl (by omega)) (vec2 (k0_off37_eq k) rfl (by omega)))) $$ [HS]
  · isplitr <;> iassumption
  iintro ⟨HB, Hb, Hx⟩
  iapply (ld_a c (Acc I 0 c 4)) $$ [HA]; · iexact HA
  iintro HA
  iapply (ld_b c _) $$ [Hb]; · iexact Hb
  iintro Hb
  iapply (st_b c _ _) $$ [Hb]; · iexact Hb
  rw [pay19_eq, ← X_succ]
  iintro Hb
  iapply (wp_ld c cc0_stg3_0.idx cc0_stg3_0.names hz (I.wi 1 c)) $$ [H3]; · iexact H3
  iintro H3
  iapply (wp_ld c cc0_stg4_0.idx cc0_stg4_0.names hz (I.wo 1 c)) $$ [H4]; · iexact H4
  iintro H4
  iapply (ld_b c _) $$ [Hb]; · iexact Hb
  iintro Hb
  iapply (ld_s c) $$ [Hx]; · unfold xany; iexists (XF I 0 c); iexact Hx
  iintro %v Hx
  unfold WP
  rw [wp_ret, pay20_eq, pay21_eq, pay22_eq]
  imodintro
  iapply Hk
  isplitl [HB]; · iexact HB
  isplitl [Hb]; · iexact Hb
  isplitl [Hx]; · iexact Hx
  isplitl [HA]; · unfold aany; iexists (Acc I 0 c 4); iexact HA
  isplitl [H3] <;> iassumption

end Cert.MlpProof

end
-- ==== Proof.Layer1.lean ====
/-
# Layer 1
-/
module

public import proofs.«01_k».proof.Proof.Turns

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-- The block goes to every peer; the first two groups arrive, and the first group's partial sums go out. -/
theorem part6 {Q : FVec F S2048x256 .bf16 → sProp 𝕄} (v2 : BitVec 32) :
    iprop(Rec I K ∗ Bt c 1 ∗ bpt c (X I 1 c) ∗ xany c 0 256)
      ⊢ iprop((St I c 1 16 24 3 1 -∗ Q (goutb (I.wi 1 c) (I.wo 1 c) (cut 2048 4096 (XF I 1 c))))
        -∗ WP c (k0_part6_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v2 (I.wi 1 c) (I.wo 1 c) (X I 1 c)) Q) := by
  iintro ⟨#HR, HB, Hb, Hx⟩ Hk
  unfold k0_part6_skel
  simp only [Prog.lift, Prog.bind_op, Prog.bind_ret, Prog.pure_eq_ret]
  iapply (st_s I c 1 rfl) $$ [Hx]; · iexact Hx
  iintro Hx
  iapply (step_ag I K c (l := 1) (by omega) (by decide) (fun k _ h₁ h₂ => ag_trip I K c (by omega) h₁ h₂
    (to_peer c (k0_dev7_eq c k)) (vec2 (k0_off39_eq k) rfl (by omega)) (vec2 (k0_off40_eq k) rfl (by omega)) (vec2 (k0_off41_eq k) (by omega) rfl))) $$ [HB Hb Hx]
  · isplitr; · iexact HR
    isplitl [HB]; · iexact HB
    isplitl [Hb] <;> iassumption
  iintro HS
  iapply (step_wx I K c (l := 1) (a' := 24) (a := 32) (s := 32) (by omega) (by omega) (by omega) (by omega) (by omega) (by decide)
    (fun k _ h₁ h₂ => wx_trip I K c (by omega) h₁ h₂ (vec2 (k0_off42_eq k) rfl (by omega)))) $$ [HS]
  · isplitr <;> iassumption
  iintro HS
  iapply (ld_x I c (a := 24) (s := 32) 6144 (by omega) (by omega) (by omega)) $$ [HS]; · iexact HS
  iintro HS
  iapply (put_p I c (w := 3) (s := 32) 6144 rfl (by omega) ((pay23_eq _ _ _).trans (cut_PT I 1 c (g := 3) (by omega)).symm)) $$ [HS]; · iexact HS
  iintro HS
  iapply (step_rs I K c (l := 1) (a := 24) (s' := 24) (s := 32) (w := 3) (by omega) (by omega) (by omega) (by omega) (by omega) (by omega) (by decide)
    (fun k _ h₁ h₂ => rs_trip I K c (by omega) h₁ h₂ (to_peer c (k0_dev8_eq c k)) (vec2 (k0_off44_eq k) rfl (by omega)) (vec2 (k0_off45_eq k) rfl (by omega))
      (vec2 (k0_off46_eq k) (by omega) rfl) (vec2 (k0_off47_eq k) (by omega) rfl))) $$ [HS]
  · isplitr <;> iassumption
  iintro HS
  iapply (step_wx I K c (l := 1) (a' := 16) (a := 24) (s := 24) (by omega) (by omega) (by omega) (by omega) (by omega) (by decide)
    (fun k _ h₁ h₂ => wx_trip I K c (by omega) h₁ h₂ (vec2 (k0_off48_eq k) rfl (by omega)))) $$ [HS]
  · isplitr <;> iassumption
  iintro HS
  iapply (ld_x I c (a := 16) (s := 24) 4096 (by omega) (by omega) (by omega)) $$ [HS]; · iexact HS
  iintro HS
  iapply (ld_p I c (l := 1) (a := 16) (s := 24) (w := 3) (d := 1) 4096 (by omega)) $$ [HS]; · iexact HS
  iintro %v HS
  unfold WP
  rw [wp_ret, pay24_eq]
  imodintro
  iapply Hk
  iexact HS

/-- The partial sums of the two middle groups go out, and every activation is here. -/
theorem part7 {Q : (Σ' (v168 : FVec F S2048x256 .f32), FVec F S2048x256 .bf16) → sProp 𝕄} (v2 : BitVec 32) :
    iprop(Rec I K ∗ St I c 1 16 24 3 1)
      ⊢ iprop((St I c 1 1 8 1 1
          -∗ Q ⟨gout (I.wi 1 c) (I.wo 1 c) (cut 2048 0 (XF I 1 c)), goutb (I.wi 1 c) (I.wo 1 c) (cut 2048 0 (XF I 1 c))⟩)
        -∗ WP c (k0_part7_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v2 (I.wi 1 c) (I.wo 1 c) (goutb (I.wi 1 c) (I.wo 1 c) (cut 2048 4096 (XF I 1 c)))) Q) := by
  iintro ⟨#HR, HS⟩ Hk
  unfold k0_part7_skel
  simp only [Prog.lift, Prog.bind_op, Prog.bind_ret, Prog.pure_eq_ret]
  iapply (st_p I c (l := 1) (a := 16) (w := 2) (s := 24) (d := 1) 4096 rfl (by omega) (cut_PT I 1 c (g := 2) (by omega)).symm) $$ [HS]; · iexact HS
  iintro HS
  iapply (step_rs I K c (l := 1) (a := 16) (s' := 16) (s := 24) (w := 2) (by omega) (by omega) (by omega) (by omega) (by omega) (by omega) (by decide)
    (fun k _ h₁ h₂ => rs_trip I K c (by omega) h₁ h₂ (to_peer c (k0_dev9_eq c k)) (vec2 (k0_off50_eq k) rfl (by omega)) (vec2 (k0_off51_eq k) rfl (by omega))
      (vec2 (k0_off52_eq k) (by omega) rfl) (vec2 (k0_off53_eq k) (by omega) rfl))) $$ [HS]
  · isplitr <;> iassumption
  iintro HS
  iapply (step_wx I K c (l := 1) (a' := 8) (a := 16) (s := 16) (by omega) (by omega) (by omega) (by omega) (by omega) (by decide)
    (fun k _ h₁ h₂ => wx_trip I K c (by omega) h₁ h₂ (vec2 (k0_off54_eq k) rfl (by omega)))) $$ [HS]
  · isplitr <;> iassumption
  iintro HS
  iapply (ld_x I c (a := 8) (s := 16) 2048 (by omega) (by omega) (by omega)) $$ [HS]; · iexact HS
  iintro HS
  iapply (put_p I c (w := 1) (s := 16) 2048 rfl (by omega) ((pay25_eq _ _ _).trans (cut_PT I 1 c (g := 1) (by omega)).symm)) $$ [HS]; · iexact HS
  iintro HS
  iapply (step_rs I K c (l := 1) (a := 8) (s' := 8) (s := 16) (w := 1) (by omega) (by omega) (by omega) (by omega) (by omega) (by omega) (by decide)
    (fun k _ h₁ h₂ => rs_trip I K c (by omega) h₁ h₂ (to_peer c (k0_dev10_eq c k)) (vec2 (k0_off56_eq k) rfl (by omega)) (vec2 (k0_off57_eq k) rfl (by omega))
      (vec2 (k0_off58_eq k) (by omega) rfl) (vec2 (k0_off59_eq k) (by omega) rfl))) $$ [HS]
  · isplitr <;> iassumption
  iintro HS
  iapply (step_wx I K c (l := 1) (a' := 1) (a := 8) (s := 8) (by omega) (by omega) (by omega) (by omega) (by omega) (by decide)
    (fun k _ h₁ h₂ => wx_trip I K c (by omega) h₁ h₂ (vec2 (k0_off60_eq k) rfl (by omega)))) $$ [HS]
  · isplitr <;> iassumption
  iintro HS
  iapply (ld_x0 I c (s := 8) (by omega) (by omega)) $$ [HS]; · iexact HS
  iintro HS
  iapply (ld_p I c (l := 1) (a := 1) (s := 8) (w := 1) (d := 1) 0 (by omega)) $$ [HS]; · iexact HS
  iintro %v HS
  unfold WP
  rw [wp_ret, pay26_eq, pay27_eq]
  imodintro
  iapply Hk
  iexact HS

/-- The last partial sums go out; the sum starts, and two groups are added. -/
theorem part8 {Q : PUnit → sProp 𝕄} (v2 : BitVec 32) :
    iprop(Rec I K ∗ St I c 1 1 8 1 1 ∗ aany c)
      ⊢ iprop((St I c 1 1 1 0 16 ∗ apt c (Acc I 1 c 2) -∗ Q ⟨⟩)
        -∗ WP c (k0_part8_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v2 (gout (I.wi 1 c) (I.wo 1 c) (cut 2048 0 (XF I 1 c))) (goutb (I.wi 1 c) (I.wo 1 c) (cut 2048 0 (XF I 1 c)))) Q) := by
  iintro ⟨#HR, HS, HA⟩ Hk
  unfold k0_part8_skel
  simp only [Prog.lift, Prog.bind_op, Prog.bind_ret, Prog.pure_eq_ret]
  iapply (st_p I c (l := 1) (a := 1) (w := 0) (s := 8) (d := 1) 0 rfl (by omega) (cut_PT I 1 c (g := 0) (by omega)).symm) $$ [HS]; · iexact HS
  iintro HS
  iapply (put_a c (pay28_eq _)) $$ [HA]; · iexact HA
  iintro HA
  iapply (step_rs I K c (l := 1) (a := 1) (s' := 1) (s := 8) (w := 0) (by omega) (by omega) (by omega) (by omega) (by omega) (by omega) (by decide)
    (fun k _ h₁ h₂ => rs_trip I K c (by omega) h₁ h₂ (to_peer c (k0_dev11_eq c k)) (vec2 (k0_off62_eq k) rfl (by omega)) (vec2 (k0_off63_eq k) rfl (by omega))
      (vec2 (k0_off64_eq k) (by omega) rfl) (vec2 (k0_off65_eq k) (by omega) rfl))) $$ [HS]
  · isplitr <;> iassumption
  iintro HS
  iapply (step_wp I K c (l := 1) (d := 1) (d' := 8) (by omega) (by omega) (by omega) (by omega) (by decide)
    (fun k _ h₁ h₂ => wp_trip I K c (by omega) h₁ h₂ (vec2 (k0_off66_eq k) rfl (by omega)))) $$ [HS]
  · isplitr <;> iassumption
  iintro HS
  iapply (add_r I c (d := 8) (Acc I 1 c 0) 1792 256 (by omega) (by omega) pay29_eq) $$ [HS HA]
  · isplitl [HS]; · iexact HS
    iexact HA
  iintro ⟨HS, HA⟩
  iapply (step_wp I K c (l := 1) (d := 8) (d' := 16) (by omega) (by omega) (by omega) (by omega) (by decide)
    (fun k _ h₁ h₂ => wp_trip I K c (by omega) h₁ h₂ (vec2 (k0_off68_eq k) rfl (by omega)))) $$ [HS]
  · isplitr <;> iassumption
  iintro HS
  iapply (add_r I c (d := 16) (Acc I 1 c 1) 2048 2048 (by omega) (by omega) pay30_eq) $$ [HS HA]
  · isplitl [HS]; · iexact HS
    iexact HA
  iintro ⟨HS, HA⟩
  unfold WP
  rw [wp_ret]
  imodintro
  iapply Hk
  isplitl [HS]; · iexact HS
  iexact HA

/-- The other two groups are added, the sends are over, and the sum is rounded. -/
theorem part9 {Q : FVec F S256x256 .bf16 → sProp 𝕄} (v2 : BitVec 32) :
    iprop(Rec I K ∗ St I c 1 1 1 0 16 ∗ apt c (Acc I 1 c 2))
      ⊢ iprop((Bt c 2 ∗ bpt c (X I 1 c) ∗ xany c 0 256 ∗ aany c -∗ Q (X I 2 c)) -∗ WP c (k0_part9_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v2) Q) := by
  iintro ⟨#HR, HS, HA⟩ Hk
  unfold k0_part9_skel
  simp only [Prog.lift, Prog.bind_op, Prog.bind_ret, Prog.pure_eq_ret]
  iapply (step_wp I K c (l := 1) (d := 16) (d' := 24) (by omega) (by omega) (by omega) (by omega) (by decide)
    (fun k _ h₁ h₂ => wp_trip I K c (by omega) h₁ h₂ (vec2 (k0_off70_eq k) rfl (by omega)))) $$ [HS]
  · isplitr <;> iassumption
  iintro HS
  iapply (add_r I c (d := 24) (Acc I 1 c 2) 2048 4096 (by omega) (by omega) pay31_eq) $$ [HS HA]
  · isplitl [HS]; · iexact HS
    iexact HA
  iintro ⟨HS, HA⟩
  iapply (step_wp I K c (l := 1) (d := 24) (d' := 32) (by omega) (by omega) (by omega) (by omega) (by decide)
    (fun k _ h₁ h₂ => wp_trip I K c (by omega) h₁ h₂ (vec2 (k0_off72_eq k) rfl (by omega)))) $$ [HS]
  · isplitr <;> iassumption
  iintro HS
  iapply (add_r I c (d := 32) (Acc I 1 c 3) 2048 6144 (by omega) (by omega) pay32_eq) $$ [HS HA]
  · isplitl [HS]; · iexact HS
    iexact HA
  iintro ⟨HS, HA⟩
  iapply (step_sw I K c (l := 1) (by omega) (by decide)
    (fun k _ h₁ h₂ => sw_trip I K c (by omega) h₁ h₂ (vec2 (k0_off74_eq k) rfl (by omega)) (vec2 (k0_off75_eq k) rfl (by omega)))) $$ [HS]
  · isplitr <;> iassumption
  iintro ⟨HB, Hb, Hx⟩
  iapply (ld_a c (Acc I 1 c 4)) $$ [HA]; · iexact HA
  iintro HA
  iapply (ld_b c _) $$ [Hb]; · iexact Hb
  iintro Hb
  unfold WP
  rw [wp_ret, pay33_eq, ← X_succ]
  imodintro
  iapply Hk
  isplitl [HB]; · iexact HB
  isplitl [Hb]; · iexact Hb
  isplitl [Hx]; · unfold xany; iexists (XF I 1 c); iexact Hx
  unfold aany; iexists (Acc I 1 c 4); iexact HA

end Cert.MlpProof

end
-- ==== Proof.Layer2.lean ====
/-
# Layer 2
-/
module

public import proofs.«01_k».proof.Proof.Turns

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-- The block goes to every peer; the first two groups arrive, and the first group's partial sums go out. -/
theorem part10 {Q : (Σ' (v225 : FVec F S256x512 .bf16), FVec F S512x256 .bf16) → sProp 𝕄} (v2 : BitVec 32) :
    iprop(Rec I K ∗ Bt c 2 ∗ bpt c (X I 1 c) ∗ xany c 0 256 ∗ held c cc0_stg5_0 (I.wi 2 c) ∗ held c cc0_stg6_0 (I.wo 2 c))
      ⊢ iprop((St I c 2 16 24 3 1 ∗ held c cc0_stg5_0 (I.wi 2 c) ∗ held c cc0_stg6_0 (I.wo 2 c) -∗ Q ⟨I.wi 2 c, I.wo 2 c⟩)
        -∗ WP c (k0_part10_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v2 (X I 2 c)) Q) := by
  unfold held
  iintro ⟨#HR, HB, Hb, Hx, H5, H6⟩ Hk
  unfold k0_part10_skel
  simp only [Prog.lift, Prog.bind_op, Prog.bind_ret, Prog.pure_eq_ret]
  iapply (st_b c _ _) $$ [Hb]; · iexact Hb
  rw [pay34_eq]
  iintro Hb
  iapply (wp_ld c cc0_stg5_0.idx cc0_stg5_0.names hz (I.wi 2 c)) $$ [H5]; · iexact H5
  iintro H5
  iapply (wp_ld c cc0_stg6_0.idx cc0_stg6_0.names hz (I.wo 2 c)) $$ [H6]; · iexact H6
  iintro H6
  iapply (ld_b c _) $$ [Hb]; · iexact Hb
  iintro Hb
  iapply (ld_s c) $$ [Hx]; · iexact Hx
  iintro %v Hx
  iapply (st_s I c 2 (pay37_eq _)) $$ [Hx]; · iexact Hx
  iintro Hx
  iapply (step_ag I K c (l := 2) (by omega) (by decide) (fun k _ h₁ h₂ => ag_trip I K c (by omega) h₁ h₂
    (to_peer c (k0_dev12_eq c k)) (vec2 (k0_off77_eq k) rfl (by omega)) (vec2 (k0_off78_eq k) rfl (by omega)) (vec2 (k0_off79_eq k) (by omega) rfl))) $$ [HB Hb Hx]
  · isplitr; · iexact HR
    isplitl [HB]; · iexact HB
    isplitl [Hb] <;> iassumption
  iintro HS
  iapply (step_wx I K c (l := 2) (a' := 24) (a := 32) (s := 32) (by omega) (by omega) (by omega) (by omega) (by omega) (by decide)
    (fun k _ h₁ h₂ => wx_trip I K c (by omega) h₁ h₂ (vec2 (k0_off80_eq k) rfl (by omega)))) $$ [HS]
  · isplitr <;> iassumption
  iintro HS
  iapply (ld_x I c (a := 24) (s := 32) 6144 (by omega) (by omega) (by omega)) $$ [HS]; · iexact HS
  iintro HS
  iapply (put_p I c (w := 3) (s := 32) 6144 rfl (by omega) ((pay38_eq _ _ _).trans (cut_PT I 2 c (g := 3) (by omega)).symm)) $$ [HS]; · iexact HS
  iintro HS
  iapply (step_rs I K c (l := 2) (a := 24) (s' := 24) (s := 32) (w := 3) (by omega) (by omega) (by omega) (by omega) (by omega) (by omega) (by decide)
    (fun k _ h₁ h₂ => rs_trip I K c (by omega) h₁ h₂ (to_peer c (k0_dev13_eq c k)) (vec2 (k0_off82_eq k) rfl (by omega)) (vec2 (k0_off83_eq k) rfl (by omega))
      (vec2 (k0_off84_eq k) (by omega) rfl) (vec2 (k0_off85_eq k) (by omega) rfl))) $$ [HS]
  · isplitr <;> iassumption
  iintro HS
  iapply (step_wx I K c (l := 2) (a' := 16) (a := 24) (s := 24) (by omega) (by omega) (by omega) (by omega) (by omega) (by decide)
    (fun k _ h₁ h₂ => wx_trip I K c (by omega) h₁ h₂ (vec2 (k0_off86_eq k) rfl (by omega)))) $$ [HS]
  · isplitr <;> iassumption
  iintro HS
  unfold WP
  rw [wp_ret, pay35_eq, pay36_eq]
  imodintro
  iapply Hk
  isplitl [HS]; · iexact HS
  isplitl [H5] <;> iassumption

/-- The partial sums of the two middle groups go out, and every activation is here. -/
theorem part11 {Q : PUnit → sProp 𝕄} (v2 : BitVec 32) :
    iprop(Rec I K ∗ St I c 2 16 24 3 1)
      ⊢ iprop((St I c 2 1 8 1 1 -∗ Q ⟨⟩) -∗ WP c (k0_part11_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v2 (I.wi 2 c) (I.wo 2 c)) Q) := by
  iintro ⟨#HR, HS⟩ Hk
  unfold k0_part11_skel
  simp only [Prog.lift, Prog.bind_op, Prog.bind_ret, Prog.pure_eq_ret]
  iapply (ld_x I c (a := 16) (s := 24) 4096 (by omega) (by omega) (by omega)) $$ [HS]; · iexact HS
  iintro HS
  iapply (put_p I c (w := 2) (s := 24) 4096 rfl (by omega) ((pay39_eq _ _ _).trans (cut_PT I 2 c (g := 2) (by omega)).symm)) $$ [HS]; · iexact HS
  iintro HS
  iapply (step_rs I K c (l := 2) (a := 16) (s' := 16) (s := 24) (w := 2) (by omega) (by omega) (by omega) (by omega) (by omega) (by omega) (by decide)
    (fun k _ h₁ h₂ => rs_trip I K c (by omega) h₁ h₂ (to_peer c (k0_dev14_eq c k)) (vec2 (k0_off88_eq k) rfl (by omega)) (vec2 (k0_off89_eq k) rfl (by omega))
      (vec2 (k0_off90_eq k) (by omega) rfl) (vec2 (k0_off91_eq k) (by omega) rfl))) $$ [HS]
  · isplitr <;> iassumption
  iintro HS
  iapply (step_wx I K c (l := 2) (a' := 8) (a := 16) (s := 16) (by omega) (by omega) (by omega) (by omega) (by omega) (by decide)
    (fun k _ h₁ h₂ => wx_trip I K c (by omega) h₁ h₂ (vec2 (k0_off92_eq k) rfl (by omega)))) $$ [HS]
  · isplitr <;> iassumption
  iintro HS
  iapply (ld_x I c (a := 8) (s := 16) 2048 (by omega) (by omega) (by omega)) $$ [HS]; · iexact HS
  iintro HS
  iapply (put_p I c (w := 1) (s := 16) 2048 rfl (by omega) ((pay40_eq _ _ _).trans (cut_PT I 2 c (g := 1) (by omega)).symm)) $$ [HS]; · iexact HS
  iintro HS
  iapply (step_rs I K c (l := 2) (a := 8) (s' := 8) (s := 16) (w := 1) (by omega) (by omega) (by omega) (by omega) (by omega) (by omega) (by decide)
    (fun k _ h₁ h₂ => rs_trip I K c (by omega) h₁ h₂ (to_peer c (k0_dev15_eq c k)) (vec2 (k0_off94_eq k) rfl (by omega)) (vec2 (k0_off95_eq k) rfl (by omega))
      (vec2 (k0_off96_eq k) (by omega) rfl) (vec2 (k0_off97_eq k) (by omega) rfl))) $$ [HS]
  · isplitr <;> iassumption
  iintro HS
  iapply (step_wx I K c (l := 2) (a' := 1) (a := 8) (s := 8) (by omega) (by omega) (by omega) (by omega) (by omega) (by decide)
    (fun k _ h₁ h₂ => wx_trip I K c (by omega) h₁ h₂ (vec2 (k0_off98_eq k) rfl (by omega)))) $$ [HS]
  · isplitr <;> iassumption
  iintro HS
  unfold WP
  rw [wp_ret]
  imodintro
  iapply Hk
  iexact HS

/-- The last partial sums go out; the sum starts, and the first group is added. -/
theorem part12 {Q : PUnit → sProp 𝕄} (v2 : BitVec 32) :
    iprop(Rec I K ∗ St I c 2 1 8 1 1 ∗ aany c)
      ⊢ iprop((St I c 2 1 1 0 16 ∗ apt c (Acc I 2 c 1) -∗ Q ⟨⟩) -∗ WP c (k0_part12_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c v2 (I.wi 2 c) (I.wo 2 c)) Q) := by
  iintro ⟨#HR, HS, HA⟩ Hk
  unfold k0_part12_skel
  simp only [Prog.lift, Prog.bind_op, Prog.bind_ret, Prog.pure_eq_ret]
  iapply (ld_x0 I c (s := 8) (by omega) (by omega)) $$ [HS]; · iexact HS
  iintro HS
  iapply (put_p I c (w := 0) (s := 8) 0 rfl (by omega) ((pay42_eq _ _ _).trans (cut_PT I 2 c (g := 0) (by omega)).symm)) $$ [HS]; · iexact HS
  iintro HS
  iapply (put_a c (pay43_eq _ _ _)) $$ [HA]; · iexact HA
  iintro HA
  iapply (step_rs I K c (l := 2) (a := 1) (s' := 1) (s := 8) (w := 0) (by omega) (by omega) (by omega) (by omega) (by omega) (by omega) (by decide)
    (fun k _ h₁ h₂ => rs_trip I K c (by omega) h₁ h₂ (to_peer c (k0_dev16_eq c k)) (vec2 (k0_off100_eq k) rfl (by omega)) (vec2 (k0_off101_eq k) rfl (by omega))
      (vec2 (k0_off102_eq k) (by omega) rfl) (vec2 (k0_off103_eq k) (by omega) rfl))) $$ [HS]
  · isplitr <;> iassumption
  iintro HS
  iapply (step_wp I K c (l := 2) (d := 1) (d' := 8) (by omega) (by omega) (by omega) (by omega) (by decide)
    (fun k _ h₁ h₂ => wp_trip I K c (by omega) h₁ h₂ (vec2 (k0_off104_eq k) rfl (by omega)))) $$ [HS]
  · isplitr <;> iassumption
  iintro HS
  iapply (add_r I c (d := 8) (Acc I 2 c 0) 1792 256 (by omega) (by omega) pay44_eq) $$ [HS HA]
  · isplitl [HS]; · iexact HS
    iexact HA
  iintro ⟨HS, HA⟩
  iapply (step_wp I K c (l := 2) (d := 8) (d' := 16) (by omega) (by omega) (by omega) (by omega) (by decide)
    (fun k _ h₁ h₂ => wp_trip I K c (by omega) h₁ h₂ (vec2 (k0_off106_eq k) rfl (by omega)))) $$ [HS]
  · isplitr <;> iassumption
  iintro HS
  unfold WP
  rw [wp_ret]
  imodintro
  iapply Hk
  isplitl [HS]; · iexact HS
  iexact HA

/-- The other groups are added. -/
theorem part13 {Q : FVec F S256x256 .f32 → sProp 𝕄} (v2 : BitVec 32) :
    iprop(Rec I K ∗ St I c 2 1 1 0 16 ∗ apt c (Acc I 2 c 1))
      ⊢ iprop((St I c 2 1 1 0 32 ∗ aany c -∗ Q (Acc I 2 c 4)) -∗ WP c (k0_part13_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v2) Q) := by
  iintro ⟨#HR, HS, HA⟩ Hk
  unfold k0_part13_skel
  simp only [Prog.lift, Prog.bind_op, Prog.bind_ret, Prog.pure_eq_ret]
  iapply (add_r I c (d := 16) (Acc I 2 c 1) 2048 2048 (by omega) (by omega) pay45_eq) $$ [HS HA]
  · isplitl [HS]; · iexact HS
    iexact HA
  iintro ⟨HS, HA⟩
  iapply (step_wp I K c (l := 2) (d := 16) (d' := 24) (by omega) (by omega) (by omega) (by omega) (by decide)
    (fun k _ h₁ h₂ => wp_trip I K c (by omega) h₁ h₂ (vec2 (k0_off108_eq k) rfl (by omega)))) $$ [HS]
  · isplitr <;> iassumption
  iintro HS
  iapply (add_r I c (d := 24) (Acc I 2 c 2) 2048 4096 (by omega) (by omega) pay46_eq) $$ [HS HA]
  · isplitl [HS]; · iexact HS
    iexact HA
  iintro ⟨HS, HA⟩
  iapply (step_wp I K c (l := 2) (d := 24) (d' := 32) (by omega) (by omega) (by omega) (by omega) (by decide)
    (fun k _ h₁ h₂ => wp_trip I K c (by omega) h₁ h₂ (vec2 (k0_off110_eq k) rfl (by omega)))) $$ [HS]
  · isplitr <;> iassumption
  iintro HS
  iapply (ld_a c (Acc I 2 c 3)) $$ [HA]; · iexact HA
  iintro HA
  iapply (ld_r I c (d := 32) 2048 6144 (by omega) (by omega)) $$ [HS]; · iexact HS
  iintro HS
  have e : k0_pay47 (Acc I 2 c 3) (cut 2048 6144 (RS I 2 c)) = Acc I 2 c 4 := pay47_eq _ _
  unfold WP
  rw [wp_ret, e]
  imodintro
  iapply Hk
  isplitl [HS]; · iexact HS
  unfold aany; iexists (Acc I 2 c 3); iexact HA

end Cert.MlpProof

end
-- ==== Proof.Body.lean ====
/-
# The kernel's body

The thirteen parts one after another, then the last sum's way into the result's staging buffer.
-/
module

public import proofs.«01_k».proof.Proof.Layer0
public import proofs.«01_k».proof.Proof.Layer1
public import proofs.«01_k».proof.Proof.Layer2

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

theorem wp_part {α β : Type} (p : Prog (TpuEff nD τ sig (Elt F) Λ₀ .tc) α) (k : α → Prog (TpuEff nD τ sig (Elt F) Λ₀ .tc) β) (Q : β → sProp 𝕄) :
    WP c (p >>= k) Q = WP c p fun a => WP c (k a) Q := by
  unfold WP; exact wp_bind ..

/-- The weights' staging buffers, and the block's. -/
def Staged : sProp 𝕄 :=
  iprop(held c cc0_stg0_0 (X I 0 c) ∗ held c cc0_stg1_0 (I.wi 0 c) ∗ held c cc0_stg2_0 (I.wo 0 c) ∗ held c cc0_stg3_0 (I.wi 1 c)
    ∗ held c cc0_stg4_0 (I.wo 1 c) ∗ held c cc0_stg5_0 (I.wi 2 c) ∗ held c cc0_stg6_0 (I.wo 2 c))

/-- What the body ends with. -/
def Done : sProp 𝕄 :=
  iprop(Bt c 3 ∗ atPos ER (bc c) 1 ∅ 0 ∗ Staged I c ∗ held c cc0_stg7_0 (Acc I 2 c 4) ∗ bpt c (X I 2 c) ∗ aany c ∗ xany c 0 256)

theorem body {Q : PUnit → sProp 𝕄} (b₀ : Vec F S256x256 .bf16) (o₀ : Vec F S256x256 .f32) :
    iprop(Rec I K ∗ Ini c ∗ Staged I c ∗ held c cc0_stg7_0 o₀ ∗ bpt c b₀ ∗ aany c)
      ⊢ iprop((Done I c -∗ Q ⟨⟩) -∗ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) Q) := by
  rw [cc0_body_eq_skeleton]
  unfold Staged
  iintro ⟨#HR, HI, ⟨H0, H1, H2, H3, H4, H5, H6⟩, H7, Hb, HA⟩ Hk
  unfold cc0_body_skel
  rw [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton]
  rw [wp_part]
  iapply (part1 I K c b₀) $$ [HI H0 H1 H2 Hb]
  · isplitr; · iexact HR
    isplitl [HI]; · iexact HI
    isplitl [H0]; · iexact H0
    isplitl [H1]; · iexact H1
    isplitl [H2] <;> iassumption
  iintro %v2 ⟨HS, Hat, H0, H1, H2⟩
  dsimp only
  rw [wp_part]
  iapply (part2 I K c v2) $$ [HS]
  · isplitr <;> iassumption
  iintro HS
  rw [wp_part]
  iapply (part3 I K c v2) $$ [HS HA]
  · isplitr; · iexact HR
    isplitl [HS] <;> iassumption
  iintro ⟨HS, HA⟩
  dsimp only
  rw [wp_part]
  iapply (part4 I K c v2 1#32 1#32) $$ [HS HA]
  · isplitr; · iexact HR
    isplitl [HS] <;> iassumption
  iintro ⟨HS, HA⟩
  rw [wp_part]
  iapply (part5 I K c v2) $$ [HS HA H3 H4]
  · isplitr; · iexact HR
    isplitl [HS]; · iexact HS
    isplitl [HA]; · iexact HA
    isplitl [H3] <;> iassumption
  iintro ⟨HB, Hb, Hx, HA, H3, H4⟩
  dsimp only
  rw [wp_part]
  iapply (part6 I K c v2) $$ [HB Hb Hx]
  · isplitr; · iexact HR
    isplitl [HB]; · iexact HB
    isplitl [Hb] <;> iassumption
  iintro HS
  rw [wp_part]
  iapply (part7 I K c v2) $$ [HS]
  · isplitr <;> iassumption
  iintro HS
  dsimp only
  rw [wp_part]
  iapply (part8 I K c v2) $$ [HS HA]
  · isplitr; · iexact HR
    isplitl [HS] <;> iassumption
  iintro ⟨HS, HA⟩
  rw [wp_part]
  iapply (part9 I K c v2) $$ [HS HA]
  · isplitr; · iexact HR
    isplitl [HS] <;> iassumption
  iintro ⟨HB, Hb, Hx, HA⟩
  rw [wp_part]
  iapply (part10 I K c v2) $$ [HB Hb Hx H5 H6]
  · isplitr; · iexact HR
    isplitl [HB]; · iexact HB
    isplitl [Hb]; · iexact Hb
    isplitl [Hx]; · iexact Hx
    isplitl [H5] <;> iassumption
  iintro ⟨HS, H5, H6⟩
  dsimp only
  rw [wp_part]
  iapply (part11 I K c v2) $$ [HS]
  · isplitr <;> iassumption
  iintro HS
  rw [wp_part]
  iapply (part12 I K c v2) $$ [HS HA]
  · isplitr; · iexact HR
    isplitl [HS] <;> iassumption
  iintro ⟨HS, HA⟩
  rw [wp_part]
  iapply (part13 I K c v2) $$ [HS HA]
  · isplitr; · iexact HR
    isplitl [HS] <;> iassumption
  iintro ⟨HS, HA⟩
  simp only [Prog.lift, Prog.bind_op, Prog.bind_ret, Prog.pure_eq_ret]
  iapply (put_a c (pay1_eq _)) $$ [HA]; · iexact HA
  iintro HA
  iapply (step_sw I K c (l := 2) (by omega) (by decide)
    (fun k _ h₁ h₂ => sw_trip I K c (by omega) h₁ h₂ (vec2 (k0_off112_eq k) rfl (by omega)) (vec2 (k0_off113_eq k) rfl (by omega)))) $$ [HS]
  · isplitr <;> iassumption
  iintro ⟨HB, Hb, Hx⟩
  iapply (ld_a c (Acc I 2 c 4)) $$ [HA]; · iexact HA
  iintro HA
  unfold held
  iapply (wp_ld c cc0_stg7_0.idx cc0_stg7_0.names hz o₀) $$ [H7]; · iexact H7
  iintro H7
  iapply (wp_st c cc0_stg7_0.idx cc0_stg7_0.names hz o₀ (Acc I 2 c 4)) $$ [H7]; · iexact H7
  iintro H7
  unfold WP
  rw [wp_ret]
  imodintro
  iapply Hk
  unfold Done Staged held
  isplitl [HB]; · iexact HB
  isplitl [Hat]; · iexact Hat
  isplitl [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  isplitl [H7]; · iexact H7
  isplitl [Hb]; · iexact Hb
  isplitl [HA]; · unfold aany; iexists (Acc I 2 c 4); iexact HA
  unfold xany; iexists (XF I 2 c); iexact Hx

end Cert.MlpProof

end
-- ==== Proof.Deal.lean ====
/-
# Dealing out the cells

The 256 transfer cells of a device by row and column; rights minted by a cell's owner brought to the device that pays;
and the credit each cell is launched with.
-/
module

public import proofs.«01_k».proof.Proof.Body
public import proofs.«01_k».proof.Proof.Gen.KernelIdeal.Launch

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F]

section Runs

theorem run_comm {J : Type} [DecidableEq J] (s : Finset J) (a b : ℕ) (Φ : J → ℕ → sProp 𝕄) :
    bigSep s (fun i => run a b (Φ i)) = run a b fun k => bigSep s fun i => Φ i k := by
  induction s using Finset.induction_on with
  | empty =>
    rw [bigSep_empty, run_congr (Ψ := fun _ => iprop(emp)) (fun _ _ _ => bigSep_empty), run_emp]; rfl
  | insert i s hi ih =>
    rw [bigSep_insert hi, ih]
    refine (run_sep a b (Φ i) fun k => bigSep s fun i => Φ i k).symm.trans ?_
    exact run_congr fun k _ _ => (bigSep_insert (Φ := fun i => Φ i k) hi).symm

theorem run_shift (k a b : ℕ) (Φ : ℕ → sProp 𝕄) : run (k + a) (k + b) Φ = run a b fun r => Φ (k + r) := by
  unfold run; rw [← Finset.map_add_left_Ico, bigSep_map]; rfl

theorem run_rows (n : ℕ) (Φ : ℕ → sProp 𝕄) :
    run 0 (32 * n) Φ = run 0 n fun a => iprop(Φ (32 * a) ∗ run 1 32 fun k => Φ (32 * a + k)) := by
  induction n with
  | zero => rw [Nat.mul_zero, run_nil, run_nil]
  | succ n ih =>
    rw [run_split (b := 32 * n) (by omega) (by omega), ih, run_split (a := 0) (b := n) (d := n + 1) (by omega) (by omega), run_one,
      show 32 * (n + 1) = 32 * n + 32 from rfl]
    congr 1
    rw [show run (32 * n) (32 * n + 32) Φ = run (32 * n + 0) (32 * n + 32) Φ from rfl, run_shift,
      run_split (a := 0) (b := 1) (d := 32) (by omega) (by omega), run_one]
    rfl

theorem run_pairs (n : ℕ) (Φ : ℕ → sProp 𝕄) : run 0 (2 * n) Φ = run 0 n fun l => iprop(Φ (2 * l) ∗ Φ (2 * l + 1)) := by
  induction n with
  | zero => rw [Nat.mul_zero, run_nil, run_nil]
  | succ n ih =>
    rw [run_split (b := 2 * n) (by omega) (by omega), ih, run_split (a := 0) (b := n) (d := n + 1) (by omega) (by omega), run_one,
      show 2 * (n + 1) = 2 * n + 1 + 1 from rfl, run_split (a := 2 * n) (b := 2 * n + 1) (by omega) (by omega), run_one, run_one]

/-- The 256 by row: the first column of all rows, the two rows of sends, and the rows of receives in pairs, a pair per layer. -/
theorem grid_eq (Φ : ℕ → sProp 𝕄) :
    run 0 256 Φ = iprop((run 0 8 fun a => Φ (32 * a)) ∗ ((run 1 32 fun k => Φ (32 * 0 + k)) ∗ run 1 32 fun k => Φ (32 * 1 + k))
      ∗ run 0 3 fun l => run 1 32 fun k => iprop(Φ (32 * (2 + 2 * l) + k) ∗ Φ (32 * (2 + (2 * l + 1)) + k))) := by
  rw [show 256 = 32 * 8 from rfl, run_rows, run_sep]
  congr 1
  rw [run_split (a := 0) (b := 1) (d := 8) (by omega) (by omega), run_one, run_split (a := 1) (b := 1 + 1) (d := 8) (by omega) (by omega), run_one,
    show run (1 + 1) 8 (fun a => run 1 32 fun k => Φ (32 * a + k)) = run (2 + 0) (2 + 2 * 3) (fun a => run 1 32 fun k => Φ (32 * a + k)) from rfl,
    run_shift, run_pairs]
  rw [run_congr (a := 0) (b := 3) fun l _ _ => (run_sep 1 32 (fun k => Φ (32 * (2 + 2 * l) + k)) (fun k => Φ (32 * (2 + (2 * l + 1)) + k))).symm]
  exact equiv_iff.mp ⟨BI.sep_assoc', BI.sep_assoc⟩

theorem fin_run (n : ℕ) (Φ : ℕ → sProp 𝕄) : bigSep Finset.univ (fun i : Fin n => Φ i.val) = run 0 n Φ := by
  unfold run; rw [← range_eq]; exact Ring.bigSep_fin_eq_range n _ Φ fun _ _ => rfl

theorem run_back (Φ : ℕ → sProp 𝕄) : run 1 32 (fun r => Φ (32 - r)) = run 1 32 Φ := by
  have h : Set.InjOn (fun r => 32 - r) (Finset.Ico 1 32 : Finset ℕ) := fun a ha b hb e => by
    have ha := Finset.mem_Ico.mp (Finset.mem_coe.mp ha); have hb := Finset.mem_Ico.mp (Finset.mem_coe.mp hb)
    have e : 32 - a = 32 - b := e
    omega
  unfold run
  rw [← bigSep_image_of_injOn h, show (Finset.Ico 1 32).image (fun r => 32 - r) = Finset.Ico 1 32 from by decide]

/-- Moving on by `r`, all the way round. -/
def onward (r : ℕ) (h : r ≤ 32) : Dev nD ≃ Dev nD where
  toFun c := peer c r
  invFun c := peer c (32 - r)
  left_inv c := peer_back c h
  right_inv c := by show peer (peer c (32 - r)) r = c; rw [peer_peer, show 32 - r + r = 32 by omega, peer_32]

/-- One `f` for each device and column, by owner or by the peer that pays it. -/
theorem around (f : Dev nD → ℕ → sProp 𝕄) :
    bigSep Finset.univ (fun c => run 1 32 (f c)) = bigSep Finset.univ fun c => run 1 32 fun r => f (peer c r) (32 - r) := by
  rw [run_comm, run_comm, ← run_back]
  exact run_congr fun r _ h => bigSep_univ_equiv (onward r (by omega)) fun c => f c (32 - r)

end Runs

/-! ## The cells told apart -/

theorem xc_inj {c c' : Dev nD} {n n' : ℕ} (hn : n < 256) (hn' : n' < 256) (h : xc c n = xc c' n') : c = c' ∧ n = n' := by
  refine ⟨congrArg (fun g : GSem nD τ sig => g.1.1) h, ?_⟩
  have e : SemLoc.dma (xsem n) = SemLoc.dma (xsem n') := congrArg Prod.snd h
  have e' := congrArg Fin.val (SemLoc.dma.inj e)
  rw [xsem_val hn, xsem_val hn'] at e'
  omega

theorem csem_injective : Function.Injective csem := by
  rintro (n | u) (n' | u') h
  · have e := congrArg Fin.val (SemLoc.dma.inj h)
    rw [xsem_val n.isLt, xsem_val n'.isLt] at e
    exact congrArg Sum.inl (Fin.ext (by omega))
  · exact absurd h (fun h => by cases h)
  · exact absurd h (fun h => by cases h)
  · rfl

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## The credit at launch -/

/-- What a device owes at launch. -/
def O₀ (c : Dev nD) : CellTallies nD τ sig Unit := debt c 0 + owB c 1 32

/-- The count at one cell. -/
def count (g : GSem nD τ sig) : CellTallies nD τ sig Unit →+ ℕ where
  toFun O := O g ()
  map_zero' := rfl
  map_add' _ _ := rfl

theorem count_tally (g g' : GSem nD τ sig) (n : ℕ) : count g (tallyAt g' () n) = if g = g' then n else 0 := by
  show tallyAt g' () n g () = _
  rw [tallyAt_apply]; exact if_congr (and_iff_left rfl) rfl rfl

theorem sum_back (f : ℕ → ℕ) : ∑ r ∈ Finset.Ico 1 32, f (32 - r) = ∑ r ∈ Finset.Ico 1 32, f r :=
  Finset.sum_nbij' (32 - ·) (32 - ·) (fun r h => by rw [Finset.mem_Ico] at h ⊢; omega) (fun r h => by rw [Finset.mem_Ico] at h ⊢; omega)
    (fun r h => by rw [Finset.mem_Ico] at h; omega) (fun r h => by rw [Finset.mem_Ico] at h; omega) (fun _ _ => rfl)

theorem sum_around (f : Dev nD → ℕ → ℕ) :
    ∑ d : Dev nD, ∑ r ∈ Finset.Ico 1 32, f (peer d r) (32 - r) = ∑ d : Dev nD, ∑ r ∈ Finset.Ico 1 32, f d r := by
  have h : ∀ r ∈ Finset.Ico 1 32, ∑ d : Dev nD, f (peer d r) (32 - r) = ∑ d : Dev nD, f d (32 - r) := fun r h =>
    Equiv.sum_comp (onward r (by have := (Finset.mem_Ico.mp h).2; omega)) fun d => f d (32 - r)
  rw [Finset.sum_comm, Finset.sum_comm (s := Finset.univ (α := Dev nD)) (t := Finset.Ico 1 32) (f := f), Finset.sum_congr rfl h]
  exact sum_back fun r => ∑ d : Dev nD, f d r

/-- All that is owed to one cell, by its owner. -/
theorem owed (g : GSem nD τ sig) :
    ∑ d : Dev nD, O₀ d g () = (∑ q ∈ Finset.Ico 0 6, ∑ d : Dev nD, ∑ r ∈ Finset.Ico 1 32, if g = rc d q r then N else 0)
      + ∑ d : Dev nD, ∑ r ∈ Finset.Ico 1 32, if g = bc d then 1 else 0 := by
  have e (d : Dev nD) : O₀ d g () = (∑ q ∈ Finset.Ico 0 6, ∑ r ∈ Finset.Ico 1 32, if g = rc (peer d r) q (32 - r) then N else 0)
      + ∑ r ∈ Finset.Ico 1 32, if g = bc (peer d r) then 1 else 0 := by
    show count g (O₀ d) = _
    unfold O₀ debt owB owP
    simp only [map_add, map_sum, count_tally]
  rw [Finset.sum_congr rfl fun d _ => e d, Finset.sum_add_distrib, Finset.sum_comm,
    Finset.sum_congr rfl fun q _ => sum_around fun d r => if g = rc d q r then N else 0, sum_around fun d r => if g = bc d then 1 else 0]

theorem launch_recv (c : Dev nD) {p k : ℕ} (hp : p < 6) (hk : 1 ≤ k) (hk' : k < 32) :
    tallyOn (rc c p k) (launchCredit (Pipeline.owing O₀) 0 (rc c p k)) = (tallyAt (rc c p k) () N : CellTallies nD τ sig Unit) := by
  unfold tallyAt; refine congrArg _ (Finsupp.ext fun u => ?_); cases u
  rw [Pipeline.launchCredit_owing, Finsupp.single_eq_same, owed]
  have hb : ∀ d : Dev nD, ∀ r ∈ Finset.Ico 1 32, (if rc c p k = bc d then 1 else 0) = 0 := fun d r _ =>
    if_neg fun h => absurd (congrArg Prod.snd h) fun h => by cases h
  have hx : ∀ q < 6, ∀ d : Dev nD, ∀ r, 1 ≤ r → r < 32 → rc c p k = rc d q r → q = p ∧ d = c ∧ r = k := fun q hq d r h1 h2 h => by
    have e := xc_inj (by omega) (by omega) h
    exact ⟨by omega, e.1.symm, by omega⟩
  rw [Finset.sum_eq_zero fun d _ => Finset.sum_eq_zero (hb d), Nat.add_zero,
    Finset.sum_eq_single p
      (fun q hq ne => Finset.sum_eq_zero fun d _ => Finset.sum_eq_zero fun r hr => if_neg fun h => ne (hx q (Finset.mem_Ico.mp hq).2 d r (Finset.mem_Ico.mp hr).1 (Finset.mem_Ico.mp hr).2 h).1)
      (fun h => absurd (Finset.mem_Ico.mpr ⟨Nat.zero_le p, hp⟩) h),
    Finset.sum_eq_single c
      (fun d _ ne => Finset.sum_eq_zero fun r hr => if_neg fun h => ne (hx p hp d r (Finset.mem_Ico.mp hr).1 (Finset.mem_Ico.mp hr).2 h).2.1)
      (fun h => absurd (Finset.mem_univ c) h),
    Finset.sum_eq_single k
      (fun r hr ne => if_neg fun h => ne (hx p hp c r (Finset.mem_Ico.mp hr).1 (Finset.mem_Ico.mp hr).2 h).2.2)
      (fun h => absurd (Finset.mem_Ico.mpr ⟨hk, hk'⟩) h), if_pos rfl]

theorem launch_bar (c : Dev nD) :
    tallyOn (bc c) (launchCredit (Pipeline.owing O₀) 0 (bc c)) = (tallyAt (bc c) () 31 : CellTallies nD τ sig Unit) := by
  unfold tallyAt; refine congrArg _ (Finsupp.ext fun u => ?_); cases u
  rw [Pipeline.launchCredit_owing, Finsupp.single_eq_same, owed]
  have hx : ∀ (q : ℕ) (d : Dev nD) (r : ℕ), (if bc c = rc d q r then N else 0) = 0 := fun q d r =>
    if_neg fun h => absurd (congrArg Prod.snd h) (fun h => by cases h)
  rw [Finset.sum_eq_zero (s := Finset.Ico 0 6) fun q _ => Finset.sum_eq_zero fun d _ => Finset.sum_eq_zero fun r _ => hx q d r, Nat.zero_add,
    Finset.sum_eq_single c
      (fun d _ ne => Finset.sum_eq_zero fun r _ => if_neg fun h => ne (congrArg (fun g : GSem nD τ sig => g.1.1) h).symm)
      (fun h => absurd (Finset.mem_univ c) h), Finset.sum_congr rfl fun r _ => if_pos rfl]
  decide

/-- The credit a device waits with: for what it receives, and at its barrier. -/
def creds (c : Dev nD) : sProp 𝕄 :=
  iprop((run 0 3 fun l => run 1 32 fun k => iprop(cred (tallyAt (rc c (2 * l) k) () N) ∗ cred (tallyAt (rc c (2 * l + 1) k) () N)))
    ∗ cred (tallyAt (bc c) () 31))

theorem creds_intro (c : Dev nD) : (Pipeline.launchCred O₀ c : sProp 𝕄) ⊢ creds c := by
  unfold Pipeline.launchCred creds
  refine (bigSep_subset (Finset.subset_univ (Finset.univ.map ⟨csem, csem_injective⟩))).trans ?_
  rw [bigSep_map, bigSep_univ_sum, bigSep_univ_of_subsingleton ()]
  have e := fin_run (F := F) 256 fun n => cred (tallyOn (xc c n) (launchCredit (Pipeline.owing O₀) 0 (xc c n)))
  rw [grid_eq] at e
  refine (BIClass.sep_mono (Entails.of_eq e) (Entails.of_eq (congrArg cred (launch_bar c)))).trans ?_
  iintro ⟨⟨-, -, H⟩, Hb⟩
  isplitl [H]
  · iapply (run_mono fun l _ hl => run_mono fun k h1 h2 => BIClass.sep_mono
      (Entails.of_eq (congrArg cred (launch_recv c (p := 2 * l) (by omega) h1 h2)))
      (Entails.of_eq (congrArg cred (launch_recv c (p := 2 * l + 1) (by omega) h1 h2))))
    iexact H
  · iexact Hb

/-! ## The rights to pay -/

/-- The rights for a device's own cells, as minted: of its barrier's one round 31, of each transfer cell one a round. -/
abbrev tokOf (cj : Dev nD × (Fin 31 ⊕ Fin 256 × Fin 3)) : GSem nD τ sig × ℕ × ℕ := match cj.2 with
  | .inl d => (bc cj.1, 0, d.val + 1)
  | .inr q => (xc cj.1 q.1.val, q.2.val, 0)

theorem tokOf_injective : Function.Injective tokOf := by
  rintro ⟨c, d | q⟩ ⟨c', d' | q'⟩ h
  · have h1 : c = c' := congrArg (fun x : GSem nD τ sig × ℕ × ℕ => x.1.1.1) h
    have h2 : d.val + 1 = d'.val + 1 := congrArg (fun x : GSem nD τ sig × ℕ × ℕ => x.2.2) h
    rw [h1, show d = d' from Fin.ext (by omega)]
  · exact absurd (congrArg (fun x : GSem nD τ sig × ℕ × ℕ => x.1.2) h) fun h => by cases h
  · exact absurd (congrArg (fun x : GSem nD τ sig × ℕ × ℕ => x.1.2) h) fun h => by cases h
  · have h1 := xc_inj q.1.isLt q'.1.isLt (congrArg (fun x : GSem nD τ sig × ℕ × ℕ => x.1) h)
    have h2 : q.2.val = q'.2.val := congrArg (fun x : GSem nD τ sig × ℕ × ℕ => x.2.1) h
    exact Prod.ext h1.1 (congrArg Sum.inr (Prod.ext (Fin.ext h1.2) (Fin.ext h2)))

/-- The rights by the cells' owner. -/
def ownToks (c : Dev nD) : sProp 𝕄 :=
  iprop((run 0 3 fun l => run 1 32 fun k => dutyTok ER (sc c 0 k) l 0) ∗ (run 0 3 fun l => run 1 32 fun k => dutyTok ER (sc c 1 k) l 0)
    ∗ (run 0 3 fun l => run 1 32 fun k => iprop(dutyTok ER (rc c (2 * l) k) 0 0 ∗ dutyTok ER (rc c (2 * l + 1) k) 0 0))
    ∗ run 1 32 fun k => dutyTok ER (bc c) 0 k)
/-- The rights by the device that pays. -/
def payToks (c : Dev nD) : sProp 𝕄 :=
  iprop((run 0 3 fun l => run 1 32 fun k => dutyTok ER (sc c 0 k) l 0) ∗ (run 0 3 fun l => run 1 32 fun k => dutyTok ER (sc c 1 k) l 0)
    ∗ (run 0 3 fun l => run 1 32 fun k => iprop(dutyTok ER (rc (peer c k) (2 * l) (32 - k)) 0 0 ∗ dutyTok ER (rc (peer c k) (2 * l + 1) (32 - k)) 0 0))
    ∗ run 1 32 fun k => dutyTok ER (bc (peer c k)) 0 (32 - k))

theorem minted (c : Dev nD) : bigSep Finset.univ (fun j => (dutyTok ER (tokOf (c, j)).1 (tokOf (c, j)).2.1 (tokOf (c, j)).2.2 : sProp 𝕄)) ⊢ ownToks c := by
  rw [bigSep_univ_sum, bigSep_univ_prod]
  have e : bigSep Finset.univ (fun d : Fin 31 => (dutyTok ER (bc c) 0 (d.val + 1) : sProp 𝕄)) = run 1 32 fun k => dutyTok ER (bc c) 0 k := by
    rw [fin_run 31 fun d => dutyTok ER (bc c) 0 (d + 1)]
    rw [show run 1 32 (fun k => (dutyTok ER (bc c) 0 k : sProp 𝕄)) = run (1 + 0) (1 + 31) fun k => dutyTok ER (bc c) 0 k from rfl, run_shift]
    exact run_congr fun d _ _ => by rw [Nat.add_comm d 1]
  have e' : bigSep Finset.univ (fun n : Fin 256 => bigSep Finset.univ fun l : Fin 3 => (dutyTok ER (xc c n.val) l.val 0 : sProp 𝕄))
      = run 0 256 fun n => run 0 3 fun l => dutyTok ER (xc c n) l 0 := by
    rw [fin_run 256 fun n => bigSep Finset.univ fun l : Fin 3 => (dutyTok ER (xc c n) l.val 0 : sProp 𝕄)]
    exact run_congr fun n _ _ => fin_run 3 fun l => dutyTok ER (xc c n) l 0
  rw [grid_eq] at e'
  refine (BIClass.sep_mono (Entails.of_eq e) (Entails.of_eq e')).trans ?_
  have first (Φ : ℕ → sProp 𝕄) : run 0 3 Φ ⊢ Φ 0 := big_get (Finset.mem_Ico.mpr ⟨le_rfl, by omega⟩)
  unfold ownToks
  iintro ⟨Hb, -, ⟨H0, H1⟩, Hr⟩
  isplitl [H0]; · iapply (Entails.of_eq (run_comm (Finset.Ico 1 32) 0 3 fun k l => (dutyTok ER (sc c 0 k) l 0 : sProp 𝕄))); iexact H0
  isplitl [H1]; · iapply (Entails.of_eq (run_comm (Finset.Ico 1 32) 0 3 fun k l => (dutyTok ER (sc c 1 k) l 0 : sProp 𝕄))); iexact H1
  isplitl [Hr]
  · iapply (run_mono (a := 0) (b := 3) fun l _ _ => run_mono (a := 1) (b := 32) fun k _ _ => BIClass.sep_mono
      (first fun i => dutyTok ER (rc c (2 * l) k) i 0) (first fun i => dutyTok ER (rc c (2 * l + 1) k) i 0))
    iexact Hr
  · iexact Hb

theorem toks_around : (bigSep Finset.univ fun c : Dev nD => (ownToks c : sProp 𝕄)) ⊢ bigSep Finset.univ fun c : Dev nD => payToks c := by
  unfold ownToks payToks
  simp only [bigSep_sep']
  have hB := around (F := F) fun c k => dutyTok ER (bc c) 0 k
  have hR : (bigSep Finset.univ fun c : Dev nD => run 0 3 fun l => run 1 32 fun k => iprop(dutyTok ER (rc c (2 * l) k) 0 0 ∗ dutyTok ER (rc c (2 * l + 1) k) 0 0))
      = (bigSep Finset.univ fun c : Dev nD => run 0 3 fun l => run 1 32 fun k =>
          iprop(dutyTok ER (rc (peer c k) (2 * l) (32 - k)) 0 0 ∗ dutyTok ER (rc (peer c k) (2 * l + 1) (32 - k)) 0 0) : sProp 𝕄) := by
    rw [run_comm, run_comm]
    exact run_congr fun l _ _ => around fun c k => iprop(dutyTok ER (rc c (2 * l) k) 0 0 ∗ dutyTok ER (rc c (2 * l + 1) k) 0 0)
  simp only [bigSep_sep'] at hR
  iintro ⟨H0, H1, HR, HB⟩
  isplitl [H0]; · iexact H0
  isplitl [H1]; · iexact H1
  isplitl [HR]
  · iapply (Entails.of_eq hR); iexact HR
  iapply (Entails.of_eq hB); iexact HB

end Cert.MlpProof

end
-- ==== Proof.Close.lean ====
/-
# Opening and closing

From what the launch deals a device to where its body starts; and from where the body ends to all its semaphores at zero.
-/
module

public import proofs.«01_k».proof.Proof.Deal

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

section Open
omit [FloatOps F]

/-- The transfer cells in column 0, which nobody uses. -/
def idle : sProp 𝕄 := run 0 8 fun a => atPos ER (xc c (32 * a)) 0 ∅ 0
/-- Where a device's cells start. -/
def posits : sProp 𝕄 := iprop((run 0 256 fun n => atPos ER (xc c n) 0 ∅ 0) ∗ atPos ER (bc c) 0 ∅ 0)

theorem zip {Φ Ψ : ℕ → ℕ → sProp 𝕄} :
    iprop((run 0 3 fun l => run 1 32 (Φ l)) ∗ run 0 3 fun l => run 1 32 (Ψ l)) = run 0 3 fun l => run 1 32 fun k => iprop(Φ l k ∗ Ψ l k) := by
  rw [← run_sep]; exact run_congr fun l _ _ => (run_sep 1 32 (Φ l) (Ψ l)).symm

/-- The positions, the rights and the credit make the kits of the three layers and the rest a body starts from. -/
theorem kits : iprop(posits (F := F) c ∗ payToks c ∗ creds c)
    ⊢ iprop(run 0 3 (Kit c) ∗ run 1 32 (tkB c) ∗ (cred (tallyAt (bc c) () 31) ∗ atPos ER (bc c) 0 ∅ 0)
      ∗ (run 1 32 (sp c 0 0) ∗ run 1 32 (sp c 1 0)) ∗ idle c) := by
  unfold posits payToks creds idle
  rw [grid_eq]
  iintro ⟨⟨⟨Hi, ⟨Hs0, Hs1⟩, Hr⟩, Hb⟩, ⟨Ht0, Ht1, Htr, Htb⟩, ⟨Hc, Hcb⟩⟩
  isplitl [Hr Ht0 Ht1 Htr Hc]
  · ihave H := (Entails.of_eq zip) $$ [Ht0 Ht1]
    · isplitl [Ht0]; · iexact Ht0
      iexact Ht1
    ihave H := (Entails.of_eq zip) $$ [H Htr]
    · isplitl [H]; · iexact H
      iexact Htr
    ihave H := (Entails.of_eq zip) $$ [H Hc]
    · isplitl [H]; · iexact H
      iexact Hc
    ihave H := (Entails.of_eq zip) $$ [H Hr]
    · isplitl [H]; · iexact H
      iexact Hr
    unfold Kit tkA tkR wt
    iapply (run_mono (a := 0) (b := 3) fun l _ _ => run_mono (a := 1) (b := 32) fun k _ _ => (by
      iintro ⟨⟨⟨⟨H1, H2⟩, ⟨H3, H4⟩⟩, ⟨H5, H6⟩⟩, ⟨H7, H8⟩⟩
      isplitl [H1 H3]
      · isplitl [H1]; · iexact H1
        iexact H3
      isplitl [H2 H4]
      · isplitl [H2]; · iexact H2
        iexact H4
      isplitl [H5 H7]
      · isplitl [H5]; · iexact H5
        iexact H7
      · isplitl [H6]; · iexact H6
        iexact H8 :
      iprop((((dutyTok ER (sc c 0 k) l 0 ∗ dutyTok ER (sc c 1 k) l 0)
          ∗ (dutyTok ER (rc (peer c k) (2 * l) (32 - k)) 0 0 ∗ dutyTok ER (rc (peer c k) (2 * l + 1) (32 - k)) 0 0))
          ∗ (cred (tallyAt (rc c (2 * l) k) () N) ∗ cred (tallyAt (rc c (2 * l + 1) k) () N)))
          ∗ (atPos ER (rc c (2 * l) k) 0 ∅ 0 ∗ atPos ER (rc c (2 * l + 1) k) 0 ∅ 0))
        ⊢ iprop((dutyTok ER (sc c 0 k) l 0 ∗ dutyTok ER (rc (peer c k) (2 * l) (32 - k)) 0 0)
          ∗ (dutyTok ER (sc c 1 k) l 0 ∗ dutyTok ER (rc (peer c k) (2 * l + 1) (32 - k)) 0 0)
          ∗ (cred (tallyAt (rc c (2 * l) k) () N) ∗ atPos ER (rc c (2 * l) k) 0 ∅ 0)
          ∗ (cred (tallyAt (rc c (2 * l + 1) k) () N) ∗ atPos ER (rc c (2 * l + 1) k) 0 ∅ 0))))
    iexact H
  isplitl [Htb]; · iexact Htb
  isplitl [Hcb Hb]
  · isplitl [Hcb]; · iexact Hcb
    iexact Hb
  isplitl [Hs0 Hs1]
  · isplitl [Hs0]; · iexact Hs0
    iexact Hs1
  iexact Hi

end Open

/-- That every send cell has reached round 0. -/
theorem Rec_re (a : ℕ) : Rec I K ⊢ run 1 32 (re c a 0) := by
  have h : iprop(Rec I K ∗ run 1 32 fun _ => iprop(emp)) ⊢ run 1 32 (re c a 0) := bigSep_with_persistent fun r _ => by
    unfold re
    iintro ⟨H, -⟩
    icases (Rec_x I K c (32 * a + r)) $$ H with ⟨-, H⟩
    iexact H
  rw [run_emp] at h
  iintro #H
  iapply h
  isplitr; · iexact H
  iempintro

/-- A transfer cell that will not be paid again is closed. -/
theorem close_x {n R : ℕ} (hn : n < 256) (h : ∀ r ≥ R, ¬ Paid n r) : iprop(Rec I K ∗ atPos ER (xc c n) R ∅ 0) ⊢ |={Set.univ}=> semVal (xc c n) 0 := by
  iintro ⟨#HR, Hat⟩
  icases (Rec_x I K c n) $$ HR with ⟨HI, -⟩
  imod (Rounds.cell_close ER (Rd I) (Set.mem_univ (kx K c n)) (fun h => h) (R := R) fun r hr => duties_x_none I c hn (h r hr)) $$ [HI Hat] with Hz
  · isplitl [HI]; · iexact HI
    iexact Hat
  imodintro; iexact Hz

theorem close_b : iprop(Rec I K ∗ atPos ER (bc c) 1 ∅ 0) ⊢ |={Set.univ}=> semVal (bc c) 0 := by
  iintro ⟨#HR, Hat⟩
  icases (Rec_b I K c) $$ HR with ⟨HI, -⟩
  imod (Rounds.cell_close ER (Rd I) (Set.mem_univ (K (c, .inr ()))) (fun h => h) (R := 1) (duties_bar_later I c)) $$ [HI Hat] with Hz
  · isplitl [HI]; · iexact HI
    iexact Hat
  imodintro; iexact Hz

theorem close_run {a b : ℕ} {Φ Ψ : ℕ → sProp 𝕄} (h : ∀ r, a ≤ r → r < b → iprop(Rec I K ∗ Φ r) ⊢ |={Set.univ}=> Ψ r) :
    iprop(Rec I K ∗ run a b Φ) ⊢ |={Set.univ}=> run a b Ψ :=
  (bigSep_with_persistent fun r hr => h r (Finset.mem_Ico.mp hr).1 (Finset.mem_Ico.mp hr).2).trans (bigSep_fupd _ _)

/-- The three layers over, every cell is closed. -/
theorem close_all : iprop(Rec I K ∗ run 0 3 (Past c) ∗ (run 1 32 (sp c 0 3) ∗ run 1 32 (sp c 1 3)) ∗ idle c ∗ atPos ER (bc c) 1 ∅ 0)
    ⊢ |={Set.univ}=> iprop((run 0 256 fun n => semVal (xc c n) 0) ∗ semVal (bc c) 0) := by
  rw [grid_eq]
  unfold idle
  iintro ⟨#HR, HP, ⟨H0, H1⟩, Hi, Hb⟩
  imod (close_b I K c) $$ [Hb] with Hb
  · isplitr <;> iassumption
  imod (close_run I K (a := 0) (b := 8) (Φ := fun a => atPos ER (xc c (32 * a)) 0 ∅ 0) (Ψ := fun a => semVal (xc c (32 * a)) 0)
    fun a _ ha => close_x I K c (by omega) fun r _ h => h.1 (by omega)) $$ [Hi] with Hi
  · isplitr <;> iassumption
  imod (close_run I K (a := 1) (b := 32) (Φ := sp c 0 3) (Ψ := fun k => semVal (xc c (32 * 0 + k)) 0)
    fun k _ hk => close_x I K c (by omega) fun r hr h => by have := h.2; rw [if_pos (by omega)] at this; omega) $$ [H0] with H0
  · isplitr <;> iassumption
  imod (close_run I K (a := 1) (b := 32) (Φ := sp c 1 3) (Ψ := fun k => semVal (xc c (32 * 1 + k)) 0)
    fun k _ hk => close_x I K c (by omega) fun r hr h => by have := h.2; rw [if_pos (by omega)] at this; omega) $$ [H1] with H1
  · isplitr <;> iassumption
  imod (close_run I K (a := 0) (b := 3) (Φ := Past c)
    (Ψ := fun l => run 1 32 fun k => iprop(semVal (xc c (32 * (2 + 2 * l) + k)) 0 ∗ semVal (xc c (32 * (2 + (2 * l + 1)) + k)) 0))
    fun l _ hl => close_run I K fun k _ hk => by
      unfold dn
      iintro ⟨#HR, H, H'⟩
      imod (close_x I K c (n := 32 * (2 + 2 * l) + k) (R := 1) (by omega)
        fun r hr h => by have := h.2; rw [if_neg (by omega)] at this; omega) $$ [H] with H
      · isplitr <;> iassumption
      imod (close_x I K c (n := 32 * (2 + (2 * l + 1)) + k) (R := 1) (by omega)
        fun r hr h => by have := h.2; rw [if_neg (by omega)] at this; omega) $$ [H'] with H'
      · isplitr <;> iassumption
      imodintro
      isplitl [H] <;> iassumption) $$ [HP] with HP
  · isplitr <;> iassumption
  imodintro
  isplitr [Hb]
  · isplitl [Hi]; · iexact Hi
    isplitl [H0 H1]
    · isplitl [H0] <;> iassumption
    iexact HP
  iexact Hb

end Cert.MlpProof

end
-- ==== Proof.Launch.lean ====
/-
# The launch

The kernel started on all 32 devices at once: its semaphores' records made for all of them together, each device's body run
from what it is dealt, and the arrays every device ends with.
-/
module

public import proofs.«01_k».proof.Proof.Close
public import proofs.«01_k».proof.Proof.Gen.KernelIdeal.Points

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: any memory, every counter zero. -/
def s₀ : MemSt nD τ sig (Elt F) := ⟨m, fun _ => 0, ρ⟩

/-- The devices' blocks of the seven arguments. -/
def ins : Ins F where
  x c := m ((c : Thread nD τ).loc main_arg0)
  wi l c := match l with
    | 0 => m ((c : Thread nD τ).loc main_arg1)
    | 1 => m ((c : Thread nD τ).loc main_arg2)
    | _ => m ((c : Thread nD τ).loc main_arg3)
  wo l c := match l with
    | 0 => m ((c : Thread nD τ).loc main_arg4)
    | 1 => m ((c : Thread nD τ).loc main_arg5)
    | _ => m ((c : Thread nD τ).loc main_arg6)

/-! ## What a device's body starts from and ends with -/

/-- What the launch deals a device. -/
def start (c : Dev nD) : sProp 𝕄 := iprop((∃ K, Rec (ins m) K) ∗ posits c ∗ payToks c ∗ creds c)

/-- The five scratch buffers, at some contents. -/
def scr (c : Dev nD) : sProp 𝕄 :=
  iprop(xany c 0 8192 ∗ pany c 0 8192 ∗ rany c 0 8192 ∗ (∃ f : Vec F S256x256 .bf16, bpt c f) ∗ aany c)

def Φ₀ (c : Dev nD) : sProp 𝕄 := iprop(start m c ∗ scr c)
def Φ₁ (c : Dev nD) : sProp 𝕄 := iprop(((run 0 256 fun n => semVal (xc c n) 0) ∗ semVal (bc c) 0) ∗ scr c)

omit [FloatOps F] in
theorem scr_eq (c : Dev nD) : (Pipeline.scopedRest (Ix := Unit) (Name := ℕ) (U := UU) (Lvl := ℕ) (Val := Elt F) cfg0.spec c : sProp 𝕄) = scr c := by
  rw [show cfg0.spec = spec0 from rfl, scopedRest0_eq]
  unfold scr xany pany rany aany xpt ppt rpt bpt apt
  rw [rows_all]; rfl

/-- Each window's contents after the body: the arguments' blocks as they were, the result's the last layer's sum. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X (ins m) 0 c
    | ⟨1, _⟩ => (ins m).wi 0 c
    | ⟨2, _⟩ => (ins m).wo 0 c
    | ⟨3, _⟩ => (ins m).wi 1 c
    | ⟨4, _⟩ => (ins m).wo 1 c
    | ⟨5, _⟩ => (ins m).wi 2 c
    | ⟨6, _⟩ => (ins m).wo 2 c
    | ⟨7, _⟩ => Acc (ins m) 2 c 4
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The arguments' blocks are the whole arguments -/

section Before
variable (c : Dev nD)

theorem before0 (d) : (dats m ρ 0 c).before (0 : Fin 8) t₀ d = X (ins m) 0 c := by
  unfold Dat.before; rw [if_pos (fetch0_0 t₀)]
  have hz : (fun a => win0_0.index (0 : Fin 1) a * main_arg0.ty.shape.size a) = fun _ => 0 := funext fun a => by fin_cases a <;> decide
  exact Memref.read_access_unit_zero (Elt F) main_arg0 hz (fun a => by fin_cases a <;> decide) _
theorem before1 (d) : (dats m ρ 0 c).before (1 : Fin 8) t₀ d = (ins m).wi 0 c := by
  unfold Dat.before; rw [if_pos (fetch0_1 t₀)]
  have hz : (fun a => win0_1.index (0 : Fin 1) a * main_arg1.ty.shape.size a) = fun _ => 0 := funext fun a => by fin_cases a <;> decide
  exact Memref.read_access_unit_zero (Elt F) main_arg1 hz (fun a => by fin_cases a <;> decide) _
theorem before2 (d) : (dats m ρ 0 c).before (2 : Fin 8) t₀ d = (ins m).wo 0 c := by
  unfold Dat.before; rw [if_pos (fetch0_2 t₀)]
  have hz : (fun a => win0_2.index (0 : Fin 1) a * main_arg4.ty.shape.size a) = fun _ => 0 := funext fun a => by fin_cases a <;> decide
  exact Memref.read_access_unit_zero (Elt F) main_arg4 hz (fun a => by fin_cases a <;> decide) _
theorem before3 (d) : (dats m ρ 0 c).before (3 : Fin 8) t₀ d = (ins m).wi 1 c := by
  unfold Dat.before; rw [if_pos (fetch0_3 t₀)]
  have hz : (fun a => win0_3.index (0 : Fin 1) a * main_arg2.ty.shape.size a) = fun _ => 0 := funext fun a => by fin_cases a <;> decide
  exact Memref.read_access_unit_zero (Elt F) main_arg2 hz (fun a => by fin_cases a <;> decide) _
theorem before4 (d) : (dats m ρ 0 c).before (4 : Fin 8) t₀ d = (ins m).wo 1 c := by
  unfold Dat.before; rw [if_pos (fetch0_4 t₀)]
  have hz : (fun a => win0_4.index (0 : Fin 1) a * main_arg5.ty.shape.size a) = fun _ => 0 := funext fun a => by fin_cases a <;> decide
  exact Memref.read_access_unit_zero (Elt F) main_arg5 hz (fun a => by fin_cases a <;> decide) _
theorem before5 (d) : (dats m ρ 0 c).before (5 : Fin 8) t₀ d = (ins m).wi 2 c := by
  unfold Dat.before; rw [if_pos (fetch0_5 t₀)]
  have hz : (fun a => win0_5.index (0 : Fin 1) a * main_arg3.ty.shape.size a) = fun _ => 0 := funext fun a => by fin_cases a <;> decide
  exact Memref.read_access_unit_zero (Elt F) main_arg3 hz (fun a => by fin_cases a <;> decide) _
theorem before6 (d) : (dats m ρ 0 c).before (6 : Fin 8) t₀ d = (ins m).wo 2 c := by
  unfold Dat.before; rw [if_pos (fetch0_6 t₀)]
  have hz : (fun a => win0_6.index (0 : Fin 1) a * main_arg6.ty.shape.size a) = fun _ => 0 := funext fun a => by fin_cases a <;> decide
  exact Memref.read_access_unit_zero (Elt F) main_arg6 hz (fun a => by fin_cases a <;> decide) _

end Before

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄) = held c b Y := by
  unfold owns held; simp only [Memref.view_whole, View.read_whole, View.set_whole]
  have h₁ : iprop(∃ f : Buf (Elt F) ((c : Thread nD τ).loc b), ⌜f = Y⌝ ∗ ((c : Thread nD τ).loc b ↦{fullShare} f)) ⊢ ((c : Thread nD τ).loc b ↦{fullShare} Y : sProp 𝕄) := by
    iintro ⟨%f, %h, H⟩; subst h; iexact H
  have h₂ : ((c : Thread nD τ).loc b ↦{fullShare} Y : sProp 𝕄) ⊢ iprop(∃ f : Buf (Elt F) ((c : Thread nD τ).loc b), ⌜f = Y⌝ ∗ ((c : Thread nD τ).loc b ↦{fullShare} f)) := by
    iintro H; iexists Y; isplitr; · (ipureintro; rfl)
    iexact H
  exact BI.Entails.antisymm h₁ h₂

/-! ## The body -/

/-- What the body must leave: the exit's state, nothing owed, and the staging buffers. -/
def leave (c : Dev nD) : sProp 𝕄 :=
  iprop(Φ₁ c ∗ Owes c 0 ∗ Staged (ins m) c ∗ held c cc0_stg7_0 (Acc (ins m) 2 c 4))

theorem close_body (K : Dev nD × CK → ℕ) (c : Dev nD) : iprop(Rec (ins m) K ∗ idle c ∗ Done (ins m) c) ⊢ |={Set.univ}=> leave m c := by
  unfold Done Bt leave Φ₁ scr
  rw [if_neg (Nat.lt_irrefl 3), show 2 * 3 = 6 from rfl, debt_end]
  iintro ⟨#HR, Hi, ⟨⟨-, HP⟩, HO, ⟨H0, H1, -, -⟩, Hp, Hr, Hx⟩, Hat, HS, Ho, Hb, HA, Hx'⟩
  imod (close_all (ins m) K c) $$ [Hi HP H0 H1 Hat] with Hz
  · isplitr; · iexact HR
    isplitl [HP]; · iexact HP
    isplitl [H0 H1]; · isplitl [H0] <;> iassumption
    isplitl [Hi] <;> iassumption
  imodintro
  isplitl [Hz Hp Hr Hx Hx' Hb HA]
  · isplitl [Hz]; · iexact Hz
    isplitl [Hx Hx']
    · iapply (xany_join c (a := 0) (b := 256) (d := 8192) (by omega) (by omega))
      isplitl [Hx'] <;> iassumption
    isplitl [Hp]; · iexact Hp
    isplitl [Hr]; · iexact Hr
    isplitl [Hb]; · iexists _; iexact Hb
    iexact HA
  isplitl [HO]; · iexact HO
  isplitl [HS] <;> iassumption

/-- From what the launch deals a device the body reaches what it must leave. -/
theorem sound_body (c : Dev nD) (o₀ : Vec F S256x256 .f32) :
    iprop(Φ₀ m c ∗ Owes c (O₀ c) ∗ Staged (ins m) c ∗ held c cc0_stg7_0 o₀)
      ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) fun _ => leave m c := by
  refine BIBase.Entails.trans ?_ (wp_fupd _ _ _ _ _)
  unfold Φ₀ start scr
  iintro ⟨⟨⟨⟨%K, #HR⟩, Hpos, Htok, Hcr⟩, Hx, Hp, Hr, ⟨%b₀, Hb⟩, HA⟩, HO, HS, Ho⟩
  ihave H := (kits c) $$ [Hpos Htok Hcr]
  · isplitl [Hpos]; · iexact Hpos
    isplitl [Htok] <;> iassumption
  icases H with ⟨Hk, Ht, Hc, ⟨H0, H1⟩, Hi⟩
  ihave Hr0 := (Rec_re (ins m) K c 0) $$ HR
  ihave Hr1 := (Rec_re (ins m) K c 1) $$ HR
  iapply (body (ins m) K c b₀ o₀) $$ [Hk Ht Hc H0 H1 Hr0 Hr1 Hx Hp Hr Hb HA HO HS Ho]
  · isplitr; · iexact HR
    isplitl [Hk Ht Hc H0 H1 Hr0 Hr1 Hx Hp Hr HO]
    · unfold Ini
      isplitl [Hk]; · iexact Hk
      isplitl [HO]; · unfold O₀; iexact HO
      isplitl [Ht]; · iexact Ht
      isplitl [Hc]; · iexact Hc
      isplitl [H0 H1 Hr0 Hr1]
      · isplitl [H0]; · iexact H0
        isplitl [H1]; · iexact H1
        isplitl [Hr0] <;> iassumption
      isplitl [Hp]; · iexact Hp
      isplitl [Hr] <;> iassumption
    isplitl [HS]; · iexact HS
    isplitl [Ho]; · iexact Ho
    isplitl [Hb] <;> iassumption
  iintro HD
  iapply (close_body m K c)
  isplitr; · iexact HR
  isplitl [Hi] <;> iassumption

/-- What the library starts a body from, window by window. -/
def bodyPre (c : Dev nD) : sProp 𝕄 :=
  iprop(Φ₀ m c ∗ (dats m ρ 0 c).owesAt () t₀.castSucc
    ∗ (∃ d, held c cc0_stg0_0 ((dats m ρ 0 c).before (0 : Fin 8) t₀ d)) ∗ (∃ d, held c cc0_stg1_0 ((dats m ρ 0 c).before (1 : Fin 8) t₀ d))
    ∗ (∃ d, held c cc0_stg2_0 ((dats m ρ 0 c).before (2 : Fin 8) t₀ d)) ∗ (∃ d, held c cc0_stg3_0 ((dats m ρ 0 c).before (3 : Fin 8) t₀ d))
    ∗ (∃ d, held c cc0_stg4_0 ((dats m ρ 0 c).before (4 : Fin 8) t₀ d)) ∗ (∃ d, held c cc0_stg5_0 ((dats m ρ 0 c).before (5 : Fin 8) t₀ d))
    ∗ (∃ d, held c cc0_stg6_0 ((dats m ρ 0 c).before (6 : Fin 8) t₀ d)) ∗ (∃ d, held c cc0_stg7_0 ((dats m ρ 0 c).before (7 : Fin 8) t₀ d)))
/-- What it takes back. -/
def bodyPost (c : Dev nD) : sProp 𝕄 :=
  iprop(Φ₁ c ∗ (dats m ρ 0 c).owesAt () t₀.succ ∗ held c cc0_stg0_0 (X (ins m) 0 c) ∗ held c cc0_stg1_0 ((ins m).wi 0 c) ∗ held c cc0_stg2_0 ((ins m).wo 0 c)
    ∗ held c cc0_stg3_0 ((ins m).wi 1 c) ∗ held c cc0_stg4_0 ((ins m).wo 1 c) ∗ held c cc0_stg5_0 ((ins m).wi 2 c) ∗ held c cc0_stg6_0 ((ins m).wo 2 c)
    ∗ held c cc0_stg7_0 (Acc (ins m) 2 c 4))

theorem pre_start (c : Dev nD) : bodyPre m ρ c ⊢ iprop(∃ o₀ : Vec F S256x256 .f32, Φ₀ m c ∗ Owes c (O₀ c) ∗ Staged (ins m) c ∗ held c cc0_stg7_0 o₀) := by
  unfold bodyPre Staged Owes Dat.owesAt Pipeline.owesWithin
  simp only [before0, before1, before2, before3, before4, before5, before6]
  rw [show (dats m ρ 0 c).owed t₀.castSucc = O₀ c from rfl]
  iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iexists _
  isplitl [HΦ]; · iexact HΦ
  isplitl [HO]; · iexists W; iexact HO
  isplitr [H7]
  · isplitl [H0]; · iexact H0
    isplitl [H1]; · iexact H1
    isplitl [H2]; · iexact H2
    isplitl [H3]; · iexact H3
    isplitl [H4]; · iexact H4
    isplitl [H5] <;> iassumption
  iexact H7

theorem leave_post (c : Dev nD) : leave m c ⊢ bodyPost m ρ c := by
  unfold leave bodyPost Staged Owes Dat.owesAt Pipeline.owesWithin
  rw [show (dats m ρ 0 c).owed t₀.succ = 0 from rfl]
  iintro ⟨HΦ, ⟨%W, HO⟩, ⟨H0, H1, H2, H3, H4, H5, H6⟩, H7⟩
  isplitl [HΦ]; · iexact HΦ
  isplitl [HO]
  · iexists W; isplitr; · (ipureintro; exact fun _ _ => Or.inl trivial)
    iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

set_option maxRecDepth 4000 in
/-- The library's body obligation on a device. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) fun _ => bodyPost m ρ c
  refine (pre_start m ρ c).trans ?_
  iintro ⟨%o₀, H⟩
  iapply (((sound_body m c o₀).trans (wp_mono _ _ _ fun _ => leave_post m ρ c)))
  iexact H

end Cert.MlpProof

end
-- ==== Proof.Run.lean ====
/-
# The run

All 32 devices started together: their cells' records made under one update, then every device's body, to the arrays that
every execution ends with.
-/
module

public import proofs.«01_k».proof.Proof.Launch
public import Idealize.ShloMosaic.Lib.Pipeline.CollectiveSegs

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is minted, and made of it -/

abbrev osem : Fin 256 → SemLoc sig := fun k => .dma (xsem k.val)

theorem ownSemFacts : Pipeline.OwnSemFacts cfg0.spec osem where
  isScoped k := by
    have h : ∀ k : Fin 256, (SemLoc.dma (xsem k.val) : SemLoc sig).isScoped .tc = true := by decide
    exact h k
  inj k k' h := by
    have e := congrArg Fin.val (SemLoc.dma.inj h)
    rw [xsem_val k.isLt, xsem_val k'.isLt] at e
    exact Fin.ext (by omega)
  disj k w s h := by
    have e := congrArg Fin.val (SemLoc.dma.inj h)
    rw [xsem_val k.isLt] at e
    have : ((cfg0.spec w).sem s).val < 8 := by fin_cases w <;> fin_cases s <;> decide
    omega

theorem share_eq (c : Dev nD) (w : Fin cfg0.W) : (dats m ρ 0 c).share w = fullShare := by unfold Dat.share; split <;> rfl

def ringCells : Finset (GSem nD τ sig) := Finset.univ.map ⟨kcell, kcell_injective⟩
def ringToks : Finset (GSem nD τ sig × ℕ × ℕ) := Finset.univ.map ⟨tokOf, tokOf_injective⟩

/-- The ghost state everything starts from. -/
def u₀ : UU := (initOf (Pipeline.cells cfgs cellOf_inj) (Pipeline.launchToks cfgs cellOf_inj), initOf ringCells ringToks)

/-- A device's share of it. -/
def G (c : Dev nD) : sProp 𝕄 :=
  iprop((bigSep Finset.univ fun k : CK => roundState ER (Rd (ins m)) (kcell (c, k)) 0)
    ∗ ((bigSep Finset.univ fun k : CK => atPos ER (kcell (c, k)) 0 ∅ 0) ∗ (bigSep Finset.univ fun k : CK => reached ER (kcell (c, k)) 0)) ∗ ownToks c)

/-- A device's share once the records are made. -/
def G' (c : Dev nD) : sProp 𝕄 :=
  iprop((∃ K : Dev nD × CK → ℕ, bigSep Finset.univ fun ck => iprop(cellInv ER (Rd (ins m)) (K ck) (kcell ck) ∗ reached ER (kcell ck) 0)) ∗ posits c ∗ payToks c)

theorem over_cells (Φ : GSem nD τ sig → sProp 𝕄) : bigSep ringCells Φ = bigSep Finset.univ fun c : Dev nD => bigSep Finset.univ fun k : CK => Φ (kcell (c, k)) := by
  unfold ringCells; rw [bigSep_map, bigSep_univ_prod]; rfl

theorem over_toks : bigSep ringToks (fun x => (dutyTok ER x.1 x.2.1 x.2.2 : sProp 𝕄)) ⊢ bigSep Finset.univ fun c : Dev nD => ownToks c := by
  unfold ringToks; rw [bigSep_map, bigSep_univ_prod]
  exact bigSep_mono fun c _ => minted c

theorem fund_ring : BI.own (ER (initOf ringCells ringToks)) ⊢ (|==> bigSep Finset.univ (G m) : sProp 𝕄) := by
  iintro H
  imod (Rounds.fund ER (Rd (ins m)) ringCells ringToks) $$ H with ⟨Hst, Hr, Hat, Ht⟩
  imodintro
  ihave Hst := (Entails.of_eq (over_cells fun g => roundState ER (Rd (ins m)) g 0)) $$ Hst
  ihave Hat := (Entails.of_eq (over_cells fun g => atPos ER g 0 ∅ 0)) $$ Hat
  ihave Hr := (Entails.of_eq (over_cells fun g => reached ER g 0)) $$ Hr
  ihave Ht := over_toks $$ Ht
  unfold G; simp only [bigSep_sep']
  isplitl [Hst]; · iexact Hst
  isplitl [Hat Hr]
  · isplitl [Hat] <;> iassumption
  iexact Ht

/-- A device's cells are its 256 transfer cells and its barrier's. -/
theorem over_own (Φ : GSem nD τ sig → sProp 𝕄) (c : Dev nD) :
    (bigSep Finset.univ fun k : CK => Φ (kcell (c, k))) = iprop((run 0 256 fun n => Φ (xc c n)) ∗ Φ (bc c)) := by
  rw [bigSep_univ_sum, bigSep_univ_of_subsingleton (), ← fin_run 256 fun n => Φ (xc c n)]; rfl

theorem ownSems0_eq (c : Dev nD) : (Pipeline.ownSems0 (Ix := Unit) (Name := ℕ) (U := UU) (Lvl := ℕ) (Val := Elt F) (τ := τ) osem c : sProp 𝕄)
    = run 0 256 fun n => semVal (xc c n) 0 := by
  unfold Pipeline.ownSems0; rw [← fin_run 256 fun n => semVal (xc c n) 0]

theorem unscopedSems0_eq (c : Dev nD) : (unscopedSems0 c : sProp 𝕄) = semVal (bc c) 0 := by
  unfold unscopedSems0; rw [bigSep_eq_bigSepL_of_eq [SemLoc.reg barS] (by decide) (by decide)]; rfl

/-- A device's cells opened. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd (ins m)) κ (kcell (c, k))))
          ∗ ((bigSep Finset.univ fun k : CK => atPos ER (kcell (c, k)) 0 ∅ 0) ∗ (bigSep Finset.univ fun k : CK => reached ER (kcell (c, k)) 0)) ∗ ownToks c) := by
  have ha : iprop((bigSep Finset.univ fun k : CK => semVal (kcell (c, k)) 0) ∗ bigSep Finset.univ fun k : CK => roundState ER (Rd (ins m)) (kcell (c, k)) 0)
      ⊢ (|={Set.univ}=> bigSep Finset.univ fun k : CK => iprop(∃ κ : ℕ, cellInv ER (Rd (ins m)) κ (kcell (c, k))) : sProp 𝕄) := by
    rw [← bigSep_sep']
    exact (bigSep_mono fun k _ => (Rounds.body_intro ER (Rd (ins m)) (kcell (c, k))).trans inv_alloc).trans (bigSep_fupd _ _)
  rw [ownSems0_eq, unscopedSems0_eq]
  unfold G
  iintro ⟨Hx, Hb, Hst, Hrest⟩
  ihave Hv := (Entails.of_eq (over_own (F := F) (fun g => semVal g 0) c).symm) $$ [Hx Hb]
  · isplitl [Hx]; · iexact Hx
    iexact Hb
  imod ha $$ [Hv Hst] with Hinv
  · isplitl [Hv] <;> iassumption
  imodintro
  isplitl [Hinv] <;> iassumption

/-- Every device's cells open, everyone has all the records, and the rights go to the devices that pay. -/
theorem regroup :
    (bigSep Finset.univ fun c : Dev nD => iprop((bigSep Finset.univ fun k : CK => iprop(∃ κ : ℕ, cellInv ER (Rd (ins m)) κ (kcell (c, k))))
          ∗ ((bigSep Finset.univ fun k : CK => atPos ER (kcell (c, k)) 0 ∅ 0) ∗ (bigSep Finset.univ fun k : CK => reached ER (kcell (c, k)) 0)) ∗ ownToks c) : sProp 𝕄)
      ⊢ bigSep Finset.univ (G' m) := by
  rw [bigSep_sep', bigSep_sep', bigSep_sep', ← bigSep_univ_prod (fun ck : Dev nD × CK => iprop(∃ κ : ℕ, cellInv ER (Rd (ins m)) κ (kcell ck))),
    ← bigSep_univ_prod (fun ck : Dev nD × CK => (reached ER (kcell ck) 0 : sProp 𝕄))]
  iintro ⟨HI, ⟨Hat, #HR⟩, Ht⟩
  ihave HK := (BI.bigSep_exists_pi Finset.univ (fun (ck : Dev nD × CK) (κ : ℕ) => (cellInv ER (Rd (ins m)) κ (kcell ck) : sProp 𝕄))) $$ HI
  icases HK with ⟨%K, #HI⟩
  ihave Ht := (toks_around (F := F)) $$ Ht
  iapply (bigSep_with_persistent (R := bigSep Finset.univ fun ck => iprop(cellInv ER (Rd (ins m)) (K ck) (kcell ck) ∗ reached ER (kcell ck) 0))
    (Φ := fun c => iprop((bigSep Finset.univ fun k : CK => atPos ER (kcell (c, k)) 0 ∅ 0) ∗ payToks c)) fun c _ => (by
      unfold G' posits
      iintro ⟨H, Hat, Ht⟩
      ihave Hat := (Entails.of_eq (over_own (F := F) (fun g => atPos ER g 0 ∅ 0) c)) $$ Hat
      isplitl [H]; · iexists K; iexact H
      isplitl [Hat] <;> iassumption))
  rw [bigSep_sep', bigSep_sep']
  isplitr
  · isplitl; · iexact HI
    iexact HR
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' Rec
  iintro ⟨-, Hl, Hcr, -, ⟨%K, HG⟩, Hpos, Ht⟩
  ihave Hc := (creds_intro (F := F) c) $$ Hcr
  imodintro
  isplitl
  · isplitl [HG Hl]
    · iexists K; isplitl [HG] <;> iassumption
    isplitl [Hpos]; · iexact Hpos
    isplitl [Ht] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, ownSems0_eq, unscopedSems0_eq]
  unfold Φ₁
  iintro ⟨⟨Hx, Hb⟩, Hr⟩
  isplitl [Hb]; · iexact Hb
  isplitl [Hx] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ 0 _ (by fin_cases w <;> fin_cases s <;> exact Nat.le_refl 0) (by
      rcases t with ⟨_ | _, ht⟩
      · exact above_add (above_debt c (by omega)) (above_owB c 1 32)
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every execution ends, with every array at its final contents and every semaphore at zero. -/
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array ends as it began. -/
theorem final_in (c : Dev nD) (w : Fin 8) (hw : w ≠ 7) : finalA m ρ c w = m ((cfg0.win w).arr.view.loc (c : Thread nD τ)) :=
  (dats m ρ 0 c).arrAt_in w (by fin_cases w <;> first | rfl | exact absurd rfl hw) _

/-- The result's array ends at the last layer's sum. -/
theorem final_out (c : Dev nD) : finalA m ρ c (7 : Fin 8) = Acc (ins m) 2 c 4 := by
  have hz : (fun a => win0_7.index (0 : Fin 1) a * main_v1.ty.shape.size a) = fun _ => 0 := funext fun a => by fin_cases a <;> decide
  have h : (win0_7.blk (0 : Fin 1)).view.read (Elt F) (finalA m ρ c (7 : Fin 8)) = Acc (ins m) 2 c 4 := by
    unfold finalA
    rw [show cfg0.N = ((0 : Fin 1) : Fin cfg0.N).val + 1 from rfl, (dats m ρ 0 c).arrAt_succ (7 : Fin 8) (0 : Fin 1)]
    rw [if_pos (flush0_7 (0 : Fin 1))]
    exact View.read_write_univ _ _
  exact (Memref.read_access_unit_zero (Elt F) main_v1 hz (fun a => by fin_cases a <;> decide) _).symm.trans h

/-- Every execution ends, each device's result the last layer's sum, its arguments as they were, every semaphore at zero. -/
theorem run_main : θ_run defs (onTc (τ := τ) (main (F := F))) ⟨m, fun _ => 0, ρ⟩ (fun r => (∀ c : Dev nD,
      r.2.mem ((c : Thread nD τ).loc main_v1) = Acc (ins m) 2 c 4
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) :=
  (θ_run _ _ _).mono (fun r h => by
    refine ⟨fun c => ?_, h.2⟩
    have hi : ∀ w : Fin 8, w ≠ 7 → r.2.mem ((cfg0.win w).arr.view.loc (c : Thread nD τ)) = m ((cfg0.win w).arr.view.loc (c : Thread nD τ)) :=
      fun w hw => (h.1 c w).trans (final_in m ρ c w hw)
    exact ⟨(h.1 c (7 : Fin 8)).trans (final_out m ρ c), hi 0 (by decide), hi 1 (by decide), hi 3 (by decide), hi 5 (by decide), hi 2 (by decide), hi 4 (by decide), hi 6 (by decide)⟩)
    (run_all m ρ)

end Cert.MlpProof

end
-- ==== Proof.Value.lean ====
/-
# One layer over the extended reals

Over the extended reals a device's running sum at the end of a layer is, entry by entry, the sum over all 32 devices of
what each device's weight slices make of that row: a sum over the whole hidden width, in blocks of 512.
-/
module

public import proofs.«01_k».proof.Proof.Contents
public import Idealize.ShloMosaic.Lib.MatmulPlain
public import Idealize.ShloMosaic.Lib.IdealHost

@[expose] public section

noncomputable section

namespace Cert.MlpProof

open Cert.KernelIdeal Cert.KernelIdeal.Gen
open Idealize.ShloMosaic Idealize.ShloMosaic.TcCoe
open Idealize.ShloMosaic.ValueIdx
open scoped BigOperators

/-! ## One device's products -/

/-- A row `u` through a slice of the first weights, its positive part through a slice of the second, at column `q`. -/
def term (wi : Vec Ideal S256x512 .bf16) (wo : Vec Ideal S512x256 .bf16) (u : Fin 256 → EReal) (q : Fin 256) : EReal :=
  ∑ k : Fin 512, max (∑ i : Fin 256, u i * (wi (ix2 i k) : EReal)) 0 * (wo (ix2 k q) : EReal)

theorem hid_apply (wi : FVec Ideal S256x512 .bf16) (v : FVec Ideal S2048x256 .bf16) (r : Fin 2048) (k : Fin 512) :
    (hid wi v (ix2 r k) : EReal) = ∑ i : Fin 256, (v (ix2 r i) : EReal) * (wi (ix2 i k) : EReal) := by
  refine (Ideal.matmul_plain_apply (M := 2048) (K := 256) (N := 512) none v wi _ r k).trans ?_
  show Ideal.ofBits .f32 0x00000000#32 + _ = _
  rw [Ideal.ofBits_zero_f32, zero_add]

theorem fin_apply (wo : FVec Ideal S512x256 .bf16) (h : FVec Ideal S2048x512 .f32) (r : Fin 2048) (q : Fin 256) :
    (fin wo h (ix2 r q) : EReal) = ∑ k : Fin 512, max (h (ix2 r k) : EReal) 0 * (wo (ix2 k q) : EReal) := by
  refine (Ideal.matmul_plain_apply (M := 2048) (K := 512) (N := 256) none _ wo _ r q).trans ?_
  show Ideal.ofBits .f32 0x00000000#32 + ∑ k : Fin 512, max (h (ix2 r k) : EReal) (Ideal.ofBits .f32 0x00000000#32) * (wo (ix2 k q) : EReal) = _
  rw [Ideal.ofBits_zero_f32, zero_add]

theorem gout_apply (wi : FVec Ideal S256x512 .bf16) (wo : FVec Ideal S512x256 .bf16) (v : FVec Ideal S2048x256 .bf16) (r : Fin 2048) (q : Fin 256) :
    (gout wi wo v (ix2 r q) : EReal) = term wi wo (fun i => v (ix2 r i)) q :=
  (fin_apply wo (hid wi v) r q).trans (Finset.sum_congr rfl fun k _ => by rw [hid_apply])

theorem top_apply (v : FVec Ideal S2048x256 .f32) (r q : Fin 256) : (top v (ix2 r q) : EReal) = v (ix2 ⟨r.val, by omega⟩ q) :=
  extractStridedSlice_apply ![0, 0] v _ (ix2 r q) (ix2 ⟨r.val, by omega⟩ q) fun a => match a with
    | ⟨0, _⟩ => (Nat.zero_add _).symm
    | ⟨1, _⟩ => (Nat.zero_add _).symm

/-! ## Received blocks added on -/

theorem add7_apply (a : FVec Ideal S256x256 .f32) (v : FVec Ideal S1792x256 .bf16) (r q : Fin 256) :
    (add7 a v (ix2 r q) : EReal) = a (ix2 r q) + ∑ s : Fin 7, (v (ix2 ⟨256 * s.val + r.val, by omega⟩ q) : EReal) := by
  show (a (ix2 r q) : EReal) + _ = _
  refine congrArg (fun z : EReal => (a (ix2 r q) : EReal) + z) ?_
  refine (Ideal.multiReduction_add_single _ _ _ _ _ _).trans (Finset.sum_congr rfl fun s _ => ?_)
  refine shapeCast_apply v _ _ (ix2 ⟨256 * s.val + r.val, by have h : s.val < 7 := s.isLt; omega⟩ q) ?_
  rw [Shape.rowMajor_val_two, Shape.rowMajor_val_three]
  show (256 * s.val + r.val) * 256 + q.val = (s.val * 256 + r.val) * 256 + q.val
  omega

theorem add8_apply (a : FVec Ideal S256x256 .f32) (v : FVec Ideal S2048x256 .bf16) (r q : Fin 256) :
    (add8 a v (ix2 r q) : EReal) = a (ix2 r q) + ∑ s : Fin 8, (v (ix2 ⟨256 * s.val + r.val, by omega⟩ q) : EReal) := by
  show (a (ix2 r q) : EReal) + _ = _
  refine congrArg (fun z : EReal => (a (ix2 r q) : EReal) + z) ?_
  refine (Ideal.multiReduction_add_single _ _ _ _ _ _).trans (Finset.sum_congr rfl fun s _ => ?_)
  refine shapeCast_apply v _ _ (ix2 ⟨256 * s.val + r.val, by have h : s.val < 8 := s.isLt; omega⟩ q) ?_
  rw [Shape.rowMajor_val_two, Shape.rowMajor_val_three]
  show (256 * s.val + r.val) * 256 + q.val = (s.val * 256 + r.val) * 256 + q.val
  omega

/-! ## The running sum -/

section Layer
variable (wi : Dev nD → Vec Ideal S256x512 .bf16) (wo : Dev nD → Vec Ideal S512x256 .bf16) (x : Dev nD → Vec Ideal S256x256 .bf16)

/-- The rows of one of the 32 slots of the collected activations. -/
theorem layXF_apply (c : Dev nD) (s : ℕ) (hs : s < 32) (r q : Fin 256) :
    layXF x c (elt (256 * s + r.val) q) = x (peer c s) (ix2 r q) :=
  glue_elt 256 (by decide) (fun k => x (peer c k)) s (by omega) (ix2 r q)

/-- The rows of one of the 32 slots of a device's products. -/
theorem layPT_apply (c : Dev nD) (s : ℕ) (hs : s < 32) (r q : Fin 256) :
    (layPT wi wo x c (elt (256 * s + r.val) q) : EReal) = term (wi c) (wo c) (fun i => x (peer c s) (ix2 r i)) q := by
  have e : 256 * s + r.val = 2048 * (s / 8) + (256 * (s % 8) + r.val) := by omega
  have h8 : 256 * (s % 8) + r.val < 2048 := by omega
  rw [e]
  refine (glue_elt 2048 (by decide) (fun g => goutb (wi c) (wo c) (cut 2048 (2048 * g) (layXF x c))) (s / 8) (by omega)
    (ix2 (⟨256 * (s % 8) + r.val, h8⟩ : Fin 2048) q)).trans ?_
  refine (gout_apply (wi c) (wo c) (cut 2048 (2048 * (s / 8)) (layXF x c)) ⟨_, h8⟩ q).trans ?_
  refine congrArg (fun u => term (wi c) (wo c) u q) (funext fun i => ?_)
  show layXF x c (elt (2048 * (s / 8) + (256 * (s % 8) + r.val)) i) = _
  rw [← e]; exact layXF_apply x c s hs r i

/-- What device `c` receives in slot `k` is that device's share of `c`'s own rows. -/
theorem layRS_apply (c : Dev nD) (k : ℕ) (h0 : 0 < k) (hk : k < 32) (r q : Fin 256) :
    (layRS wi wo x c (elt (256 * k + r.val) q) : EReal) = term (wi (peer c k)) (wo (peer c k)) (fun i => x c (ix2 r i)) q := by
  refine (glue_elt 256 (by decide) (fun k => cut 256 (256 * (32 - k)) (layPT wi wo x (peer c k))) k (by omega) (ix2 r q)).trans ?_
  refine (layPT_apply wi wo x (peer c k) (32 - k) (by omega) r q).trans ?_
  rw [peer_back c (by omega)]

/-- The share of the device `k` places further in row `r`, column `q`. -/
def share (c : Dev nD) (r q : Fin 256) (k : ℕ) : EReal := term (wi (peer c k)) (wo (peer c k)) (fun i => x c (ix2 r i)) q

theorem layA_zero (c : Dev nD) (r q : Fin 256) : (layA wi wo x c 0 (ix2 r q) : EReal) = share wi wo x c r q 0 := by
  refine (top_apply _ r q).trans ((gout_apply _ _ _ _ q).trans ?_)
  unfold share
  rw [peer_zero]
  refine congrArg (fun u => term (wi c) (wo c) u q) (funext fun i => ?_)
  have h := layXF_apply x c 0 (by decide) r i
  rw [peer_zero] at h; exact h

theorem layA_one (c : Dev nD) (r q : Fin 256) :
    (layA wi wo x c 1 (ix2 r q) : EReal) = ∑ k ∈ Finset.range 8, share wi wo x c r q k := by
  refine (add7_apply _ _ r q).trans ?_
  rw [layA_zero, Finset.sum_range_succ', add_comm, ← Fin.sum_univ_eq_sum_range]
  refine congrArg (fun z : EReal => z + share wi wo x c r q 0) (Finset.sum_congr rfl fun s _ => ?_)
  have e : 256 + (256 * s.val + r.val) = 256 * (s.val + 1) + r.val := by omega
  show layRS wi wo x c (elt (256 + (256 * s.val + r.val)) q) = _
  rw [e]; exact layRS_apply wi wo x c (s.val + 1) (by omega) (by omega) r q

theorem layA_add (c : Dev nD) (r q : Fin 256) : ∀ n, n < 4 →
    (layA wi wo x c (n + 1) (ix2 r q) : EReal) = ∑ k ∈ Finset.range (8 * (n + 1)), share wi wo x c r q k
  | 0, _ => layA_one wi wo x c r q
  | n + 1, h => by
    refine (add8_apply _ _ r q).trans ?_
    rw [layA_add c r q n (by omega), show 8 * (n + 1 + 1) = 8 * (n + 1) + 8 from rfl, Finset.sum_range_add,
      ← Fin.sum_univ_eq_sum_range (fun k => share wi wo x c r q (8 * (n + 1) + k)) 8]
    refine congrArg (fun z : EReal => _ + z) (Finset.sum_congr rfl fun s _ => ?_)
    have e : 2048 * (n + 1) + (256 * s.val + r.val) = 256 * (8 * (n + 1) + s.val) + r.val := by omega
    show layRS wi wo x c (elt (2048 * (n + 1) + (256 * s.val + r.val)) q) = _
    rw [e]; exact layRS_apply wi wo x c (8 * (n + 1) + s.val) (by omega) (by omega) r q

/-- Going round from any device meets each of the 32 once. -/
theorem sum_peer (c : Dev nD) (f : Dev nD → EReal) : ∑ k ∈ Finset.range 32, f (peer c k) = ∑ d : Dev nD, f d := by
  rw [← Fin.sum_univ_eq_sum_range (fun k => f (peer c k)) 32]
  refine Function.Bijective.sum_comp (e := fun k : Fin 32 => peer c k.val) ?_ f
  refine (Finite.injective_iff_bijective).1 fun a b h => Fin.ext ?_
  have h' : (c.val + a.val) % 32 = (c.val + b.val) % 32 := congrArg Fin.val h
  have hc : c.val < 32 := c.isLt
  omega

/-- The running sum at the end is the sum of all devices' shares. -/
theorem layA_all (c : Dev nD) (r q : Fin 256) :
    (layA wi wo x c 4 (ix2 r q) : EReal) = ∑ d : Dev nD, term (wi d) (wo d) (fun i => x c (ix2 r i)) q :=
  (layA_add wi wo x c r q 3 (by decide)).trans (sum_peer c fun d => term (wi d) (wo d) (fun i => x c (ix2 r i)) q)

end Layer

/-! ## The weights in one piece -/

/-- A sum over the 16384 hidden units, in 32 blocks of 512. -/
theorem sum_blocks (f : Fin 16384 → EReal) :
    ∑ K : Fin 16384, f K = ∑ d : Fin 32, ∑ k : Fin 512, f ⟨d.val * 512 + k.val, by omega⟩ := by
  rw [← Fintype.sum_prod_type', ← Equiv.sum_comp (finProdFinEquiv (m := 32) (n := 512)) f]
  refine Finset.sum_congr rfl fun p _ => congrArg f (Fin.ext ?_)
  show p.2.val + 512 * p.1.val = p.1.val * 512 + p.2.val
  omega

/-- The devices' shares, their slices cut from whole weights, add up to the sum over the whole hidden width. -/
theorem sum_term (Wi : (⟨2, ![256, 16384]⟩ : Shape).Idx → EReal) (Wo : (⟨2, ![16384, 256]⟩ : Shape).Idx → EReal)
    (u : Fin 256 → EReal) (q : Fin 256) :
    (∑ d : Dev nD, term (Layout.block ⟨2, ![256, 512]⟩ ⟨2, ![256, 16384]⟩ 1 32 d Wi) (Layout.block ⟨2, ![512, 256]⟩ ⟨2, ![16384, 256]⟩ 0 32 d Wo) u q)
      = ∑ K : Fin 16384, max (∑ i : Fin 256, u i * Wi (ix2 i K)) 0 * Wo (ix2 K q) := by
  rw [sum_blocks]
  refine Finset.sum_congr rfl fun d _ => Finset.sum_congr rfl fun k _ => ?_
  have hd : d.val < 32 := d.isLt
  have hi : ∀ i : Fin 256, (Layout.block ⟨2, ![256, 512]⟩ ⟨2, ![256, 16384]⟩ 1 32 d Wi : _ → EReal) (ix2 i k)
      = Wi (ix2 i (⟨d.val * 512 + k.val, by omega⟩ : Fin 16384)) := fun i =>
    congrArg Wi (funext fun a => match a with | ⟨0, _⟩ => rfl | ⟨1, _⟩ => rfl)
  have ho : (Layout.block ⟨2, ![512, 256]⟩ ⟨2, ![16384, 256]⟩ 0 32 d Wo : _ → EReal) (ix2 k q)
      = Wo (ix2 (⟨d.val * 512 + k.val, by omega⟩ : Fin 16384) q) :=
    congrArg Wo (funext fun a => match a with | ⟨0, _⟩ => rfl | ⟨1, _⟩ => rfl)
  exact congrArg₂ (fun a b : EReal => max a 0 * b) (Finset.sum_congr rfl fun i _ => congrArg (u i * ·) (hi i)) ho

end Cert.MlpProof

end
-- ==== Proof.Match.lean ====
/-
# The kernel's result is the reference's, cut into the devices' blocks

A layer of the reference over the extended reals, entry by entry, and the same of the kernel's: if the activations a
layer starts from are the blocks of the reference's, so are the ones it ends with. Three layers of it are the result.
-/
module

public import proofs.«01_k».proof.Proof.Value
public import proofs.«01_k».proof.Proof.Gen.ReferenceIdeal
public import Idealize.ShloMosaic.Lib.StackMember

@[expose] public section

noncomputable section

namespace Cert.MlpProof

open Idealize.ShloMosaic Idealize.ShloMosaic.TcCoe
open Idealize.ShloMosaic.ValueIdx
open Idealize.ShloMosaic.StackMember (dotGeneral_plain_apply)
open Cert.KernelIdeal (nD)
open scoped BigOperators

/-! ## A layer of the reference -/

abbrev Acts : Type := FVec Ideal ⟨2, ![8192, 256]⟩ .bf16
abbrev WIn : Type := FVec Ideal ⟨2, ![256, 16384]⟩ .bf16
abbrev WOut : Type := FVec Ideal ⟨2, ![16384, 256]⟩ .bf16

/-- The reference's layer before its rounding: the whole product, its positive part, the whole second product. -/
def refSum (V : Acts) (Wi : WIn) (Wo : WOut) : FVec Ideal ⟨2, ![8192, 256]⟩ .f32 :=
  Host.dotGeneral Cert.ReferenceIdeal.dot_S8192x16384_S16384x256_S8192x256_1_0_0_1_n_n none
    (maximumf (truncf .bf16 (Host.dotGeneral Cert.ReferenceIdeal.dot_S8192x256_S256x16384_S8192x16384_1_0_0_1_n_n none V Wi)
        Cert.ReferenceIdeal.Facts₀.bitsLt_bf16_f32)
      (broadcastInDim Cert.ReferenceIdeal.S8192x16384 ![] Cert.ReferenceIdeal.Facts₀.bcast_S_S8192x16384 (constant Cert.ReferenceIdeal.S_ .bf16 0x0000#16)))
    Wo
/-- The reference's layer. -/
def refLayer (V : Acts) (Wi : WIn) (Wo : WOut) : Acts := truncf .bf16 (refSum V Wi Wo) Cert.ReferenceIdeal.Facts₀.bitsLt_bf16_f32

theorem refSum_apply (V : Acts) (Wi : WIn) (Wo : WOut) (r : Fin 8192) (q : Fin 256) :
    (refSum V Wi Wo (ix2 r q) : EReal)
      = ∑ K : Fin 16384, max (∑ i : Fin 256, (V (ix2 r i) : EReal) * (Wi (ix2 i K) : EReal)) 0 * (Wo (ix2 K q) : EReal) := by
  refine (dotGeneral_plain_apply (m := 8192) (k := 16384) (n := 256) none _ Wo r q).trans (Finset.sum_congr rfl fun K _ => ?_)
  show max (Host.dotGeneral (DotDims.plain 8192 256 16384) none V Wi (ix2 r K) : EReal) (Ideal.ofBits .bf16 0x0000#16) * (Wo (ix2 K q) : EReal) = _
  rw [dotGeneral_plain_apply, Ideal.ofBits_zero_bf16]

/-! ## A layer of the kernel is its blocks -/

/-- Block `c` of an array of 8192 rows. -/
abbrev blk {α : Type} (c : Dev nD) (v : (⟨2, ![8192, 256]⟩ : Shape).Idx → α) : (⟨2, ![256, 256]⟩ : Shape).Idx → α :=
  Layout.block ⟨2, ![256, 256]⟩ ⟨2, ![8192, 256]⟩ 0 32 c v
/-- Device `c`'s columns of a layer's first weights. -/
abbrev cols (c : Dev nD) (W : WIn) : (⟨2, ![256, 512]⟩ : Shape).Idx → EReal :=
  Layout.block ⟨2, ![256, 512]⟩ ⟨2, ![256, 16384]⟩ 1 32 c W
/-- Device `c`'s rows of a layer's second weights. -/
abbrev lows (c : Dev nD) (W : WOut) : (⟨2, ![512, 256]⟩ : Shape).Idx → EReal :=
  Layout.block ⟨2, ![512, 256]⟩ ⟨2, ![16384, 256]⟩ 0 32 c W

theorem blk_apply {α : Type} (c : Dev nD) (v : (⟨2, ![8192, 256]⟩ : Shape).Idx → α) (r q : Fin 256) :
    blk c v (ix2 r q) = v (ix2 ⟨c.val * 256 + r.val, by have h : c.val < 32 := c.isLt; omega⟩ q) :=
  congrArg v (funext fun a => match a with | ⟨0, _⟩ => rfl | ⟨1, _⟩ => rfl)

theorem layA_refSum (V : Acts) (Wi : WIn) (Wo : WOut) (c : Dev nD) :
    layA (F := Ideal) (fun d => cols d Wi) (fun d => lows d Wo) (fun d => blk d V) c 4 = blk c (refSum V Wi Wo) := by
  funext j
  obtain ⟨r, q, rfl⟩ : ∃ r q, j = ix2 r q := ⟨j 0, j 1, eq_ix2 j⟩
  refine (layA_all (fun d => cols d Wi) (fun d => lows d Wo) (fun d => blk d V) c r q).trans ?_
  refine (sum_term Wi Wo (fun i => blk c V (ix2 r i)) q).trans ?_
  refine Eq.trans ?_ (blk_apply c (refSum V Wi Wo) r q).symm
  rw [refSum_apply]
  refine Finset.sum_congr rfl fun K _ => ?_
  simp only [blk_apply]

/-! ## The three layers -/

variable (I : Ins Ideal)

/-- A layer's activations one further on, as blocks of the reference's. -/
theorem Acc_ref (l : ℕ) (V : Acts) (Wi : WIn) (Wo : WOut) (hi : I.wi l = fun d => cols d Wi) (ho : I.wo l = fun d => lows d Wo)
    (hx : X I l = fun d => blk d V) (c : Dev nD) : Acc I l c 4 = blk c (refSum V Wi Wo) := by
  unfold Acc
  rw [hi, ho, hx]; exact layA_refSum V Wi Wo c

theorem X_ref (l : ℕ) (V : Acts) (Wi : WIn) (Wo : WOut) (hi : I.wi l = fun d => cols d Wi) (ho : I.wo l = fun d => lows d Wo)
    (hx : X I l = fun d => blk d V) : X I (l + 1) = fun d => blk d (refLayer V Wi Wo) :=
  funext fun c => (congrArg rnd (Acc_ref I l V Wi Wo hi ho hx c)).trans rfl

/-- The kernel's result on device `c` is block `c` of the reference's. -/
theorem result_ref (V : Acts) (Wi₀ Wi₁ Wi₂ : WIn) (Wo₀ Wo₁ Wo₂ : WOut) (hx : I.x = fun d => blk d V)
    (hi₀ : I.wi 0 = fun d => cols d Wi₀) (hi₁ : I.wi 1 = fun d => cols d Wi₁) (hi₂ : I.wi 2 = fun d => cols d Wi₂)
    (ho₀ : I.wo 0 = fun d => lows d Wo₀) (ho₁ : I.wo 1 = fun d => lows d Wo₁) (ho₂ : I.wo 2 = fun d => lows d Wo₂) (c : Dev nD) :
    Acc I 2 c 4 = blk c (extf .f32 (refLayer (refLayer (refLayer V Wi₀ Wo₀) Wi₁ Wo₁) Wi₂ Wo₂) Cert.ReferenceIdeal.Facts₀.bitsLt_bf16_f32) :=
  Acc_ref I 2 _ Wi₂ Wo₂ hi₂ ho₂ (X_ref I 1 _ Wi₁ Wo₁ hi₁ ho₁ (X_ref I 0 V Wi₀ Wo₀ hi₀ ho₀ hx)) c

end Cert.MlpProof

end
-- ==== Proof.lean ====
/-
# A three-layer perceptron over 32 devices

The claims, from the kernel's run and the reference's.
-/
module

public import proofs.«01_k».proof.Defs
public import proofs.«01_k».proof.Proof.Run
public import proofs.«01_k».proof.Proof.Match
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-! ## The printed kernel and the one read over the extended reals are the same text -/

theorem body_same : @Cert.Kernel.cc0_body Bits _ _ = @Cert.KernelIdeal.cc0_body Bits _ _ := rfl

theorem labels_same : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | 0, (t, s) => dsimp only; rw [body_same]
  | ⟨_ + 1, h⟩, _ => exact absurd h (Nat.not_lt.2 (Nat.le_add_left _ _))

theorem defs_same : Cert.Kernel.defs (F := Bits) = Cert.KernelIdeal.defs (F := Bits) := by
  unfold Cert.Kernel.defs Cert.KernelIdeal.defs
  rw [labels_same]; rfl

/-! ## The frames -/

/-- The kernel as printed runs, its arguments as they were and its semaphores back at zero. -/
theorem frame_kernel : Cert.quiescent_Kernel := fun m ρ _ => by
  rw [defs_same]
  exact (θ_run (Cert.KernelIdeal.defs (F := Bits)) _ _).mono (fun _ h => ⟨fun c => (h.1 c).2, h.2⟩) (MlpProof.run_main (F := Bits) m ρ)

/-- So does it over the extended reals. -/
theorem frame_ideal : Cert.quiescent_KernelIdeal := fun m ρ _ =>
  (θ_run Cert.KernelIdeal.defs _ _).mono (fun _ h => ⟨fun c => (h.1 c).2, h.2⟩) (MlpProof.run_main (F := Ideal) m ρ)

/-- The reference runs, its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-! ## The value -/

/-- Over the extended reals, from blocks of the reference's arguments, every device's result is its block of the
reference's result. -/
theorem value : Cert.algebraic_KernelIdeal_ReferenceIdeal := fun m g m' g' _ hm =>
  ⟨_, (θ_run Cert.KernelIdeal.defs _ _).mono
      (fun _ h c => ⟨((h.1 c).1).trans (MlpProof.result_ref (MlpProof.ins m) _ _ _ _ _ _ _
          (funext fun d => (hm d).1) (funext fun d => (hm d).2.1) (funext fun d => (hm d).2.2.1) (funext fun d => (hm d).2.2.2.1)
          (funext fun d => (hm d).2.2.2.2.1) (funext fun d => (hm d).2.2.2.2.2.1) (funext fun d => (hm d).2.2.2.2.2.2) c), (h.1 c).2⟩)
      (MlpProof.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
